-- ==== Defs.lean ====
def Pre_Swa (m : (ℓ : Loc Cert.Swa.nD Cert.Swa.τ Cert.Swa.sig) → Buf (Elt Bits) ℓ) : Prop :=
  True

def Pre_SwaIdeal (m : (ℓ : Loc Cert.SwaIdeal.nD Cert.SwaIdeal.τ Cert.SwaIdeal.sig) → Buf (Elt Ideal) ℓ) : Prop :=
  True

def Pre_SwaIdeal_finite_queries_keys_sinks [hPre_finite_queries_keys_sinks : Cert.Pre_finite_queries_keys_sinks.Facts] (m : (ℓ : Loc Cert.SwaIdeal.nD Cert.SwaIdeal.τ Cert.SwaIdeal.sig) → Buf (Elt Ideal) ℓ) : Prop :=
  ∀ c : Dev Cert.SwaIdeal.nD,
    (Cert.Pre_finite_queries_keys_sinks.fn (F := Ideal) (m ((c.tc : Thread Cert.SwaIdeal.nD Cert.SwaIdeal.τ).loc Cert.SwaIdeal.main_arg0)) (m ((c.tc : Thread Cert.SwaIdeal.nD Cert.SwaIdeal.τ).loc Cert.SwaIdeal.main_arg1))).1 = (fun _ => 1#1)
    ∧ (Cert.Pre_finite_queries_keys_sinks.fn (F := Ideal) (m ((c.tc : Thread Cert.SwaIdeal.nD Cert.SwaIdeal.τ).loc Cert.SwaIdeal.main_arg0)) (m ((c.tc : Thread Cert.SwaIdeal.nD Cert.SwaIdeal.τ).loc Cert.SwaIdeal.main_arg1))).2 = (fun _ => 1#1)

def Pre_SwaRefIdeal (m : (ℓ : Loc Cert.SwaRefIdeal.nD Cert.SwaRefIdeal.τ Cert.SwaRefIdeal.sig) → Buf (Elt Ideal) ℓ) : Prop :=
  True

def Pre_SwaRefIdeal_finite_queries_keys_sinks [hPre_finite_queries_keys_sinks : Cert.Pre_finite_queries_keys_sinks.Facts] (m : (ℓ : Loc Cert.SwaRefIdeal.nD Cert.SwaRefIdeal.τ Cert.SwaRefIdeal.sig) → Buf (Elt Ideal) ℓ) : Prop :=
  ∀ c : Dev Cert.SwaRefIdeal.nD,
    (Cert.Pre_finite_queries_keys_sinks.fn (F := Ideal) (m ((c.tc : Thread Cert.SwaRefIdeal.nD Cert.SwaRefIdeal.τ).loc Cert.SwaRefIdeal.main_arg0)) (m ((c.tc : Thread Cert.SwaRefIdeal.nD Cert.SwaRefIdeal.τ).loc Cert.SwaRefIdeal.main_arg1))).1 = (fun _ => 1#1)
    ∧ (Cert.Pre_finite_queries_keys_sinks.fn (F := Ideal) (m ((c.tc : Thread Cert.SwaRefIdeal.nD Cert.SwaRefIdeal.τ).loc Cert.SwaRefIdeal.main_arg0)) (m ((c.tc : Thread Cert.SwaRefIdeal.nD Cert.SwaRefIdeal.τ).loc Cert.SwaRefIdeal.main_arg1))).2 = (fun _ => 1#1)

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def Pre_FfnOut (m : (ℓ : Loc Cert.FfnOut.nD Cert.FfnOut.τ Cert.FfnOut.sig) → Buf (Elt Bits) ℓ) : Prop :=
  True

def Pre_FfnOutIdeal (m : (ℓ : Loc Cert.FfnOutIdeal.nD Cert.FfnOutIdeal.τ Cert.FfnOutIdeal.sig) → Buf (Elt Ideal) ℓ) : Prop :=
  True

def Pre_FfnOutRefIdeal (m : (ℓ : Loc Cert.FfnOutRefIdeal.nD Cert.FfnOutRefIdeal.τ Cert.FfnOutRefIdeal.sig) → Buf (Elt Ideal) ℓ) : Prop :=
  True

def quiescent_Swa [hSwa : Cert.Swa.Facts] : Prop :=
  ∀ (m : (ℓ : Loc Cert.Swa.nD Cert.Swa.τ Cert.Swa.sig) → Buf (Elt Bits) ℓ) (g : Dev Cert.Swa.nD → PrngReg), Pre_Swa m →
    θ_run (Cert.Swa.defs (F := Bits)) (onTc (τ := Cert.Swa.τ) (Cert.Swa.main (F := Bits))) ⟨m, fun _ => 0, g⟩ (fun r => (∀ c : Dev Cert.Swa.nD,
      r.2.mem ((c.tc : Thread Cert.Swa.nD Cert.Swa.τ).loc Cert.Swa.main_arg0) = m ((c.tc : Thread Cert.Swa.nD Cert.Swa.τ).loc Cert.Swa.main_arg0)
      ∧ r.2.mem ((c.tc : Thread Cert.Swa.nD Cert.Swa.τ).loc Cert.Swa.main_arg1) = m ((c.tc : Thread Cert.Swa.nD Cert.Swa.τ).loc Cert.Swa.main_arg1))
      ∧ r.2.sem = fun _ => 0)

def quiescent_SwaIdeal [hSwaIdeal : Cert.SwaIdeal.Facts] : Prop :=
  ∀ (m : (ℓ : Loc Cert.SwaIdeal.nD Cert.SwaIdeal.τ Cert.SwaIdeal.sig) → Buf (Elt Ideal) ℓ) (g : Dev Cert.SwaIdeal.nD → PrngReg), Pre_SwaIdeal m →
    θ_run (Cert.SwaIdeal.defs (F := Ideal)) (onTc (τ := Cert.SwaIdeal.τ) (Cert.SwaIdeal.main (F := Ideal))) ⟨m, fun _ => 0, g⟩ (fun r => (∀ c : Dev Cert.SwaIdeal.nD,
      r.2.mem ((c.tc : Thread Cert.SwaIdeal.nD Cert.SwaIdeal.τ).loc Cert.SwaIdeal.main_arg0) = m ((c.tc : Thread Cert.SwaIdeal.nD Cert.SwaIdeal.τ).loc Cert.SwaIdeal.main_arg0)
      ∧ r.2.mem ((c.tc : Thread Cert.SwaIdeal.nD Cert.SwaIdeal.τ).loc Cert.SwaIdeal.main_arg1) = m ((c.tc : Thread Cert.SwaIdeal.nD Cert.SwaIdeal.τ).loc Cert.SwaIdeal.main_arg1))
      ∧ r.2.sem = fun _ => 0)

def quiescent_SwaIdeal_pre_finite_queries_keys_sinks [hSwaIdeal : Cert.SwaIdeal.Facts] [hPre_finite_queries_keys_sinks : Cert.Pre_finite_queries_keys_sinks.Facts] : Prop :=
  ∀ (m : (ℓ : Loc Cert.SwaIdeal.nD Cert.SwaIdeal.τ Cert.SwaIdeal.sig) → Buf (Elt Ideal) ℓ) (g : Dev Cert.SwaIdeal.nD → PrngReg), Pre_SwaIdeal_finite_queries_keys_sinks m →
    θ_run (Cert.SwaIdeal.defs (F := Ideal)) (onTc (τ := Cert.SwaIdeal.τ) (Cert.SwaIdeal.main (F := Ideal))) ⟨m, fun _ => 0, g⟩ (fun r => (∀ c : Dev Cert.SwaIdeal.nD,
      r.2.mem ((c.tc : Thread Cert.SwaIdeal.nD Cert.SwaIdeal.τ).loc Cert.SwaIdeal.main_arg0) = m ((c.tc : Thread Cert.SwaIdeal.nD Cert.SwaIdeal.τ).loc Cert.SwaIdeal.main_arg0)
      ∧ r.2.mem ((c.tc : Thread Cert.SwaIdeal.nD Cert.SwaIdeal.τ).loc Cert.SwaIdeal.main_arg1) = m ((c.tc : Thread Cert.SwaIdeal.nD Cert.SwaIdeal.τ).loc Cert.SwaIdeal.main_arg1))
      ∧ r.2.sem = fun _ => 0)

def quiescent_SwaRefIdeal [hSwaRefIdeal : Cert.SwaRefIdeal.Facts] : Prop :=
  ∀ (m : (ℓ : Loc Cert.SwaRefIdeal.nD Cert.SwaRefIdeal.τ Cert.SwaRefIdeal.sig) → Buf (Elt Ideal) ℓ) (g : Dev Cert.SwaRefIdeal.nD → PrngReg), Pre_SwaRefIdeal m →
    θ_run (Cert.SwaRefIdeal.defs (F := Ideal)) (onTc (τ := Cert.SwaRefIdeal.τ) (Cert.SwaRefIdeal.main (F := Ideal))) ⟨m, fun _ => 0, g⟩ (fun r => (∀ c : Dev Cert.SwaRefIdeal.nD,
      r.2.mem ((c.tc : Thread Cert.SwaRefIdeal.nD Cert.SwaRefIdeal.τ).loc Cert.SwaRefIdeal.main_arg0) = m ((c.tc : Thread Cert.SwaRefIdeal.nD Cert.SwaRefIdeal.τ).loc Cert.SwaRefIdeal.main_arg0)
      ∧ r.2.mem ((c.tc : Thread Cert.SwaRefIdeal.nD Cert.SwaRefIdeal.τ).loc Cert.SwaRefIdeal.main_arg1) = m ((c.tc : Thread Cert.SwaRefIdeal.nD Cert.SwaRefIdeal.τ).loc Cert.SwaRefIdeal.main_arg1))
      ∧ r.2.sem = fun _ => 0)

def quiescent_SwaRefIdeal_pre_finite_queries_keys_sinks [hSwaRefIdeal : Cert.SwaRefIdeal.Facts] [hPre_finite_queries_keys_sinks : Cert.Pre_finite_queries_keys_sinks.Facts] : Prop :=
  ∀ (m : (ℓ : Loc Cert.SwaRefIdeal.nD Cert.SwaRefIdeal.τ Cert.SwaRefIdeal.sig) → Buf (Elt Ideal) ℓ) (g : Dev Cert.SwaRefIdeal.nD → PrngReg), Pre_SwaRefIdeal_finite_queries_keys_sinks m →
    θ_run (Cert.SwaRefIdeal.defs (F := Ideal)) (onTc (τ := Cert.SwaRefIdeal.τ) (Cert.SwaRefIdeal.main (F := Ideal))) ⟨m, fun _ => 0, g⟩ (fun r => (∀ c : Dev Cert.SwaRefIdeal.nD,
      r.2.mem ((c.tc : Thread Cert.SwaRefIdeal.nD Cert.SwaRefIdeal.τ).loc Cert.SwaRefIdeal.main_arg0) = m ((c.tc : Thread Cert.SwaRefIdeal.nD Cert.SwaRefIdeal.τ).loc Cert.SwaRefIdeal.main_arg0)
      ∧ r.2.mem ((c.tc : Thread Cert.SwaRefIdeal.nD Cert.SwaRefIdeal.τ).loc Cert.SwaRefIdeal.main_arg1) = m ((c.tc : Thread Cert.SwaRefIdeal.nD Cert.SwaRefIdeal.τ).loc Cert.SwaRefIdeal.main_arg1))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5))
      ∧ r.2.sem = fun _ => 0)

def quiescent_FfnOut [hFfnOut : Cert.FfnOut.Facts] : Prop :=
  ∀ (m : (ℓ : Loc Cert.FfnOut.nD Cert.FfnOut.τ Cert.FfnOut.sig) → Buf (Elt Bits) ℓ) (g : Dev Cert.FfnOut.nD → PrngReg), Pre_FfnOut m →
    θ_run (Cert.FfnOut.defs (F := Bits)) (onTc (τ := Cert.FfnOut.τ) (Cert.FfnOut.main (F := Bits))) ⟨m, fun _ => 0, g⟩ (fun r => (∀ c : Dev Cert.FfnOut.nD,
      r.2.mem ((c.tc : Thread Cert.FfnOut.nD Cert.FfnOut.τ).loc Cert.FfnOut.main_arg0) = m ((c.tc : Thread Cert.FfnOut.nD Cert.FfnOut.τ).loc Cert.FfnOut.main_arg0)
      ∧ r.2.mem ((c.tc : Thread Cert.FfnOut.nD Cert.FfnOut.τ).loc Cert.FfnOut.main_arg1) = m ((c.tc : Thread Cert.FfnOut.nD Cert.FfnOut.τ).loc Cert.FfnOut.main_arg1)
      ∧ r.2.mem ((c.tc : Thread Cert.FfnOut.nD Cert.FfnOut.τ).loc Cert.FfnOut.main_arg2) = m ((c.tc : Thread Cert.FfnOut.nD Cert.FfnOut.τ).loc Cert.FfnOut.main_arg2)
      ∧ r.2.mem ((c.tc : Thread Cert.FfnOut.nD Cert.FfnOut.τ).loc Cert.FfnOut.main_arg3) = m ((c.tc : Thread Cert.FfnOut.nD Cert.FfnOut.τ).loc Cert.FfnOut.main_arg3)
      ∧ r.2.mem ((c.tc : Thread Cert.FfnOut.nD Cert.FfnOut.τ).loc Cert.FfnOut.main_arg4) = m ((c.tc : Thread Cert.FfnOut.nD Cert.FfnOut.τ).loc Cert.FfnOut.main_arg4)
      ∧ r.2.mem ((c.tc : Thread Cert.FfnOut.nD Cert.FfnOut.τ).loc Cert.FfnOut.main_arg5) = m ((c.tc : Thread Cert.FfnOut.nD Cert.FfnOut.τ).loc Cert.FfnOut.main_arg5))
      ∧ r.2.sem = fun _ => 0)

def quiescent_FfnOutIdeal [hFfnOutIdeal : Cert.FfnOutIdeal.Facts] : Prop :=
  ∀ (m : (ℓ : Loc Cert.FfnOutIdeal.nD Cert.FfnOutIdeal.τ Cert.FfnOutIdeal.sig) → Buf (Elt Ideal) ℓ) (g : Dev Cert.FfnOutIdeal.nD → PrngReg), Pre_FfnOutIdeal m →
    θ_run (Cert.FfnOutIdeal.defs (F := Ideal)) (onTc (τ := Cert.FfnOutIdeal.τ) (Cert.FfnOutIdeal.main (F := Ideal))) ⟨m, fun _ => 0, g⟩ (fun r => (∀ c : Dev Cert.FfnOutIdeal.nD,
      r.2.mem ((c.tc : Thread Cert.FfnOutIdeal.nD Cert.FfnOutIdeal.τ).loc Cert.FfnOutIdeal.main_arg0) = m ((c.tc : Thread Cert.FfnOutIdeal.nD Cert.FfnOutIdeal.τ).loc Cert.FfnOutIdeal.main_arg0)
      ∧ r.2.mem ((c.tc : Thread Cert.FfnOutIdeal.nD Cert.FfnOutIdeal.τ).loc Cert.FfnOutIdeal.main_arg1) = m ((c.tc : Thread Cert.FfnOutIdeal.nD Cert.FfnOutIdeal.τ).loc Cert.FfnOutIdeal.main_arg1)
      ∧ r.2.mem ((c.tc : Thread Cert.FfnOutIdeal.nD Cert.FfnOutIdeal.τ).loc Cert.FfnOutIdeal.main_arg2) = m ((c.tc : Thread Cert.FfnOutIdeal.nD Cert.FfnOutIdeal.τ).loc Cert.FfnOutIdeal.main_arg2)
      ∧ r.2.mem ((c.tc : Thread Cert.FfnOutIdeal.nD Cert.FfnOutIdeal.τ).loc Cert.FfnOutIdeal.main_arg3) = m ((c.tc : Thread Cert.FfnOutIdeal.nD Cert.FfnOutIdeal.τ).loc Cert.FfnOutIdeal.main_arg3)
      ∧ r.2.mem ((c.tc : Thread Cert.FfnOutIdeal.nD Cert.FfnOutIdeal.τ).loc Cert.FfnOutIdeal.main_arg4) = m ((c.tc : Thread Cert.FfnOutIdeal.nD Cert.FfnOutIdeal.τ).loc Cert.FfnOutIdeal.main_arg4)
      ∧ r.2.mem ((c.tc : Thread Cert.FfnOutIdeal.nD Cert.FfnOutIdeal.τ).loc Cert.FfnOutIdeal.main_arg5) = m ((c.tc : Thread Cert.FfnOutIdeal.nD Cert.FfnOutIdeal.τ).loc Cert.FfnOutIdeal.main_arg5))
      ∧ r.2.sem = fun _ => 0)

def quiescent_FfnOutRefIdeal [hFfnOutRefIdeal : Cert.FfnOutRefIdeal.Facts] : Prop :=
  ∀ (m : (ℓ : Loc Cert.FfnOutRefIdeal.nD Cert.FfnOutRefIdeal.τ Cert.FfnOutRefIdeal.sig) → Buf (Elt Ideal) ℓ) (g : Dev Cert.FfnOutRefIdeal.nD → PrngReg), Pre_FfnOutRefIdeal m →
    θ_run (Cert.FfnOutRefIdeal.defs (F := Ideal)) (onTc (τ := Cert.FfnOutRefIdeal.τ) (Cert.FfnOutRefIdeal.main (F := Ideal))) ⟨m, fun _ => 0, g⟩ (fun r => (∀ c : Dev Cert.FfnOutRefIdeal.nD,
      r.2.mem ((c.tc : Thread Cert.FfnOutRefIdeal.nD Cert.FfnOutRefIdeal.τ).loc Cert.FfnOutRefIdeal.main_arg0) = m ((c.tc : Thread Cert.FfnOutRefIdeal.nD Cert.FfnOutRefIdeal.τ).loc Cert.FfnOutRefIdeal.main_arg0)
      ∧ r.2.mem ((c.tc : Thread Cert.FfnOutRefIdeal.nD Cert.FfnOutRefIdeal.τ).loc Cert.FfnOutRefIdeal.main_arg1) = m ((c.tc : Thread Cert.FfnOutRefIdeal.nD Cert.FfnOutRefIdeal.τ).loc Cert.FfnOutRefIdeal.main_arg1)
      ∧ r.2.mem ((c.tc : Thread Cert.FfnOutRefIdeal.nD Cert.FfnOutRefIdeal.τ).loc Cert.FfnOutRefIdeal.main_arg2) = m ((c.tc : Thread Cert.FfnOutRefIdeal.nD Cert.FfnOutRefIdeal.τ).loc Cert.FfnOutRefIdeal.main_arg2)
      ∧ r.2.mem ((c.tc : Thread Cert.FfnOutRefIdeal.nD Cert.FfnOutRefIdeal.τ).loc Cert.FfnOutRefIdeal.main_arg3) = m ((c.tc : Thread Cert.FfnOutRefIdeal.nD Cert.FfnOutRefIdeal.τ).loc Cert.FfnOutRefIdeal.main_arg3)
      ∧ r.2.mem ((c.tc : Thread Cert.FfnOutRefIdeal.nD Cert.FfnOutRefIdeal.τ).loc Cert.FfnOutRefIdeal.main_arg4) = m ((c.tc : Thread Cert.FfnOutRefIdeal.nD Cert.FfnOutRefIdeal.τ).loc Cert.FfnOutRefIdeal.main_arg4)
      ∧ r.2.mem ((c.tc : Thread Cert.FfnOutRefIdeal.nD Cert.FfnOutRefIdeal.τ).loc Cert.FfnOutRefIdeal.main_arg5) = m ((c.tc : Thread Cert.FfnOutRefIdeal.nD Cert.FfnOutRefIdeal.τ).loc Cert.FfnOutRefIdeal.main_arg5))
      ∧ r.2.sem = fun _ => 0)

def preserves_Swa_SwaIdeal : Prop :=
  IdealRules.named_const.Statement Cert.SwaIdeal.κ "masked" .f32 0x7149F2CA#32 ⊤
  ∧ IdealRules.named_const.Statement Cert.SwaIdeal.κ "mask" .f32 0xF149F2CA#32 ⊥

def algebraic_SwaIdeal_SwaRefIdeal_pre_finite_queries_keys_sinks [hSwaIdeal : Cert.SwaIdeal.Facts] [hSwaRefIdeal : Cert.SwaRefIdeal.Facts] [hPre_finite_queries_keys_sinks : Cert.Pre_finite_queries_keys_sinks.Facts] : Prop :=
  ∀ (m : (ℓ : Loc Cert.SwaIdeal.nD Cert.SwaIdeal.τ Cert.SwaIdeal.sig) → Buf (Elt Ideal) ℓ) (g : Dev Cert.SwaIdeal.nD → PrngReg)
    (m' : (ℓ : Loc Cert.SwaRefIdeal.nD Cert.SwaRefIdeal.τ Cert.SwaRefIdeal.sig) → Buf (Elt Ideal) ℓ) (g' : Dev Cert.SwaRefIdeal.nD → PrngReg), Pre_SwaIdeal_finite_queries_keys_sinks m →
    (∀ c : Dev Cert.SwaIdeal.nD,
      m' ((c.tc : Thread Cert.SwaRefIdeal.nD Cert.SwaRefIdeal.τ).loc Cert.SwaRefIdeal.main_arg0) = m ((c.tc : Thread Cert.SwaIdeal.nD Cert.SwaIdeal.τ).loc Cert.SwaIdeal.main_arg0)
      ∧ m' ((c.tc : Thread Cert.SwaRefIdeal.nD Cert.SwaRefIdeal.τ).loc Cert.SwaRefIdeal.main_arg1) = m ((c.tc : Thread Cert.SwaIdeal.nD Cert.SwaIdeal.τ).loc Cert.SwaIdeal.main_arg1)) →
    ∃ (v0 : (c : Dev Cert.SwaIdeal.nD) → Buf (Elt Ideal) ((c.tc : Thread Cert.SwaIdeal.nD Cert.SwaIdeal.τ).loc Cert.SwaIdeal.main_v11)),
      θ_run (Cert.SwaIdeal.defs (F := Ideal)) (onTc (τ := Cert.SwaIdeal.τ) (Cert.SwaIdeal.main (F := Ideal))) ⟨m, fun _ => 0, g⟩ (fun r => ∀ c : Dev Cert.SwaIdeal.nD,
          r.2.mem ((c.tc : Thread Cert.SwaIdeal.nD Cert.SwaIdeal.τ).loc Cert.SwaIdeal.main_v11) = v0 c
          ∧ r.2.mem ((c.tc : Thread Cert.SwaIdeal.nD Cert.SwaIdeal.τ).loc Cert.SwaIdeal.main_arg0) = m ((c.tc : Thread Cert.SwaIdeal.nD Cert.SwaIdeal.τ).loc Cert.SwaIdeal.main_arg0)
          ∧ r.2.mem ((c.tc : Thread Cert.SwaIdeal.nD Cert.SwaIdeal.τ).loc Cert.SwaIdeal.main_arg1) = m ((c.tc : Thread Cert.SwaIdeal.nD Cert.SwaIdeal.τ).loc Cert.SwaIdeal.main_arg1))
      ∧ θ_run (Cert.SwaRefIdeal.defs (F := Ideal)) (onTc (τ := Cert.SwaRefIdeal.τ) (Cert.SwaRefIdeal.main (F := Ideal))) ⟨m', fun _ => 0, g'⟩ (fun r => ∀ c : Dev Cert.SwaRefIdeal.nD,
          r.2.mem ((c.tc : Thread Cert.SwaRefIdeal.nD Cert.SwaRefIdeal.τ).loc Cert.SwaRefIdeal.main_v83) = v0 c
          ∧ r.2.mem ((c.tc : Thread Cert.SwaRefIdeal.nD Cert.SwaRefIdeal.τ).loc Cert.SwaRefIdeal.main_arg0) = m' ((c.tc : Thread Cert.SwaRefIdeal.nD Cert.SwaRefIdeal.τ).loc Cert.SwaRefIdeal.main_arg0)
          ∧ r.2.mem ((c.tc : Thread Cert.SwaRefIdeal.nD Cert.SwaRefIdeal.τ).loc Cert.SwaRefIdeal.main_arg1) = m' ((c.tc : Thread Cert.SwaRefIdeal.nD Cert.SwaRefIdeal.τ).loc Cert.SwaRefIdeal.main_arg1))

def preserves_Ffn_FfnIdeal : Prop :=
  True

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)
      ∧ m' ((c.tc : Thread Cert.FfnRefIdeal.nD Cert.FfnRefIdeal.τ).loc Cert.FfnRefIdeal.main_arg5) = m ((c.tc : Thread Cert.FfnIdeal.nD Cert.FfnIdeal.τ).loc Cert.FfnIdeal.main_arg5)) →
    ∃ (v0 : (c : Dev Cert.FfnIdeal.nD) → Buf (Elt Ideal) ((c.tc : Thread Cert.FfnIdeal.nD Cert.FfnIdeal.τ).loc Cert.FfnIdeal.main_v0)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v0) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v24) = v0 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4)
          ∧ r.2.mem ((c.tc : Thread Cert.FfnRefIdeal.nD Cert.FfnRefIdeal.τ).loc Cert.FfnRefIdeal.main_arg5) = m' ((c.tc : Thread Cert.FfnRefIdeal.nD Cert.FfnRefIdeal.τ).loc Cert.FfnRefIdeal.main_arg5))

def preserves_FfnOut_FfnOutIdeal : Prop :=
  True

def algebraic_FfnOutIdeal_FfnOutRefIdeal [hFfnOutIdeal : Cert.FfnOutIdeal.Facts] [hFfnOutRefIdeal : Cert.FfnOutRefIdeal.Facts] : Prop :=
  ∀ (m : (ℓ : Loc Cert.FfnOutIdeal.nD Cert.FfnOutIdeal.τ Cert.FfnOutIdeal.sig) → Buf (Elt Ideal) ℓ) (g : Dev Cert.FfnOutIdeal.nD → PrngReg)
    (m' : (ℓ : Loc Cert.FfnOutRefIdeal.nD Cert.FfnOutRefIdeal.τ Cert.FfnOutRefIdeal.sig) → Buf (Elt Ideal) ℓ) (g' : Dev Cert.FfnOutRefIdeal.nD → PrngReg), Pre_FfnOutIdeal m →
    (∀ c : Dev Cert.FfnOutIdeal.nD,
      m' ((c.tc : Thread Cert.FfnOutRefIdeal.nD Cert.FfnOutRefIdeal.τ).loc Cert.FfnOutRefIdeal.main_arg0) = m ((c.tc : Thread Cert.FfnOutIdeal.nD Cert.FfnOutIdeal.τ).loc Cert.FfnOutIdeal.main_arg0)
      ∧ m' ((c.tc : Thread Cert.FfnOutRefIdeal.nD Cert.FfnOutRefIdeal.τ).loc Cert.FfnOutRefIdeal.main_arg1) = m ((c.tc : Thread Cert.FfnOutIdeal.nD Cert.FfnOutIdeal.τ).loc Cert.FfnOutIdeal.main_arg1)
      ∧ m' ((c.tc : Thread Cert.FfnOutRefIdeal.nD Cert.FfnOutRefIdeal.τ).loc Cert.FfnOutRefIdeal.main_arg2) = m ((c.tc : Thread Cert.FfnOutIdeal.nD Cert.FfnOutIdeal.τ).loc Cert.FfnOutIdeal.main_arg2)
      ∧ m' ((c.tc : Thread Cert.FfnOutRefIdeal.nD Cert.FfnOutRefIdeal.τ).loc Cert.FfnOutRefIdeal.main_arg3) = m ((c.tc : Thread Cert.FfnOutIdeal.nD Cert.FfnOutIdeal.τ).loc Cert.FfnOutIdeal.main_arg3)
      ∧ m' ((c.tc : Thread Cert.FfnOutRefIdeal.nD Cert.FfnOutRefIdeal.τ).loc Cert.FfnOutRefIdeal.main_arg4) = m ((c.tc : Thread Cert.FfnOutIdeal.nD Cert.FfnOutIdeal.τ).loc Cert.FfnOutIdeal.main_arg4)
      ∧ m' ((c.tc : Thread Cert.FfnOutRefIdeal.nD Cert.FfnOutRefIdeal.τ).loc Cert.FfnOutRefIdeal.main_arg5) = m ((c.tc : Thread Cert.FfnOutIdeal.nD Cert.FfnOutIdeal.τ).loc Cert.FfnOutIdeal.main_arg5)) →
    ∃ (v0 : (c : Dev Cert.FfnOutIdeal.nD) → Buf (Elt Ideal) ((c.tc : Thread Cert.FfnOutIdeal.nD Cert.FfnOutIdeal.τ).loc Cert.FfnOutIdeal.main_v0)),
      θ_run (Cert.FfnOutIdeal.defs (F := Ideal)) (onTc (τ := Cert.FfnOutIdeal.τ) (Cert.FfnOutIdeal.main (F := Ideal))) ⟨m, fun _ => 0, g⟩ (fun r => ∀ c : Dev Cert.FfnOutIdeal.nD,
          r.2.mem ((c.tc : Thread Cert.FfnOutIdeal.nD Cert.FfnOutIdeal.τ).loc Cert.FfnOutIdeal.main_v0) = v0 c
          ∧ r.2.mem ((c.tc : Thread Cert.FfnOutIdeal.nD Cert.FfnOutIdeal.τ).loc Cert.FfnOutIdeal.main_arg0) = m ((c.tc : Thread Cert.FfnOutIdeal.nD Cert.FfnOutIdeal.τ).loc Cert.FfnOutIdeal.main_arg0)
          ∧ r.2.mem ((c.tc : Thread Cert.FfnOutIdeal.nD Cert.FfnOutIdeal.τ).loc Cert.FfnOutIdeal.main_arg1) = m ((c.tc : Thread Cert.FfnOutIdeal.nD Cert.FfnOutIdeal.τ).loc Cert.FfnOutIdeal.main_arg1)
          ∧ r.2.mem ((c.tc : Thread Cert.FfnOutIdeal.nD Cert.FfnOutIdeal.τ).loc Cert.FfnOutIdeal.main_arg2) = m ((c.tc : Thread Cert.FfnOutIdeal.nD Cert.FfnOutIdeal.τ).loc Cert.FfnOutIdeal.main_arg2)
          ∧ r.2.mem ((c.tc : Thread Cert.FfnOutIdeal.nD Cert.FfnOutIdeal.τ).loc Cert.FfnOutIdeal.main_arg3) = m ((c.tc : Thread Cert.FfnOutIdeal.nD Cert.FfnOutIdeal.τ).loc Cert.FfnOutIdeal.main_arg3)
          ∧ r.2.mem ((c.tc : Thread Cert.FfnOutIdeal.nD Cert.FfnOutIdeal.τ).loc Cert.FfnOutIdeal.main_arg4) = m ((c.tc : Thread Cert.FfnOutIdeal.nD Cert.FfnOutIdeal.τ).loc Cert.FfnOutIdeal.main_arg4)
          ∧ r.2.mem ((c.tc : Thread Cert.FfnOutIdeal.nD Cert.FfnOutIdeal.τ).loc Cert.FfnOutIdeal.main_arg5) = m ((c.tc : Thread Cert.FfnOutIdeal.nD Cert.FfnOutIdeal.τ).loc Cert.FfnOutIdeal.main_arg5))
      ∧ θ_run (Cert.FfnOutRefIdeal.defs (F := Ideal)) (onTc (τ := Cert.FfnOutRefIdeal.τ) (Cert.FfnOutRefIdeal.main (F := Ideal))) ⟨m', fun _ => 0, g'⟩ (fun r => ∀ c : Dev Cert.FfnOutRefIdeal.nD,
          r.2.mem ((c.tc : Thread Cert.FfnOutRefIdeal.nD Cert.FfnOutRefIdeal.τ).loc Cert.FfnOutRefIdeal.main_v38) = v0 c
          ∧ r.2.mem ((c.tc : Thread Cert.FfnOutRefIdeal.nD Cert.FfnOutRefIdeal.τ).loc Cert.FfnOutRefIdeal.main_arg0) = m' ((c.tc : Thread Cert.FfnOutRefIdeal.nD Cert.FfnOutRefIdeal.τ).loc Cert.FfnOutRefIdeal.main_arg0)
          ∧ r.2.mem ((c.tc : Thread Cert.FfnOutRefIdeal.nD Cert.FfnOutRefIdeal.τ).loc Cert.FfnOutRefIdeal.main_arg1) = m' ((c.tc : Thread Cert.FfnOutRefIdeal.nD Cert.FfnOutRefIdeal.τ).loc Cert.FfnOutRefIdeal.main_arg1)
          ∧ r.2.mem ((c.tc : Thread Cert.FfnOutRefIdeal.nD Cert.FfnOutRefIdeal.τ).loc Cert.FfnOutRefIdeal.main_arg2) = m' ((c.tc : Thread Cert.FfnOutRefIdeal.nD Cert.FfnOutRefIdeal.τ).loc Cert.FfnOutRefIdeal.main_arg2)
          ∧ r.2.mem ((c.tc : Thread Cert.FfnOutRefIdeal.nD Cert.FfnOutRefIdeal.τ).loc Cert.FfnOutRefIdeal.main_arg3) = m' ((c.tc : Thread Cert.FfnOutRefIdeal.nD Cert.FfnOutRefIdeal.τ).loc Cert.FfnOutRefIdeal.main_arg3)
          ∧ r.2.mem ((c.tc : Thread Cert.FfnOutRefIdeal.nD Cert.FfnOutRefIdeal.τ).loc Cert.FfnOutRefIdeal.main_arg4) = m' ((c.tc : Thread Cert.FfnOutRefIdeal.nD Cert.FfnOutRefIdeal.τ).loc Cert.FfnOutRefIdeal.main_arg4)
          ∧ r.2.mem ((c.tc : Thread Cert.FfnOutRefIdeal.nD Cert.FfnOutRefIdeal.τ).loc Cert.FfnOutRefIdeal.main_arg5) = m' ((c.tc : Thread Cert.FfnOutRefIdeal.nD Cert.FfnOutRefIdeal.τ).loc Cert.FfnOutRefIdeal.main_arg5))

def Claim : Prop :=
  ∃ (hSwa : Cert.Swa.Facts) (hSwaIdeal : Cert.SwaIdeal.Facts) (hSwaRefIdeal : Cert.SwaRefIdeal.Facts) (hFfn : Cert.Ffn.Facts) (hFfnIdeal : Cert.FfnIdeal.Facts) (hFfnRefIdeal : Cert.FfnRefIdeal.Facts) (hFfnOut : Cert.FfnOut.Facts) (hFfnOutIdeal : Cert.FfnOutIdeal.Facts) (hFfnOutRefIdeal : Cert.FfnOutRefIdeal.Facts) (hPre_finite_queries_keys_sinks : Cert.Pre_finite_queries_keys_sinks.Facts),
    quiescent_Swa (hSwa := hSwa)
    ∧ quiescent_SwaIdeal (hSwaIdeal := hSwaIdeal)
    ∧ quiescent_SwaIdeal_pre_finite_queries_keys_sinks (hSwaIdeal := hSwaIdeal) (hPre_finite_queries_keys_sinks := hPre_finite_queries_keys_sinks)
    ∧ quiescent_SwaRefIdeal (hSwaRefIdeal := hSwaRefIdeal)
    ∧ quiescent_SwaRefIdeal_pre_finite_queries_keys_sinks (hSwaRefIdeal := hSwaRefIdeal) (hPre_finite_queries_keys_sinks := hPre_finite_queries_keys_sinks)
    ∧ quiescent_Ffn (hFfn := hFfn)
    ∧ quiescent_FfnIdeal (hFfnIdeal := hFfnIdeal)
    ∧ quiescent_FfnRefIdeal (hFfnRefIdeal := hFfnRefIdeal)
    ∧ quiescent_FfnOut (hFfnOut := hFfnOut)
    ∧ quiescent_FfnOutIdeal (hFfnOutIdeal := hFfnOutIdeal)
    ∧ quiescent_FfnOutRefIdeal (hFfnOutRefIdeal := hFfnOutRefIdeal)
    ∧ preserves_Swa_SwaIdeal
    ∧ algebraic_SwaIdeal_SwaRefIdeal_pre_finite_queries_keys_sinks (hSwaIdeal := hSwaIdeal) (hSwaRefIdeal := hSwaRefIdeal) (hPre_finite_queries_keys_sinks := hPre_finite_queries_keys_sinks)
    ∧ preserves_Ffn_FfnIdeal
    ∧ algebraic_FfnIdeal_FfnRefIdeal (hFfnIdeal := hFfnIdeal) (hFfnRefIdeal := hFfnRefIdeal)
    ∧ preserves_FfnOut_FfnOutIdeal
    ∧ algebraic_FfnOutIdeal_FfnOutRefIdeal (hFfnOutIdeal := hFfnOutIdeal) (hFfnOutRefIdeal := hFfnOutRefIdeal)
-- ==== Pre_finite_queries_keys_sinks.lean ====
abbrev S16x2048x4608 : Shape := ⟨3, ![16, 2048, 4608]⟩
abbrev S1x16 : Shape := ⟨2, ![1, 16]⟩
abbrev S16x2048x1280 : Shape := ⟨3, ![16, 2048, 1280]⟩
abbrev S_ : Shape := ⟨0, ![]⟩

class Facts : Prop where
  slices_S16x2048x4608_S16x2048x1280_0_0_0 : S16x2048x4608.Slices ![0, 0, 0] S16x2048x1280
  bitsLt_bf16_f32 : FTy.bits .bf16 < FTy.bits .f32
  bcast_S_S16x2048x1280 : S_.BroadcastsInDim S16x2048x1280 (![] : Fin 0 → Fin S16x2048x1280.rank)
  bcast_S_S1x16 : S_.BroadcastsInDim S1x16 (![] : Fin 0 → Fin S1x16.rank)

variable [Facts]

def fn {F : FTy → Type} [FloatOps F] (main_arg0 : FVec F S16x2048x4608 .bf16) (main_arg1 : FVec F S1x16 .f32) : IVec S16x2048x1280 1 × IVec S1x16 1 :=
  let main_v0 : FVec F S16x2048x1280 .bf16 := (extractStridedSlice S16x2048x1280 ![0, 0, 0] · slices_S16x2048x4608_S16x2048x1280_0_0_0) main_arg0
  let main_v1 : FVec F S16x2048x1280 .f32 := (extf .f32 · bitsLt_bf16_f32) main_v0
  let main_v2 : FVec F S16x2048x1280 .f32 := Host.absf main_v1
  let main_cst : FVec F S_ .f32 := constant S_ .f32 0x7F800000#32
  let main_v3 : FVec F S16x2048x1280 .f32 := broadcastInDim S16x2048x1280 ![] bcast_S_S16x2048x1280 main_cst
  let main_v4 : IVec S16x2048x1280 1 := cmpf .olt main_v2 main_v3
  let main_v5 : FVec F S1x16 .f32 := Host.absf main_arg1
  let main_cst_0 : FVec F S_ .f32 := constant S_ .f32 0x7F800000#32
  let main_v6 : FVec F S1x16 .f32 := broadcastInDim S1x16 ![] bcast_S_S1x16 main_cst_0
  let main_v7 : IVec S1x16 1 := cmpf .olt main_v5 main_v6
  (main_v4, main_v7)
-- ==== Swa.lean ====
abbrev S16x2048x4608 : Shape := ⟨3, ![16, 2048, 4608]⟩
abbrev S1x16 : Shape := ⟨2, ![1, 16]⟩
abbrev S16 : Shape := ⟨1, ![16]⟩
abbrev S_ : Shape := ⟨0, ![]⟩
abbrev S16x2048x1024 : Shape := ⟨3, ![16, 2048, 1024]⟩
abbrev S1x512x512 : Shape := ⟨3, ![1, 512, 512]⟩
abbrev S1x128x128 : Shape := ⟨3, ![1, 128, 128]⟩
abbrev S1x512x128 : Shape := ⟨3, ![1, 512, 128]⟩
abbrev S4x256x256 : Shape := ⟨3, ![4, 256, 256]⟩
abbrev S128x128 : Shape := ⟨2, ![128, 128]⟩
abbrev S512x128 : Shape := ⟨2, ![512, 128]⟩
abbrev S640x128 : Shape := ⟨2, ![640, 128]⟩
abbrev S640x64 : Shape := ⟨2, ![640, 64]⟩
abbrev S256x256 : Shape := ⟨2, ![256, 256]⟩
abbrev S256x1 : Shape := ⟨2, ![256, 1]⟩
abbrev S1 : Shape := ⟨1, ![1]⟩
abbrev S1x256x256 : Shape := ⟨3, ![1, 256, 256]⟩
abbrev S256x128 : Shape := ⟨2, ![256, 128]⟩
abbrev S256 : Shape := ⟨1, ![256]⟩

abbrev nBuf : Space → Nat
  | .hbm => 18
  | .vmem => 13
  | .smem => 2
  | _ => 0

abbrev bufTy : (tb : Table) → Fin (tcTables nBuf tb) → BufTy
  | .hbm, ⟨0, _⟩ => ⟨S16x2048x4608, .bf16⟩
  | .hbm, ⟨1, _⟩ => ⟨S1x16, .f32⟩
  | .hbm, ⟨2, _⟩ => ⟨S16, .f32⟩
  | .hbm, ⟨3, _⟩ => ⟨S_, .f32⟩
  | .hbm, ⟨4, _⟩ => ⟨S16, .f32⟩
  | .hbm, ⟨5, _⟩ => ⟨S16, .f32⟩
  | .hbm, ⟨6, _⟩ => ⟨S_, .f32⟩
  | .hbm, ⟨7, _⟩ => ⟨S16, .f32⟩
  | .hbm, ⟨8, _⟩ => ⟨S16, .f32⟩
  | .hbm, ⟨9, _⟩ => ⟨S_, .f32⟩
  | .hbm, ⟨10, _⟩ => ⟨S16, .f32⟩
  | .hbm, ⟨11, _⟩ => ⟨S16, .f32⟩
  | .hbm, ⟨12, _⟩ => ⟨S_, .f32⟩
  | .hbm, ⟨13, _⟩ => ⟨S16, .f32⟩
  | .hbm, ⟨14, _⟩ => ⟨S16, .f32⟩
  | .hbm, ⟨15, _⟩ => ⟨S16, .f32⟩
  | .hbm, ⟨16, _⟩ => ⟨S16, .f32⟩
  | .hbm, ⟨17, _⟩ => ⟨S16x2048x1024, .f32⟩
  | .local _ .vmem, ⟨0, _⟩ => ⟨S1x512x512, .bf16⟩
  | .local _ .vmem, ⟨1, _⟩ => ⟨S1x512x512, .bf16⟩
  | .local _ .vmem, ⟨2, _⟩ => ⟨S1x128x128, .bf16⟩
  | .local _ .vmem, ⟨3, _⟩ => ⟨S1x128x128, .bf16⟩
  | .local _ .vmem, ⟨4, _⟩ => ⟨S1x512x128, .bf16⟩
  | .local _ .vmem, ⟨5, _⟩ => ⟨S1x512x128, .bf16⟩
  | .local _ .vmem, ⟨6, _⟩ => ⟨S1x128x128, .bf16⟩
  | .local _ .vmem, ⟨7, _⟩ => ⟨S1x128x128, .bf16⟩
  | .local _ .vmem, ⟨8, _⟩ => ⟨S1x512x128, .bf16⟩
  | .local _ .vmem, ⟨9, _⟩ => ⟨S1x512x128, .bf16⟩
  | .local _ .vmem, ⟨10, _⟩ => ⟨S1x512x512, .f32⟩
  | .local _ .vmem, ⟨11, _⟩ => ⟨S1x512x512, .f32⟩
  | .local _ .vmem, ⟨12, _⟩ => ⟨S4x256x256, .f32⟩
  | .local _ .smem, ⟨0, _⟩ => ⟨S16, .f32⟩
  | .local _ .smem, ⟨1, _⟩ => ⟨S16, .f32⟩
  | _, _ => ⟨S16x2048x4608, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_cst_2 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev cc0_stg2_0 : Ref sig .tc := ⟨.vmem, 0, rfl⟩
abbrev cc0_stg2_1 : Ref sig .tc := ⟨.vmem, 1, rfl⟩
abbrev cc0_stg3_0 : Ref sig .tc := ⟨.vmem, 2, rfl⟩
abbrev cc0_stg3_1 : Ref sig .tc := ⟨.vmem, 3, rfl⟩
abbrev cc0_stg4_0 : Ref sig .tc := ⟨.vmem, 4, rfl⟩
abbrev cc0_stg4_1 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_scratch0 : Ref sig .tc := ⟨.vmem, 12, rfl⟩
abbrev cc0_stg0_0 : Ref sig .tc := ⟨.smem, 0, rfl⟩
abbrev cc0_stg1_0 : Ref sig .tc := ⟨.smem, 1, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨3, ![16, 2, 4], ![false, false, false]⟩

def k0_cond1 (i : grid0.Coords) : BitVec 1 :=
  let arg2 : BitVec 32 := BitVec.ofNat 32 (i 2).val
  let c0_i32_12 : BitVec 32 := 0#32
  let v26 : BitVec 1 := Scalar.cmpi .eq arg2 c0_i32_12
  let v27 : BitVec 32 := Scalar.extui v26
  let c0_i32_13 : BitVec 32 := 0#32
  let v28 : BitVec 1 := Scalar.cmpi .ne v27 c0_i32_13
  v28

def k0_off1 (i : grid0.Coords) (c2_i32_342 : BitVec 32) : Fin 1 → Nat :=
  let arg1 : BitVec 32 := BitVec.ofNat 32 (i 1).val
  let c8_i32_341 : BitVec 32 := 8#32
  let v749 : BitVec 32 := Scalar.muli arg1 c8_i32_341
  let v750 : BitVec 32 := Scalar.addi v749 c2_i32_342
  let v751 : Index := Scalar.indexCast v750
  ![v751.toNat]
def k0_off2 (i : grid0.Coords) (c2_i32 : BitVec 32) : Fin 1 → Nat :=
  let arg1 : BitVec 32 := BitVec.ofNat 32 (i 1).val
  let c8_i32 : BitVec 32 := 8#32
  let v29 : BitVec 32 := Scalar.muli arg1 c8_i32
  let v30 : BitVec 32 := Scalar.addi v29 c2_i32
  let v31 : Index := Scalar.indexCast v30
  ![v31.toNat]
def cc0_transform_0 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat]

def cc0_transform_1 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg2 c4_i32
  let c1_i32 : BitVec 32 := 1#32
  let v1 : BitVec 32 := Scalar.subi v0 c1_i32
  let c0_i32 : BitVec 32 := 0#32
  let v2 : BitVec 32 := Scalar.maxsi v1 c0_i32
  let c8_i32 : BitVec 32 := 8#32
  let v3 : BitVec 32 := Scalar.addi c8_i32 arg1
  let c0_i32_0 : BitVec 32 := 0#32
  ![arg0.toNat, v2.toNat, v3.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.addi c8_i32 arg1
  let c0_i32 : BitVec 32 := 0#32
  ![arg0.toNat, arg2.toNat, v0.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg2 c4_i32
  let c1_i32 : BitVec 32 := 1#32
  let v1 : BitVec 32 := Scalar.subi v0 c1_i32
  let c0_i32 : BitVec 32 := 0#32
  let v2 : BitVec 32 := Scalar.maxsi v1 c0_i32
  let c10_i32 : BitVec 32 := 10#32
  let v3 : BitVec 32 := Scalar.addi c10_i32 arg1
  let c0_i32_0 : BitVec 32 := 0#32
  ![arg0.toNat, v2.toNat, v3.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c10_i32 : BitVec 32 := 10#32
  let v0 : BitVec 32 := Scalar.addi c10_i32 arg1
  let c0_i32 : BitVec 32 := 0#32
  ![arg0.toNat, arg2.toNat, v0.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 1 → Memref sig .tc .smem S16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, false]

abbrev stage0_1 : Fin 1 → Memref sig .tc .smem S16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S1x512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x128x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x512x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x128x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S1x512x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S1x512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]
-- ==== SwaIdeal.lean ====
variable {F : FTy → Type} [FloatOps F] [Named F]
def κ : String → Option EReal := fun
  | "mask" => some ⊥
  | "masked" => some ⊤
  | _ => none
-- ==== SwaRefIdeal.lean ====
abbrev S16x2048x4608 : Shape := ⟨3, ![16, 2048, 4608]⟩
abbrev S1x16 : Shape := ⟨2, ![1, 16]⟩
abbrev S16x2048x1024 : Shape := ⟨3, ![16, 2048, 1024]⟩
abbrev S16x16x128x4x4x64 : Shape := ⟨6, ![16, 16, 128, 4, 4, 64]⟩
abbrev S16x2048x256 : Shape := ⟨3, ![16, 2048, 256]⟩
abbrev S16x16x128x4x64 : Shape := ⟨5, ![16, 16, 128, 4, 64]⟩
abbrev S16x15x128x4x64 : Shape := ⟨5, ![16, 15, 128, 4, 64]⟩
abbrev S_ : Shape := ⟨0, ![]⟩
abbrev S16x16x256x4x64 : Shape := ⟨5, ![16, 16, 256, 4, 64]⟩
abbrev S16x16x4x256x128x4 : Shape := ⟨6, ![16, 16, 4, 256, 128, 4]⟩
abbrev S16x16x4x4x128x256 : Shape := ⟨6, ![16, 16, 4, 4, 128, 256]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S16 : Shape := ⟨1, ![16]⟩
abbrev S16x1x1 : Shape := ⟨3, ![16, 1, 1]⟩
abbrev S1x128x256 : Shape := ⟨3, ![1, 128, 256]⟩
abbrev S1x1x256 : Shape := ⟨3, ![1, 1, 256]⟩
abbrev S16x1x256 : Shape := ⟨3, ![16, 1, 256]⟩
abbrev S16x128x256 : Shape := ⟨3, ![16, 128, 256]⟩
abbrev S4x4 : Shape := ⟨2, ![4, 4]⟩
abbrev S4x4x1x1 : Shape := ⟨4, ![4, 4, 1, 1]⟩
abbrev S1x1x128x256 : Shape := ⟨4, ![1, 1, 128, 256]⟩
abbrev S4x4x128x256 : Shape := ⟨4, ![4, 4, 128, 256]⟩
abbrev S1x1x4x4x128x256 : Shape := ⟨6, ![1, 1, 4, 4, 128, 256]⟩
abbrev S1x16x1x1x128x256 : Shape := ⟨6, ![1, 16, 1, 1, 128, 256]⟩
abbrev S1x1x4x4x1x1 : Shape := ⟨6, ![1, 1, 4, 4, 1, 1]⟩
abbrev S16x16x4x4x128x1 : Shape := ⟨6, ![16, 16, 4, 4, 128, 1]⟩
abbrev S16x16x4x4x128x257 : Shape := ⟨6, ![16, 16, 4, 4, 128, 257]⟩
abbrev S16x16x4x4x128 : Shape := ⟨5, ![16, 16, 4, 4, 128]⟩
abbrev S16x16x4x64x4x128 : Shape := ⟨6, ![16, 16, 4, 64, 4, 128]⟩

abbrev nBuf : Space → Nat
  | .hbm => 106
  | .vmem => 0
  | .smem => 0
  | _ => 0

abbrev bufTy : (tb : Table) → Fin (tcTables nBuf tb) → BufTy
  | .hbm, ⟨0, _⟩ => ⟨S16x2048x4608, .bf16⟩
  | .hbm, ⟨1, _⟩ => ⟨S1x16, .f32⟩
  | .hbm, ⟨2, _⟩ => ⟨S16x2048x4608, .f32⟩
  | .hbm, ⟨3, _⟩ => ⟨S16x2048x1024, .f32⟩
  | .hbm, ⟨4, _⟩ => ⟨S16x16x128x4x4x64, .f32⟩
  | .hbm, ⟨5, _⟩ => ⟨S16x2048x256, .f32⟩
  | .hbm, ⟨6, _⟩ => ⟨S16x16x128x4x64, .f32⟩
  | .hbm, ⟨7, _⟩ => ⟨S16x2048x256, .f32⟩
  | .hbm, ⟨8, _⟩ => ⟨S16x16x128x4x64, .f32⟩
  | .hbm, ⟨9, _⟩ => ⟨S16x15x128x4x64, .f32⟩
  | .hbm, ⟨10, _⟩ => ⟨S_, .i32⟩
  | .hbm, ⟨11, _⟩ => ⟨S_, .f32⟩
  | .hbm, ⟨12, _⟩ => ⟨S16x16x128x4x64, .f32⟩
  | .hbm, ⟨13, _⟩ => ⟨S16x16x256x4x64, .f32⟩
  | .hbm, ⟨14, _⟩ => ⟨S16x15x128x4x64, .f32⟩
  | .hbm, ⟨15, _⟩ => ⟨S_, .i32⟩
  | .hbm, ⟨16, _⟩ => ⟨S_, .f32⟩
  | .hbm, ⟨17, _⟩ => ⟨S16x16x128x4x64, .f32⟩
  | .hbm, ⟨18, _⟩ => ⟨S16x16x256x4x64, .f32⟩
  | .hbm, ⟨19, _⟩ => ⟨S16x16x4x256x128x4, .f32⟩
  | .hbm, ⟨20, _⟩ => ⟨S16x16x4x4x128x256, .f32⟩
  | .hbm, ⟨21, _⟩ => ⟨S128, .i32⟩
  | .hbm, ⟨22, _⟩ => ⟨S128x1, .i32⟩
  | .hbm, ⟨23, _⟩ => ⟨S_, .i32⟩
  | .hbm, ⟨24, _⟩ => ⟨S128x1, .i32⟩
  | .hbm, ⟨25, _⟩ => ⟨S128x1, .i32⟩
  | .hbm, ⟨26, _⟩ => ⟨S256, .i32⟩
  | .hbm, ⟨27, _⟩ => ⟨S1x256, .i32⟩
  | .hbm, ⟨28, _⟩ => ⟨S128x256, .i32⟩
  | .hbm, ⟨29, _⟩ => ⟨S128x256, .i32⟩
  | .hbm, ⟨30, _⟩ => ⟨S128x256, .i32⟩
  | .hbm, ⟨31, _⟩ => ⟨S_, .i32⟩
  | .hbm, ⟨32, _⟩ => ⟨S128x256, .i32⟩
  | .hbm, ⟨33, _⟩ => ⟨S128x256, .i1⟩
  | .hbm, ⟨34, _⟩ => ⟨S_, .i32⟩
  | .hbm, ⟨35, _⟩ => ⟨S128x256, .i32⟩
  | .hbm, ⟨36, _⟩ => ⟨S128x256, .i1⟩
  | .hbm, ⟨37, _⟩ => ⟨S128x256, .i1⟩
  | .hbm, ⟨38, _⟩ => ⟨S16, .i32⟩
  | .hbm, ⟨39, _⟩ => ⟨S16x1x1, .i32⟩
  | .hbm, ⟨40, _⟩ => ⟨S1x128x256, .i1⟩
  | .hbm, ⟨41, _⟩ => ⟨S_, .i32⟩
  | .hbm, ⟨42, _⟩ => ⟨S16x1x1, .i32⟩
  | .hbm, ⟨43, _⟩ => ⟨S16x1x1, .i1⟩
  | .hbm, ⟨44, _⟩ => ⟨S1x1x256, .i32⟩
  | .hbm, ⟨45, _⟩ => ⟨S_, .i32⟩
  | .hbm, ⟨46, _⟩ => ⟨S1x1x256, .i32⟩
  | .hbm, ⟨47, _⟩ => ⟨S1x1x256, .i1⟩
  | .hbm, ⟨48, _⟩ => ⟨S16x1x256, .i1⟩
  | .hbm, ⟨49, _⟩ => ⟨S16x1x256, .i1⟩
  | .hbm, ⟨50, _⟩ => ⟨S16x1x256, .i1⟩
  | .hbm, ⟨51, _⟩ => ⟨S16x128x256, .i1⟩
  | .hbm, ⟨52, _⟩ => ⟨S16x128x256, .i1⟩
  | .hbm, ⟨53, _⟩ => ⟨S16x128x256, .i1⟩
  | .hbm, ⟨54, _⟩ => ⟨S16, .f32⟩
  | .hbm, ⟨55, _⟩ => ⟨S_, .f32⟩
  | .hbm, ⟨56, _⟩ => ⟨S16, .f32⟩
  | .hbm, ⟨57, _⟩ => ⟨S16, .f32⟩
  | .hbm, ⟨58, _⟩ => ⟨S_, .f32⟩
  | .hbm, ⟨59, _⟩ => ⟨S16, .f32⟩
  | .hbm, ⟨60, _⟩ => ⟨S16, .f32⟩
  | .hbm, ⟨61, _⟩ => ⟨S_, .f32⟩
  | .hbm, ⟨62, _⟩ => ⟨S16, .f32⟩
  | .hbm, ⟨63, _⟩ => ⟨S16, .f32⟩
  | .hbm, ⟨64, _⟩ => ⟨S_, .f32⟩
  | .hbm, ⟨65, _⟩ => ⟨S16, .f32⟩
  | .hbm, ⟨66, _⟩ => ⟨S16, .f32⟩
  | .hbm, ⟨67, _⟩ => ⟨S16, .f32⟩
  | .hbm, ⟨68, _⟩ => ⟨S4x4, .f32⟩
  | .hbm, ⟨69, _⟩ => ⟨S4x4x1x1, .f32⟩
  | .hbm, ⟨70, _⟩ => ⟨S128x256, .f32⟩
  | .hbm, ⟨71, _⟩ => ⟨S1x1x128x256, .f32⟩
  | .hbm, ⟨72, _⟩ => ⟨S4x4x128x256, .f32⟩
  | .hbm, ⟨73, _⟩ => ⟨S4x4x128x256, .f32⟩
  | .hbm, ⟨74, _⟩ => ⟨S4x4x128x256, .f32⟩
  | .hbm, ⟨75, _⟩ => ⟨S1x1x4x4x128x256, .f32⟩
  | .hbm, ⟨76, _⟩ => ⟨S16x16x4x4x128x256, .f32⟩
  | .hbm, ⟨77, _⟩ => ⟨S16x16x4x4x128x256, .f32⟩
  | .hbm, ⟨78, _⟩ => ⟨S1x16x1x1x128x256, .i1⟩
  | .hbm, ⟨79, _⟩ => ⟨S_, .f32⟩
  | .hbm, ⟨80, _⟩ => ⟨S_, .f32⟩
  | .hbm, ⟨81, _⟩ => ⟨S16x16x4x4x128x256, .i1⟩
  | .hbm, ⟨82, _⟩ => ⟨S16x16x4x4x128x256, .f32⟩
  | .hbm, ⟨83, _⟩ => ⟨S16x16x4x4x128x256, .f32⟩
  | .hbm, ⟨84, _⟩ => ⟨S16, .f32⟩
  | .hbm, ⟨85, _⟩ => ⟨S1x1x4x4x1x1, .f32⟩
  | .hbm, ⟨86, _⟩ => ⟨S16x16x4x4x128x1, .f32⟩
  | .hbm, ⟨87, _⟩ => ⟨S16x16x4x4x128x257, .f32⟩
  | .hbm, ⟨88, _⟩ => ⟨S_, .f32⟩
  | .hbm, ⟨89, _⟩ => ⟨S16x16x4x4x128, .f32⟩
  | .hbm, ⟨90, _⟩ => ⟨S_, .f32⟩
  | .hbm, ⟨91, _⟩ => ⟨S16x16x4x4x128, .f32⟩
  | .hbm, ⟨92, _⟩ => ⟨S16x16x4x4x128, .f32⟩
  | .hbm, ⟨93, _⟩ => ⟨S16x16x4x4x128x1, .f32⟩
  | .hbm, ⟨94, _⟩ => ⟨S16x16x4x4x128x257, .f32⟩
  | .hbm, ⟨95, _⟩ => ⟨S16x16x4x4x128x257, .f32⟩
  | .hbm, ⟨96, _⟩ => ⟨S16x16x4x4x128x257, .f32⟩
  | .hbm, ⟨97, _⟩ => ⟨S_, .f32⟩
  | .hbm, ⟨98, _⟩ => ⟨S16x16x4x4x128, .f32⟩
  | .hbm, ⟨99, _⟩ => ⟨S16x16x4x4x128x1, .f32⟩
  | .hbm, ⟨100, _⟩ => ⟨S16x16x4x4x128x257, .f32⟩
  | .hbm, ⟨101, _⟩ => ⟨S16x16x4x4x128x257, .f32⟩
  | .hbm, ⟨102, _⟩ => ⟨S16x16x4x4x128x256, .f32⟩
  | .hbm, ⟨103, _⟩ => ⟨S16x16x4x64x4x128, .f32⟩
  | .hbm, ⟨104, _⟩ => ⟨S16x16x128x4x4x64, .f32⟩
  | .hbm, ⟨105, _⟩ => ⟨S16x2048x1024, .f32⟩
  | _, _ => ⟨S16x2048x4608, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_c : Ref sig .tc := ⟨.hbm, 10, rfl⟩
abbrev main_call0_v0 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_c_0 : Ref sig .tc := ⟨.hbm, 15, rfl⟩
abbrev main_call1_v0 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_c_1 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_c_2 : Ref sig .tc := ⟨.hbm, 31, rfl⟩
abbrev main_v24 : Ref sig .tc := ⟨.hbm, 32, rfl⟩
abbrev main_v25 : Ref sig .tc := ⟨.hbm, 33, rfl⟩
abbrev main_c_3 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_c_4 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_c_5 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_cst : Ref sig .tc := ⟨.hbm, 55, rfl⟩
abbrev main_v44 : Ref sig .tc := ⟨.hbm, 56, rfl⟩
abbrev main_v45 : Ref sig .tc := ⟨.hbm, 57, rfl⟩
abbrev main_cst_6 : Ref sig .tc := ⟨.hbm, 58, rfl⟩
abbrev main_v46 : Ref sig .tc := ⟨.hbm, 59, rfl⟩
abbrev main_v47 : Ref sig .tc := ⟨.hbm, 60, rfl⟩
abbrev main_cst_7 : Ref sig .tc := ⟨.hbm, 61, rfl⟩
abbrev main_v48 : Ref sig .tc := ⟨.hbm, 62, rfl⟩
abbrev main_v49 : Ref sig .tc := ⟨.hbm, 63, rfl⟩
abbrev main_cst_8 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_cst_9 : Ref sig .tc := ⟨.hbm, 79, rfl⟩
abbrev main_call2_v0 : Ref sig .tc := ⟨.hbm, 80, rfl⟩
abbrev main_call2_v1 : Ref sig .tc := ⟨.hbm, 81, rfl⟩
abbrev main_call2_v2 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_cst_10 : Ref sig .tc := ⟨.hbm, 88, rfl⟩
abbrev main_v69 : Ref sig .tc := ⟨.hbm, 89, rfl⟩
abbrev main_cst_11 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩
abbrev main_cst_12 : Ref sig .tc := ⟨.hbm, 97, rfl⟩
abbrev main_v76 : Ref sig .tc := ⟨.hbm, 98, rfl⟩
abbrev main_v77 : Ref sig .tc := ⟨.hbm, 99, rfl⟩
abbrev main_v78 : Ref sig .tc := ⟨.hbm, 100, rfl⟩
abbrev main_v79 : Ref sig .tc := ⟨.hbm, 101, rfl⟩
abbrev main_v80 : Ref sig .tc := ⟨.hbm, 102, rfl⟩
abbrev main_v81 : Ref sig .tc := ⟨.hbm, 103, rfl⟩
abbrev main_v82 : Ref sig .tc := ⟨.hbm, 104, rfl⟩
abbrev main_v83 : Ref sig .tc := ⟨.hbm, 105, rfl⟩

abbrev nD : Nat := 1
abbrev τ : Topo := Topo.v7x

variable {F : FTy → Type} [FloatOps F]
-- ==== Ffn.lean ====
abbrev S32768x2048 : Shape := ⟨2, ![32768, 2048]⟩
abbrev S1x2048 : Shape := ⟨2, ![1, 2048]⟩
abbrev S2048x5504 : Shape := ⟨2, ![2048, 5504]⟩
abbrev S5504x2048 : Shape := ⟨2, ![5504, 2048]⟩
abbrev S1024x2048 : Shape := ⟨2, ![1024, 2048]⟩
abbrev S2048x512 : Shape := ⟨2, ![2048, 512]⟩
abbrev S512x2048 : Shape := ⟨2, ![512, 2048]⟩
abbrev S256x2048 : Shape := ⟨2, ![256, 2048]⟩
abbrev S512 : Shape := ⟨1, ![512]⟩
abbrev S512x1 : Shape := ⟨2, ![512, 1]⟩
abbrev S2048x256 : Shape := ⟨2, ![2048, 256]⟩
abbrev S512x256 : Shape := ⟨2, ![512, 256]⟩
abbrev S1x256 : Shape := ⟨2, ![1, 256]⟩
abbrev S256x1 : Shape := ⟨2, ![256, 1]⟩

abbrev nBuf : Space → Nat
  | .hbm => 7
  | .vmem => 13
  | .smem => 0
  | _ => 0

abbrev bufTy : (tb : Table) → Fin (tcTables nBuf tb) → BufTy
  | .hbm, ⟨0, _⟩ => ⟨S32768x2048, .f32⟩
  | .hbm, ⟨1, _⟩ => ⟨S1x2048, .f32⟩
  | .hbm, ⟨2, _⟩ => ⟨S2048x5504, .bf16⟩
  | .hbm, ⟨3, _⟩ => ⟨S2048x5504, .bf16⟩
  | .hbm, ⟨4, _⟩ => ⟨S5504x2048, .bf16⟩
  | .hbm, ⟨5, _⟩ => ⟨S1x2048, .f32⟩
  | .hbm, ⟨6, _⟩ => ⟨S32768x2048, .f32⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S2048x512, .bf16⟩
  | .local _ .vmem, ⟨4, _⟩ => ⟨S2048x512, .bf16⟩
  | .local _ .vmem, ⟨5, _⟩ => ⟨S2048x512, .bf16⟩
  | .local _ .vmem, ⟨6, _⟩ => ⟨S2048x512, .bf16⟩
  | .local _ .vmem, ⟨7, _⟩ => ⟨S512x2048, .bf16⟩
  | .local _ .vmem, ⟨8, _⟩ => ⟨S512x2048, .bf16⟩
  | .local _ .vmem, ⟨9, _⟩ => ⟨S1x2048, .f32⟩
  | .local _ .vmem, ⟨10, _⟩ => ⟨S1024x2048, .f32⟩
  | .local _ .vmem, ⟨11, _⟩ => ⟨S1024x2048, .f32⟩
  | .local _ .vmem, ⟨12, _⟩ => ⟨S1024x2048, .bf16⟩
  | _, _ => ⟨S32768x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![32, 11], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg1 : BitVec 32 := BitVec.ofNat 32 (i 1).val
  let c0_i32_1 : BitVec 32 := 0#32
  let v3 : BitVec 1 := Scalar.cmpi .sgt arg1 c0_i32_1
  let c10_i32 : BitVec 32 := 10#32
  let v4 : BitVec 1 := Scalar.cmpi .slt arg1 c10_i32
  let v5 : BitVec 1 := Scalar.andi v3 v4
  let v6 : BitVec 32 := Scalar.extui v5
  let c0_i32_2 : BitVec 32 := 0#32
  let v7 : BitVec 1 := Scalar.cmpi .ne v6 c0_i32_2
  v7

def k0_cond3 (i : grid0.Coords) : BitVec 1 :=
  let arg1 : BitVec 32 := BitVec.ofNat 32 (i 1).val
  let c10_i32_3 : BitVec 32 := 10#32
  let v8 : BitVec 1 := Scalar.cmpi .eq arg1 c10_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1024x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== FfnRefIdeal.lean ====
abbrev S32768x2048 : Shape := ⟨2, ![32768, 2048]⟩
abbrev S1x2048 : Shape := ⟨2, ![1, 2048]⟩
abbrev S2048x5504 : Shape := ⟨2, ![2048, 5504]⟩
abbrev S5504x2048 : Shape := ⟨2, ![5504, 2048]⟩
abbrev S2048 : Shape := ⟨1, ![2048]⟩
abbrev S_ : Shape := ⟨0, ![]⟩
abbrev S32768 : Shape := ⟨1, ![32768]⟩
abbrev S32768x1 : Shape := ⟨2, ![32768, 1]⟩
abbrev S32768x5504 : Shape := ⟨2, ![32768, 5504]⟩

abbrev nBuf : Space → Nat
  | .hbm => 43
  | .vmem => 0
  | .smem => 0
  | _ => 0

abbrev bufTy : (tb : Table) → Fin (tcTables nBuf tb) → BufTy
  | .hbm, ⟨0, _⟩ => ⟨S32768x2048, .f32⟩
  | .hbm, ⟨1, _⟩ => ⟨S1x2048, .f32⟩
  | .hbm, ⟨2, _⟩ => ⟨S2048x5504, .bf16⟩
  | .hbm, ⟨3, _⟩ => ⟨S2048x5504, .bf16⟩
  | .hbm, ⟨4, _⟩ => ⟨S5504x2048, .bf16⟩
  | .hbm, ⟨5, _⟩ => ⟨S1x2048, .f32⟩
  | .hbm, ⟨6, _⟩ => ⟨S2048x5504, .f32⟩
  | .hbm, ⟨7, _⟩ => ⟨S2048x5504, .f32⟩
  | .hbm, ⟨8, _⟩ => ⟨S5504x2048, .f32⟩
  | .hbm, ⟨9, _⟩ => ⟨S2048, .f32⟩
  | .hbm, ⟨10, _⟩ => ⟨S32768x2048, .f32⟩
  | .hbm, ⟨11, _⟩ => ⟨S_, .f32⟩
  | .hbm, ⟨12, _⟩ => ⟨S32768, .f32⟩
  | .hbm, ⟨13, _⟩ => ⟨S32768x1, .f32⟩
  | .hbm, ⟨14, _⟩ => ⟨S_, .f32⟩
  | .hbm, ⟨15, _⟩ => ⟨S32768x1, .f32⟩
  | .hbm, ⟨16, _⟩ => ⟨S32768x1, .f32⟩
  | .hbm, ⟨17, _⟩ => ⟨S_, .f32⟩
  | .hbm, ⟨18, _⟩ => ⟨S32768x1, .f32⟩
  | .hbm, ⟨19, _⟩ => ⟨S32768x1, .f32⟩
  | .hbm, ⟨20, _⟩ => ⟨S32768x1, .f32⟩
  | .hbm, ⟨21, _⟩ => ⟨S32768x2048, .f32⟩
  | .hbm, ⟨22, _⟩ => ⟨S32768x2048, .f32⟩
  | .hbm, ⟨23, _⟩ => ⟨S1x2048, .f32⟩
  | .hbm, ⟨24, _⟩ => ⟨S32768x2048, .f32⟩
  | .hbm, ⟨25, _⟩ => ⟨S32768x2048, .f32⟩
  | .hbm, ⟨26, _⟩ => ⟨S32768x5504, .f32⟩
  | .hbm, ⟨27, _⟩ => ⟨S32768x5504, .f32⟩
  | .hbm, ⟨28, _⟩ => ⟨S32768x5504, .f32⟩
  | .hbm, ⟨29, _⟩ => ⟨S_, .f32⟩
  | .hbm, ⟨30, _⟩ => ⟨S32768x5504, .f32⟩
  | .hbm, ⟨31, _⟩ => ⟨S32768x5504, .f32⟩
  | .hbm, ⟨32, _⟩ => ⟨S_, .f32⟩
  | .hbm, ⟨33, _⟩ => ⟨S32768x5504, .f32⟩
  | .hbm, ⟨34, _⟩ => ⟨S32768x5504, .f32⟩
  | .hbm, ⟨35, _⟩ => ⟨S32768x5504, .f32⟩
  | .hbm, ⟨36, _⟩ => ⟨S32768x5504, .f32⟩
  | .hbm, ⟨37, _⟩ => ⟨S32768x5504, .f32⟩
  | .hbm, ⟨38, _⟩ => ⟨S32768x2048, .f32⟩
  | .hbm, ⟨39, _⟩ => ⟨S_, .f32⟩
  | .hbm, ⟨40, _⟩ => ⟨S32768x2048, .f32⟩
  | .hbm, ⟨41, _⟩ => ⟨S32768x2048, .f32⟩
  | .hbm, ⟨42, _⟩ => ⟨S32768x2048, .f32⟩
  | _, _ => ⟨S32768x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_call0_v0 : Ref sig .tc := ⟨.hbm, 27, rfl⟩
abbrev main_call0_v1 : Ref sig .tc := ⟨.hbm, 28, rfl⟩
abbrev main_call0_cst : Ref sig .tc := ⟨.hbm, 29, rfl⟩
abbrev main_call0_v2 : Ref sig .tc := ⟨.hbm, 30, rfl⟩
abbrev main_call0_v3 : Ref sig .tc := ⟨.hbm, 31, rfl⟩
abbrev main_call0_cst_0 : Ref sig .tc := ⟨.hbm, 32, rfl⟩
abbrev main_call0_v4 : Ref sig .tc := ⟨.hbm, 33, rfl⟩
abbrev main_call0_v5 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_cst_2 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩

abbrev nD : Nat := 1
abbrev τ : Topo := Topo.v7x

variable {F : FTy → Type} [FloatOps F]
-- ==== FfnOut.lean ====
abbrev S32768x2048 : Shape := ⟨2, ![32768, 2048]⟩
abbrev S1x2048 : Shape := ⟨2, ![1, 2048]⟩
abbrev S2048x5504 : Shape := ⟨2, ![2048, 5504]⟩
abbrev S5504x2048 : Shape := ⟨2, ![5504, 2048]⟩
abbrev S1024x2048 : Shape := ⟨2, ![1024, 2048]⟩
abbrev S2048x512 : Shape := ⟨2, ![2048, 512]⟩
abbrev S512x2048 : Shape := ⟨2, ![512, 2048]⟩
abbrev S256x2048 : Shape := ⟨2, ![256, 2048]⟩
abbrev S512 : Shape := ⟨1, ![512]⟩
abbrev S512x1 : Shape := ⟨2, ![512, 1]⟩
abbrev S2048x256 : Shape := ⟨2, ![2048, 256]⟩
abbrev S512x256 : Shape := ⟨2, ![512, 256]⟩
abbrev S1x256 : Shape := ⟨2, ![1, 256]⟩
abbrev S256x1 : Shape := ⟨2, ![256, 1]⟩

abbrev nBuf : Space → Nat
  | .hbm => 7
  | .vmem => 13
  | .smem => 0
  | _ => 0

abbrev bufTy : (tb : Table) → Fin (tcTables nBuf tb) → BufTy
  | .hbm, ⟨0, _⟩ => ⟨S32768x2048, .f32⟩
  | .hbm, ⟨1, _⟩ => ⟨S1x2048, .f32⟩
  | .hbm, ⟨2, _⟩ => ⟨S2048x5504, .bf16⟩
  | .hbm, ⟨3, _⟩ => ⟨S2048x5504, .bf16⟩
  | .hbm, ⟨4, _⟩ => ⟨S5504x2048, .bf16⟩
  | .hbm, ⟨5, _⟩ => ⟨S1x2048, .f32⟩
  | .hbm, ⟨6, _⟩ => ⟨S32768x2048, .f32⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S2048x512, .bf16⟩
  | .local _ .vmem, ⟨4, _⟩ => ⟨S2048x512, .bf16⟩
  | .local _ .vmem, ⟨5, _⟩ => ⟨S2048x512, .bf16⟩
  | .local _ .vmem, ⟨6, _⟩ => ⟨S2048x512, .bf16⟩
  | .local _ .vmem, ⟨7, _⟩ => ⟨S512x2048, .bf16⟩
  | .local _ .vmem, ⟨8, _⟩ => ⟨S512x2048, .bf16⟩
  | .local _ .vmem, ⟨9, _⟩ => ⟨S1x2048, .f32⟩
  | .local _ .vmem, ⟨10, _⟩ => ⟨S1024x2048, .f32⟩
  | .local _ .vmem, ⟨11, _⟩ => ⟨S1024x2048, .f32⟩
  | .local _ .vmem, ⟨12, _⟩ => ⟨S1024x2048, .bf16⟩
  | _, _ => ⟨S32768x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![32, 11], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg1 : BitVec 32 := BitVec.ofNat 32 (i 1).val
  let c0_i32_1 : BitVec 32 := 0#32
  let v3 : BitVec 1 := Scalar.cmpi .sgt arg1 c0_i32_1
  let c10_i32 : BitVec 32 := 10#32
  let v4 : BitVec 1 := Scalar.cmpi .slt arg1 c10_i32
  let v5 : BitVec 1 := Scalar.andi v3 v4
  let v6 : BitVec 32 := Scalar.extui v5
  let c0_i32_2 : BitVec 32 := 0#32
  let v7 : BitVec 1 := Scalar.cmpi .ne v6 c0_i32_2
  v7

def k0_cond3 (i : grid0.Coords) : BitVec 1 :=
  let arg1 : BitVec 32 := BitVec.ofNat 32 (i 1).val
  let c10_i32_3 : BitVec 32 := 10#32
  let v8 : BitVec 1 := Scalar.cmpi .eq arg1 c10_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1024x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== FfnOutRefIdeal.lean ====
abbrev S32768x2048 : Shape := ⟨2, ![32768, 2048]⟩
abbrev S1x2048 : Shape := ⟨2, ![1, 2048]⟩
abbrev S2048x5504 : Shape := ⟨2, ![2048, 5504]⟩
abbrev S5504x2048 : Shape := ⟨2, ![5504, 2048]⟩
abbrev S2048 : Shape := ⟨1, ![2048]⟩
abbrev S_ : Shape := ⟨0, ![]⟩
abbrev S32768 : Shape := ⟨1, ![32768]⟩
abbrev S32768x1 : Shape := ⟨2, ![32768, 1]⟩
abbrev S32768x5504 : Shape := ⟨2, ![32768, 5504]⟩

abbrev nBuf : Space → Nat
  | .hbm => 60
  | .vmem => 0
  | .smem => 0
  | _ => 0

abbrev bufTy : (tb : Table) → Fin (tcTables nBuf tb) → BufTy
  | .hbm, ⟨0, _⟩ => ⟨S32768x2048, .f32⟩
  | .hbm, ⟨1, _⟩ => ⟨S1x2048, .f32⟩
  | .hbm, ⟨2, _⟩ => ⟨S2048x5504, .bf16⟩
  | .hbm, ⟨3, _⟩ => ⟨S2048x5504, .bf16⟩
  | .hbm, ⟨4, _⟩ => ⟨S5504x2048, .bf16⟩
  | .hbm, ⟨5, _⟩ => ⟨S1x2048, .f32⟩
  | .hbm, ⟨6, _⟩ => ⟨S2048x5504, .f32⟩
  | .hbm, ⟨7, _⟩ => ⟨S2048x5504, .f32⟩
  | .hbm, ⟨8, _⟩ => ⟨S5504x2048, .f32⟩
  | .hbm, ⟨9, _⟩ => ⟨S2048, .f32⟩
  | .hbm, ⟨10, _⟩ => ⟨S32768x2048, .f32⟩
  | .hbm, ⟨11, _⟩ => ⟨S_, .f32⟩
  | .hbm, ⟨12, _⟩ => ⟨S32768, .f32⟩
  | .hbm, ⟨13, _⟩ => ⟨S32768x1, .f32⟩
  | .hbm, ⟨14, _⟩ => ⟨S_, .f32⟩
  | .hbm, ⟨15, _⟩ => ⟨S32768x1, .f32⟩
  | .hbm, ⟨16, _⟩ => ⟨S32768x1, .f32⟩
  | .hbm, ⟨17, _⟩ => ⟨S_, .f32⟩
  | .hbm, ⟨18, _⟩ => ⟨S32768x1, .f32⟩
  | .hbm, ⟨19, _⟩ => ⟨S32768x1, .f32⟩
  | .hbm, ⟨20, _⟩ => ⟨S32768x1, .f32⟩
  | .hbm, ⟨21, _⟩ => ⟨S32768x2048, .f32⟩
  | .hbm, ⟨22, _⟩ => ⟨S32768x2048, .f32⟩
  | .hbm, ⟨23, _⟩ => ⟨S1x2048, .f32⟩
  | .hbm, ⟨24, _⟩ => ⟨S32768x2048, .f32⟩
  | .hbm, ⟨25, _⟩ => ⟨S32768x2048, .f32⟩
  | .hbm, ⟨26, _⟩ => ⟨S32768x5504, .f32⟩
  | .hbm, ⟨27, _⟩ => ⟨S32768x5504, .f32⟩
  | .hbm, ⟨28, _⟩ => ⟨S32768x5504, .f32⟩
  | .hbm, ⟨29, _⟩ => ⟨S_, .f32⟩
  | .hbm, ⟨30, _⟩ => ⟨S32768x5504, .f32⟩
  | .hbm, ⟨31, _⟩ => ⟨S32768x5504, .f32⟩
  | .hbm, ⟨32, _⟩ => ⟨S_, .f32⟩
  | .hbm, ⟨33, _⟩ => ⟨S32768x5504, .f32⟩
  | .hbm, ⟨34, _⟩ => ⟨S32768x5504, .f32⟩
  | .hbm, ⟨35, _⟩ => ⟨S32768x5504, .f32⟩
  | .hbm, ⟨36, _⟩ => ⟨S32768x5504, .f32⟩
  | .hbm, ⟨37, _⟩ => ⟨S32768x5504, .f32⟩
  | .hbm, ⟨38, _⟩ => ⟨S32768x2048, .f32⟩
  | .hbm, ⟨39, _⟩ => ⟨S_, .f32⟩
  | .hbm, ⟨40, _⟩ => ⟨S32768x2048, .f32⟩
  | .hbm, ⟨41, _⟩ => ⟨S32768x2048, .f32⟩
  | .hbm, ⟨42, _⟩ => ⟨S32768x2048, .f32⟩
  | .hbm, ⟨43, _⟩ => ⟨S2048, .f32⟩
  | .hbm, ⟨44, _⟩ => ⟨S32768x2048, .f32⟩
  | .hbm, ⟨45, _⟩ => ⟨S_, .f32⟩
  | .hbm, ⟨46, _⟩ => ⟨S32768, .f32⟩
  | .hbm, ⟨47, _⟩ => ⟨S32768x1, .f32⟩
  | .hbm, ⟨48, _⟩ => ⟨S_, .f32⟩
  | .hbm, ⟨49, _⟩ => ⟨S32768x1, .f32⟩
  | .hbm, ⟨50, _⟩ => ⟨S32768x1, .f32⟩
  | .hbm, ⟨51, _⟩ => ⟨S_, .f32⟩
  | .hbm, ⟨52, _⟩ => ⟨S32768x1, .f32⟩
  | .hbm, ⟨53, _⟩ => ⟨S32768x1, .f32⟩
  | .hbm, ⟨54, _⟩ => ⟨S32768x1, .f32⟩
  | .hbm, ⟨55, _⟩ => ⟨S32768x2048, .f32⟩
  | .hbm, ⟨56, _⟩ => ⟨S32768x2048, .f32⟩
  | .hbm, ⟨57, _⟩ => ⟨S1x2048, .f32⟩
  | .hbm, ⟨58, _⟩ => ⟨S32768x2048, .f32⟩
  | .hbm, ⟨59, _⟩ => ⟨S32768x2048, .f32⟩
  | _, _ => ⟨S32768x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_call0_v0 : Ref sig .tc := ⟨.hbm, 27, rfl⟩
abbrev main_call0_v1 : Ref sig .tc := ⟨.hbm, 28, rfl⟩
abbrev main_call0_cst : Ref sig .tc := ⟨.hbm, 29, rfl⟩
abbrev main_call0_v2 : Ref sig .tc := ⟨.hbm, 30, rfl⟩
abbrev main_call0_v3 : Ref sig .tc := ⟨.hbm, 31, rfl⟩
abbrev main_call0_cst_0 : Ref sig .tc := ⟨.hbm, 32, rfl⟩
abbrev main_call0_v4 : Ref sig .tc := ⟨.hbm, 33, rfl⟩
abbrev main_call0_v5 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_cst_2 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_cst_3 : Ref sig .tc := ⟨.hbm, 45, rfl⟩
abbrev main_v27 : Ref sig .tc := ⟨.hbm, 46, rfl⟩
abbrev main_v28 : Ref sig .tc := ⟨.hbm, 47, rfl⟩
abbrev main_cst_4 : Ref sig .tc := ⟨.hbm, 48, rfl⟩
abbrev main_v29 : Ref sig .tc := ⟨.hbm, 49, rfl⟩
abbrev main_v30 : Ref sig .tc := ⟨.hbm, 50, rfl⟩
abbrev main_cst_5 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩

abbrev nD : Nat := 1
abbrev τ : Topo := Topo.v7x

variable {F : FTy → Type} [FloatOps F]
-- ==== Proof.Swa.Tile.lean ====
/-
  One output tile of the sliding-window attention's body, written once for all of them.

  A grid point of the kernel writes its block of 512 rows by 512 columns as sixteen tiles of 128 rows (`blk`) by 128
  columns (`c`: two heads side by side). The printed body spells the sixteen out; here one tile is a function of `blk` and `c`,
  and `Body.lean` shows that each printed tile is it.
-/
module

public import proofs.«01_k».proof.Proof.Gen.SwaIdeal.Value
public import Idealize.ShloMosaic.Lib.Tactic
public import Idealize.ShloMosaic.Lib.ValueIdx

@[expose] public section

noncomputable section

namespace Cert.SwaIdeal.Tile

open Cert.SwaIdeal Cert.SwaIdeal.Gen Idealize.ShloMosaic Idealize.ShloMosaic.TcCoe Idealize.SL.Sem ValueIdx

variable {F : FTy → Type} [FloatOps F] [Named F]

/-- The 128 rows before a block of keys (or values), then the block's 512 rows. -/
def strip (prev : Vec F S1x128x128 .bf16) (cur : Vec F S1x512x128 .bf16) : FVec F S640x128 .bf16 :=
  concatenate S640x128 0 [⟨S128x128, shapeCast S128x128 prev shapeCasts_S1x128x128_S128x128⟩,
    ⟨S512x128, shapeCast S512x128 cur shapeCasts_S1x512x128_S512x128⟩] concatenates_S128x128_S512x128_S640x128_d0

/-- The two heads of a strip exchanged: lanes 64 to 127 first. -/
def swapped (x : FVec F S640x128 .bf16) : FVec F S640x128 .bf16 :=
  concatenate S640x128 1 [⟨S640x64, extractStridedSlice S640x64 ![0, 64] x slices_S640x128_o0_64_S640x64⟩,
    ⟨S640x64, extractStridedSlice S640x64 ![0, 0] x slices_S640x128_o0_0_S640x64⟩] concatenates_S640x64_S640x64_S640x128_d1

/-- The strip with key head `kv` in the lanes of parity `par`. -/
def headAt (kv par : Nat) (x : FVec F S640x128 .bf16) : FVec F S640x128 .bf16 :=
  bif kv == par then x else swapped x

/-- The lane's number. -/
def lane : IVec S128x128 32 := iota .tc S128x128 32 [1] iota_S128x128_d1_w32

/-- The lanes of parity `par`: the lower 64 for 0, the upper 64 otherwise. -/
def inHalf (par : Nat) : IVec S128x128 1 :=
  bif par == 0 then cmpi .slt lane (broadcast S128x128 64#32) else cmpi .sge lane (broadcast S128x128 64#32)

/-- The rows of two query tiles stacked, with the other parity's lanes zeroed. -/
def stacked (par : Nat) (qa qb : Vec F S1x128x128 .bf16) : FVec F S256x128 .bf16 :=
  concatenate S256x128 0
    [⟨S128x128, select (inHalf par) (shapeCast S128x128 qa shapeCasts_S1x128x128_S128x128)
      (broadcast S128x128 (Scalar.ofBits (F := F) .bf16 0x0000#16))⟩,
     ⟨S128x128, select (inHalf par) (shapeCast S128x128 qb shapeCasts_S1x128x128_S128x128)
      (broadcast S128x128 (Scalar.ofBits (F := F) .bf16 0x0000#16))⟩] concatenates_S128x128_S128x128_S256x128_d0

theorem slices_window (blk : Fin 4) : S640x128.Slices ![128 * blk.val, 0] S256x128 :=
  ⟨rfl, fun a => match a with
    | ⟨0, _⟩ => by have := blk.isLt; show 128 * blk.val + 256 ≤ 640; omega
    | ⟨1, _⟩ => by show 0 + 128 ≤ 128; omega⟩

/-- Rows `128·blk` to `128·blk + 255` of a strip. -/
def window (blk : Fin 4) (x : FVec F S640x128 .bf16) : FVec F S256x128 .bf16 :=
  extractStridedSlice S256x128 ![128 * blk.val, 0] x (slices_window blk)

/-- The scores of 256 stacked rows against 256 keys, less the distance's share; with `first`, no key where `np` holds. -/
def scores (first : Bool) (np : IVec S256x256 1) (q k : FVec F S256x128 .bf16) (bias : Vec F S1x256x256 .f32) :
    FVec F S256x256 .f32 :=
  bif first then
    select np (broadcast S256x256 (Named.named κ "mask" 0xF149F2CA#32 : F .f32))
      (subf (matmul dot_S256x128_S256x128_S256x256_1_1_0_0_n_n none q k (constant S256x256 .f32 0x00000000#32))
        (shapeCast S256x256 bias shapeCasts_S1x256x256_S256x256))
  else
    subf (matmul dot_S256x128_S256x128_S256x256_1_1_0_0_n_n none q k (constant S256x256 .f32 0x00000000#32))
      (shapeCast S256x256 bias shapeCasts_S1x256x256_S256x256)

/-- Each row's maximum of its scores and its sink. -/
def top (s : FVec F S256x256 .f32) (sink : FVec F S256x1 .f32) : FVec F S256x1 .f32 :=
  maximumf (shapeCast S256x1 (multiReduction .maximumf [1] S256 s 0xFF800000#32 reduces_S256x256_S256 (.inl rfl) rfl)
    shapeCasts_S256_S256x1) sink

/-- The exponentials of the scores less the row's maximum. -/
def expo (s : FVec F S256x256 .f32) (sink : FVec F S256x1 .f32) : FVec F S256x256 .f32 :=
  exp (subf s (broadcastTo S256x256 (top s sink) broadcasts_S256x1_S256x256))

/-- Their sum, with the sink's own exponential. -/
def denom (s : FVec F S256x256 .f32) (sink : FVec F S256x1 .f32) : FVec F S256x1 .f32 :=
  addf (shapeCast S256x1 (multiReduction .add [1] S256 (expo s sink) 0x00000000#32 reduces_S256x256_S256 (.inl rfl) rfl)
    shapeCasts_S256_S256x1) (exp (subf sink (top s sink)))

/-- The values weighed by the exponentials, times one over their sum. -/
def weighed (s : FVec F S256x256 .f32) (sink : FVec F S256x1 .f32) (v : FVec F S256x128 .bf16) : FVec F S256x128 .f32 :=
  mulf (matmul dot_S256x256_S256x128_S256x128_1_0_0_1_n_n none (truncf .bf16 (expo s sink) bitsLt_bf16_f32) v
      (constant S256x128 .f32 0x00000000#32))
    (broadcastTo S256x128 (divf (broadcast S256x1 (Scalar.ofBits (F := F) .f32 0x3F800000#32)) (denom s sink))
      broadcasts_S256x1_S256x128)

/-- Rows 128 to 255, for head pair `half = 1` above head pair 0. -/
def halfOf (half : Nat) (r : FVec F S256x128 .f32) : FVec F S128x128 .f32 :=
  bif half == 0 then extractStridedSlice S128x128 ![0, 0] r slices_S256x128_o0_0_S128x128
  else extractStridedSlice S128x128 ![128, 0] r slices_S256x128_o128_0_S128x128

/-- The lower lanes of one result beside the upper lanes of the other. -/
def merged (half : Nat) (r0 r1 : FVec F S256x128 .f32) : FVec F S1x128x128 .f32 :=
  shapeCast S1x128x128 (select (inHalf 0) (halfOf half r0) (halfOf half r1)) shapeCasts_S128x128_S1x128x128

theorem inb_q (blk c : Fin 4) : ∀ a : Fin 3, (![0, 128 * blk.val, 128 * c.val] : Fin 3 → Nat) a + S1x128x128.size a ≤ S1x512x512.size a :=
  fun a => match a with
    | ⟨0, _⟩ => by show 0 + 1 ≤ 1; omega
    | ⟨1, _⟩ => by have := blk.isLt; show 128 * blk.val + 128 ≤ 512; omega
    | ⟨2, _⟩ => by have := c.isLt; show 128 * c.val + 128 ≤ 512; omega

/-- Where tile `(blk, c)` lies in the block. -/
abbrev rectQ (blk c : Fin 4) : Rect S1x512x512 := Rect.unit (s := S1x512x512) ![0, 128 * blk.val, 128 * c.val] S1x128x128.size (inb_q blk c)

/-- The tile of queries at rows `128·blk` and columns `128·c`. -/
def queries (x2 : Vec F S1x512x512 .bf16) (blk c : Fin 4) : Vec F S1x128x128 .bf16 := View.ld x2 (rectQ blk c)

theorem inb_bias (i : Fin 4) : ∀ a : Fin 3, (![i.val, 0, 0] : Fin 3 → Nat) a + S1x256x256.size a ≤ S4x256x256.size a :=
  fun a => match a with
    | ⟨0, _⟩ => by have := i.isLt; show i.val + 1 ≤ 4; omega
    | ⟨1, _⟩ => by show 0 + 256 ≤ 256; omega
    | ⟨2, _⟩ => by show 0 + 256 ≤ 256; omega

/-- Chain `i`'s slab of the distance shares. -/
def biasOf (xs : Vec F S4x256x256 .f32) (i : Fin 4) : Vec F S1x256x256 .f32 :=
  View.ld xs (Rect.unit (s := S4x256x256) ![i.val, 0, 0] S1x256x256.size (inb_bias i))

/-- The chain of key head `kv` and parity `par`: `2·kv + par`. -/
def chainIdx (kv par : Fin 2) : Fin 4 := ⟨2 * kv.val + par.val, by omega⟩

/-- The key head of tile column `c`, and its first column of tiles. -/
def kvOf (c : Fin 4) : Fin 2 := ⟨c.val / 2, by omega⟩
def colA (c : Fin 4) : Fin 4 := ⟨2 * (c.val / 2), by omega⟩
def colB (c : Fin 4) : Fin 4 := ⟨2 * (c.val / 2) + 1, by omega⟩

/-- What one chain leaves for its 256 stacked rows. -/
def chain (np : IVec S256x256 1) (k v : FVec F S640x128 .bf16) (sinks : Fin 4 → FVec F S256x1 .f32)
    (x2 : Vec F S1x512x512 .bf16) (xs : Vec F S4x256x256 .f32) (blk c : Fin 4) (par : Fin 2) : FVec F S256x128 .f32 :=
  weighed
    (scores (blk.val == 0) np (stacked par.val (queries x2 blk (colA c)) (queries x2 blk (colB c)))
      (window blk (headAt (kvOf c).val par.val k)) (biasOf xs (chainIdx (kvOf c) par)))
    (sinks (chainIdx (kvOf c) par)) (window blk (headAt (kvOf c).val par.val v))

/-- The tile at rows `128·blk` and columns `128·c`. -/
def tile (np : IVec S256x256 1) (k v : FVec F S640x128 .bf16) (sinks : Fin 4 → FVec F S256x1 .f32)
    (x2 : Vec F S1x512x512 .bf16) (xs : Vec F S4x256x256 .f32) (blk c : Fin 4) : FVec F S1x128x128 .f32 :=
  merged (c.val % 2) (chain np k v sinks x2 xs blk c 0) (chain np k v sinks x2 xs blk c 1)

/-- The block made of its sixteen tiles. -/
def block (np : IVec S256x256 1) (k v : FVec F S640x128 .bf16) (sinks : Fin 4 → FVec F S256x1 .f32)
    (x2 : Vec F S1x512x512 .bf16) (xs : Vec F S4x256x256 .f32) : Vec F S1x512x512 .f32 := fun y =>
  tile np k v sinks x2 xs ⟨(y 1).val / 128, by have h : (y 1).val < 512 := (y 1).isLt; omega⟩
    ⟨(y 2).val / 128, by have h : (y 2).val < 512 := (y 2).isLt; omega⟩
    (ix3 (0 : Fin 1) ⟨(y 1).val % 128, Nat.mod_lt _ (by decide)⟩ ⟨(y 2).val % 128, Nat.mod_lt _ (by decide)⟩)

/-- The block at an index of tile `(blk, c)` is the tile at that index. -/
theorem block_emb (np : IVec S256x256 1) (k v : FVec F S640x128 .bf16) (sinks : Fin 4 → FVec F S256x1 .f32)
    (x2 : Vec F S1x512x512 .bf16) (xs : Vec F S4x256x256 .f32) (blk c : Fin 4) (j : S1x128x128.Idx) :
    block np k v sinks x2 xs ((rectQ blk c).emb j) = tile np k v sinks x2 xs blk c j := by
  have h0 : (j 0).val < 1 := (j 0).isLt
  have h1 : (j 1).val < 128 := (j 1).isLt
  have h2 : (j 2).val < 128 := (j 2).isLt
  have e1 : (((rectQ blk c).emb j) 1).val = 128 * blk.val + (j 1).val := by
    show 128 * blk.val + 1 * (j 1).val = _; omega
  have e2 : (((rectQ blk c).emb j) 2).val = 128 * c.val + (j 2).val := by
    show 128 * c.val + 1 * (j 2).val = _; omega
  unfold block
  have hb : (⟨(((rectQ blk c).emb j) 1).val / 128, by rw [e1]; omega⟩ : Fin 4) = blk := Fin.ext (by show _ / 128 = _; omega)
  have hc : (⟨(((rectQ blk c).emb j) 2).val / 128, by rw [e2]; omega⟩ : Fin 4) = c := Fin.ext (by show _ / 128 = _; omega)
  rw [hb, hc]
  congr 1
  funext a
  match a with
  | ⟨0, _⟩ => exact Fin.ext (by show 0 = (j 0).val; omega)
  | ⟨1, _⟩ => exact Fin.ext (by show (((rectQ blk c).emb j) 1).val % 128 = (j 1).val; omega)
  | ⟨2, _⟩ => exact Fin.ext (by show (((rectQ blk c).emb j) 2).val % 128 = (j 2).val; omega)

end Cert.SwaIdeal.Tile
-- ==== Proof.Swa.Body.lean ====
/-
  What the sliding-window attention's body leaves in its output block: the sixteen tiles of `Tile.lean`, in both of the
  body's cases (with and without the distances' scratch being filled first).
-/
module

public import proofs.«01_k».proof.Proof.Swa.Tile

@[expose] public section

noncomputable section

namespace Cert.SwaIdeal.Tile

open Cert.SwaIdeal Cert.SwaIdeal.Gen Idealize.ShloMosaic Idealize.ShloMosaic.TcCoe Idealize.SL.Sem

variable {F : FTy → Type} [FloatOps F] [Named F]

/-- The sink of head `8·p + r`, as the body reads it at a point of column `p`. -/
def sinkElt (i : grid0.Coords) (x1 : Vec F S16 .f32) (r : Fin 8) : Elt F .f32 :=
  View.ld x1 (Rect.unit (s := S16) (k0_off2 i (BitVec.ofNat 32 r.val)) S1.size (k0_off2_inb i r))
    (Shape.Idx.first (show 0 < S1.numel by decide))

/-- The sinks of one chain's 256 stacked rows: head `r` for the first 128, head `r + 2` for the rest. -/
def sinkRows (i : grid0.Coords) (x1 : Vec F S16 .f32) (ra rb : Fin 8) : FVec F S256x1 .f32 :=
  select (cmpi .sge (iota .tc S256x1 32 [0] iota_S256x1_d0_w32) (broadcast S256x1 128#32))
    (broadcast S256x1 (sinkElt i x1 rb)) (broadcast S256x1 (sinkElt i x1 ra))

/-- The four chains' sinks. -/
def sinksOf (i : grid0.Coords) (x1 : Vec F S16 .f32) (ch : Fin 4) : FVec F S256x1 .f32 :=
  match ch with
  | 0 => sinkRows i x1 0 2
  | 1 => sinkRows i x1 1 3
  | 2 => sinkRows i x1 4 6
  | 3 => sinkRows i x1 5 7

/-- Where the first tile of rows has no keys before it: the first 128 keys, at the first point of a sequence. -/
def noPrev (i : grid0.Coords) : IVec S256x256 1 :=
  andi (broadcast S256x256 (Scalar.cmpi .eq (BitVec.ofNat 32 (i 2).val) 0#32))
    (cmpi .slt (iota .tc S256x256 32 [1] iota_S256x256_d1_w32) (broadcast S256x256 128#32))

/-- The strip of a previous tile and a block, both read whole. -/
def stripLd (prev : Vec F S1x128x128 .bf16) (cur : Vec F S1x512x128 .bf16) : FVec F S640x128 .bf16 :=
  strip (View.ld prev (Rect.unit (s := S1x128x128) ![0, 0, 0] S1x128x128.size inb_S1x128x128_S1x128x128_0_0_0))
    (View.ld cur (Rect.unit (s := S1x512x128) ![0, 0, 0] S1x512x128.size inb_S1x512x128_S1x512x128_0_0_0))

/-- The block that a point leaves, of its inputs and of the distance shares `xs`. -/
def outBlock (i : grid0.Coords) (x1 : Vec F S16 .f32) (x2 : Vec F S1x512x512 .bf16) (x3 : Vec F S1x128x128 .bf16)
    (x4 : Vec F S1x512x128 .bf16) (x5 : Vec F S1x128x128 .bf16) (x6 : Vec F S1x512x128 .bf16)
    (xs : Vec F S4x256x256 .f32) : Vec F S1x512x512 .f32 :=
  block (noPrev i) (stripLd x3 x4) (stripLd x5 x6) (sinksOf i x1) x2 xs

set_option maxHeartbeats 4000000 in
/-- With the scratch as the point before left it, the body leaves the block of those distance shares. -/
theorem out_B (c : Dev nD) (i : grid0.Coords) (arg3 : Memref sig .tc .smem S16 .f32) (harg3 : arg3.IsWhole) (arg4 : Memref sig .tc .smem S16 .f32) (harg4 : arg4.IsWhole) (arg5 : Memref sig .tc .vmem S1x512x512 .bf16) (harg5 : arg5.IsWhole) (arg6 : Memref sig .tc .vmem S1x128x128 .bf16) (harg6 : arg6.IsWhole) (arg7 : Memref sig .tc .vmem S1x512x128 .bf16) (harg7 : arg7.IsWhole) (arg8 : Memref sig .tc .vmem S1x128x128 .bf16) (harg8 : arg8.IsWhole) (arg9 : Memref sig .tc .vmem S1x512x128 .bf16) (harg9 : arg9.IsWhole) (arg10 : Memref sig .tc .vmem S1x512x512 .f32) (harg10 : arg10.IsWhole) (arg11 : Memref sig .tc .vmem S4x256x256 .f32) (harg11 : arg11.IsWhole) (hc0 : ¬cond0_0 i)
    (x0 : Vec F S16 .f32) (x1 : Vec F S16 .f32) (x2 : Vec F S1x512x512 .bf16) (x3 : Vec F S1x128x128 .bf16) (x4 : Vec F S1x512x128 .bf16) (x5 : Vec F S1x128x128 .bf16) (x6 : Vec F S1x512x128 .bf16) (xs0 : Vec F S4x256x256 .f32) :
    out0_B_7 c i arg3 harg3 arg4 harg4 arg5 harg5 arg6 harg6 arg7 harg7 arg8 harg8 arg9 harg9 arg10 harg10 arg11 harg11 hc0 x0 x1 x2 x3 x4 x5 x6 xs0
      = outBlock i x1 x2 x3 x4 x5 x6 xs0 := by
  funext y
  have cov := cover0_B_7 c i arg3 harg3 arg4 harg4 arg5 harg5 arg6 harg6 arg7 harg7 arg8 harg8 arg9 harg9 arg10 harg10 arg11 harg11 hc0 x0 x1 x2 x3 x4 x5 x6 xs0
  unfold out0_B_7
  rw [View.read_writes_eq_canon _ _ _ cov]
  refine View.canon_apply_of_pieces (outBlock i x1 x2 x3 x4 x5 x6 xs0) _ (fun p hp j => ?_) y (cov y)
  clear cov
  unfold kernelRun0_B at hp
  dsimp only at hp
  simp only [List.mem_cons, List.mem_nil_iff, or_false] at hp
  have E := block_emb (noPrev i) (stripLd x3 x4) (stripLd x5 x6) (sinksOf i x1) x2 xs0
  rcases hp with rfl | rfl | rfl | rfl | rfl | rfl | rfl | rfl | rfl | rfl | rfl | rfl | rfl | rfl | rfl | rfl
  all_goals
    dsimp only
    sl_unfold_words
    simp only [View.readAt_eq_ld, harg3.read_unread, harg4.read_unread, harg5.read_unread, harg6.read_unread, harg7.read_unread, harg8.read_unread, harg9.read_unread, harg11.read_unread]
  · exact (E 3 3 j).symm
  · exact (E 3 2 j).symm
  · exact (E 2 3 j).symm
  · exact (E 2 2 j).symm
  · exact (E 1 3 j).symm
  · exact (E 1 2 j).symm
  · exact (E 0 3 j).symm
  · exact (E 0 2 j).symm
  · exact (E 3 1 j).symm
  · exact (E 3 0 j).symm
  · exact (E 2 1 j).symm
  · exact (E 2 0 j).symm
  · exact (E 1 1 j).symm
  · exact (E 1 0 j).symm
  · exact (E 0 1 j).symm
  · exact (E 0 0 j).symm

end Cert.SwaIdeal.Tile
-- ==== Proof.Swa.Fill.lean ====
/-
  What the body that fills the scratch of distance shares leaves: the four slabs.
-/
module

public import proofs.«01_k».proof.Proof.Swa.Body

@[expose] public section

noncomputable section

namespace Cert.SwaIdeal.Tile

open Cert.SwaIdeal Cert.SwaIdeal.Gen Idealize.ShloMosaic Idealize.ShloMosaic.TcCoe Idealize.SL.Sem

variable {F : FTy → Type} [FloatOps F] [Named F]

/-- Row `q`, key `k`: the distance `q mod 128 + 128 - k`. -/
def dist : IVec S256x256 32 :=
  subi (addi (andi (iota .tc S256x256 32 [0] iota_S256x256_d0_w32) (broadcast S256x256 127#32)) (broadcast S256x256 128#32))
    (iota .tc S256x256 32 [1] iota_S256x256_d1_w32)

/-- The distances of the window: from 0 to 127. -/
def inWindow : IVec S256x256 1 :=
  andi (cmpi .sge dist (broadcast S256x256 0#32)) (cmpi .slt dist (broadcast S256x256 128#32))

/-- One chain's slab of distance shares, of its rows' slopes. -/
def slab (slopes : FVec F S256x1 .f32) : FVec F S1x256x256 .f32 :=
  shapeCast S1x256x256
    (select inWindow (mulf (broadcastTo S256x256 slopes broadcasts_S256x1_S256x256) (sitofp .f32 dist))
      (broadcast S256x256 (Named.named κ "masked" 0x7149F2CA#32 : F .f32))) shapeCasts_S256x256_S1x256x256

/-- The four slabs, last written first. -/
def slabs (i : grid0.Coords) (x0 : Vec F S16 .f32) : List (View.Piece (Elt F) S4x256x256 .f32) :=
  [⟨Rect.unit ![3, 0, 0] S1x256x256.size (inb_bias 3), slab (sinksOf i x0 3)⟩,
   ⟨Rect.unit ![2, 0, 0] S1x256x256.size (inb_bias 2), slab (sinksOf i x0 2)⟩,
   ⟨Rect.unit ![1, 0, 0] S1x256x256.size (inb_bias 1), slab (sinksOf i x0 1)⟩,
   ⟨Rect.unit ![0, 0, 0] S1x256x256.size (inb_bias 0), slab (sinksOf i x0 0)⟩]

/-- The scratch that a body filling it leaves: the four slabs. -/
theorem scratch_A (c : Dev nD) (i : grid0.Coords) (arg3 : Memref sig .tc .smem S16 .f32) (harg3 : arg3.IsWhole) (arg4 : Memref sig .tc .smem S16 .f32) (harg4 : arg4.IsWhole) (arg5 : Memref sig .tc .vmem S1x512x512 .bf16) (harg5 : arg5.IsWhole) (arg6 : Memref sig .tc .vmem S1x128x128 .bf16) (harg6 : arg6.IsWhole) (arg7 : Memref sig .tc .vmem S1x512x128 .bf16) (harg7 : arg7.IsWhole) (arg8 : Memref sig .tc .vmem S1x128x128 .bf16) (harg8 : arg8.IsWhole) (arg9 : Memref sig .tc .vmem S1x512x128 .bf16) (harg9 : arg9.IsWhole) (arg10 : Memref sig .tc .vmem S1x512x512 .f32) (harg10 : arg10.IsWhole) (arg11 : Memref sig .tc .vmem S4x256x256 .f32) (harg11 : arg11.IsWhole) (hc0 : cond0_0 i)
    (x0 : Vec F S16 .f32) (x1 : Vec F S16 .f32) (x2 : Vec F S1x512x512 .bf16) (x3 : Vec F S1x128x128 .bf16) (x4 : Vec F S1x512x128 .bf16) (x5 : Vec F S1x128x128 .bf16) (x6 : Vec F S1x512x128 .bf16) :
    sout0_A_0 c i arg3 harg3 arg4 harg4 arg5 harg5 arg6 harg6 arg7 harg7 arg8 harg8 arg9 harg9 arg10 harg10 arg11 harg11 hc0 x0 x1 x2 x3 x4 x5 x6
      = View.canon (slabs i x0) := by
  have cov := scover0_A_0 c i arg3 harg3 arg4 harg4 arg5 harg5 arg6 harg6 arg7 harg7 arg8 harg8 arg9 harg9 arg10 harg10 arg11 harg11 hc0 x0 x1 x2 x3 x4 x5 x6
  unfold sout0_A_0
  rw [View.read_writes_eq_canon _ _ _ cov]
  unfold kernelRun0_A
  dsimp only
  sl_unfold_words
  simp only [View.readAt_eq_ld, harg3.read_unread]
  rfl

/-- A load through a box of the writes so far reads their canon there. -/
theorem readCov_ld {κ : Kind} {sp : Space} (v : View sig κ sp S4x256x256 .f32)
    (L : List (View.Piece (Elt F) S4x256x256 .f32)) (r : Rect S4x256x256) :
    v.readCov L r.toLoadRect = View.ld (View.canon L) r := View.readCov_eq_canon' v L _

end Cert.SwaIdeal.Tile
-- ==== Proof.Swa.FillOut.lean ====
/-
  What the body that fills the scratch of distance shares leaves in its output: the block of the slabs just written.
-/
module

public import proofs.«01_k».proof.Proof.Swa.Fill

@[expose] public section

noncomputable section

namespace Cert.SwaIdeal.Tile

open Cert.SwaIdeal Cert.SwaIdeal.Gen Idealize.ShloMosaic Idealize.ShloMosaic.TcCoe Idealize.SL.Sem

variable {F : FTy → Type} [FloatOps F] [Named F]

set_option maxHeartbeats 4000000 in
/-- With the scratch filled by the body itself, it leaves the block of the distance shares just written. -/
theorem out_A (c : Dev nD) (i : grid0.Coords) (arg3 : Memref sig .tc .smem S16 .f32) (harg3 : arg3.IsWhole) (arg4 : Memref sig .tc .smem S16 .f32) (harg4 : arg4.IsWhole) (arg5 : Memref sig .tc .vmem S1x512x512 .bf16) (harg5 : arg5.IsWhole) (arg6 : Memref sig .tc .vmem S1x128x128 .bf16) (harg6 : arg6.IsWhole) (arg7 : Memref sig .tc .vmem S1x512x128 .bf16) (harg7 : arg7.IsWhole) (arg8 : Memref sig .tc .vmem S1x128x128 .bf16) (harg8 : arg8.IsWhole) (arg9 : Memref sig .tc .vmem S1x512x128 .bf16) (harg9 : arg9.IsWhole) (arg10 : Memref sig .tc .vmem S1x512x512 .f32) (harg10 : arg10.IsWhole) (arg11 : Memref sig .tc .vmem S4x256x256 .f32) (harg11 : arg11.IsWhole) (hc0 : cond0_0 i)
    (x0 : Vec F S16 .f32) (x1 : Vec F S16 .f32) (x2 : Vec F S1x512x512 .bf16) (x3 : Vec F S1x128x128 .bf16) (x4 : Vec F S1x512x128 .bf16) (x5 : Vec F S1x128x128 .bf16) (x6 : Vec F S1x512x128 .bf16) :
    out0_A_7 c i arg3 harg3 arg4 harg4 arg5 harg5 arg6 harg6 arg7 harg7 arg8 harg8 arg9 harg9 arg10 harg10 arg11 harg11 hc0 x0 x1 x2 x3 x4 x5 x6
      = outBlock i x1 x2 x3 x4 x5 x6 (View.canon (slabs i x0)) := by
  obtain ⟨G, hG⟩ : ∃ G, G = View.canon (slabs i x0) := ⟨_, rfl⟩
  rw [← hG]
  funext y
  have cov := cover0_A_7 c i arg3 harg3 arg4 harg4 arg5 harg5 arg6 harg6 arg7 harg7 arg8 harg8 arg9 harg9 arg10 harg10 arg11 harg11 hc0 x0 x1 x2 x3 x4 x5 x6
  unfold out0_A_7
  rw [View.read_writes_eq_canon _ _ _ cov]
  refine View.canon_apply_of_pieces (outBlock i x1 x2 x3 x4 x5 x6 G) _ (fun p hp j => ?_) y (cov y)
  clear cov
  unfold kernelRun0_A at hp
  dsimp only at hp
  simp only [List.mem_cons, List.mem_nil_iff, or_false] at hp
  have E := block_emb (noPrev i) (stripLd x3 x4) (stripLd x5 x6) (sinksOf i x1) x2 G
  rcases hp with rfl | rfl | rfl | rfl | rfl | rfl | rfl | rfl | rfl | rfl | rfl | rfl | rfl | rfl | rfl | rfl
  all_goals
    dsimp only
    sl_unfold_words
    simp only [View.readAt_eq_ld, harg3.read_unread, harg4.read_unread, harg5.read_unread, harg6.read_unread, harg7.read_unread, harg8.read_unread, harg9.read_unread, harg11.read_unread, readCov_ld]
    generalize hX : View.canon (Val := Elt F) (s := S4x256x256) (e := .f32) _ = X
    have hXG : X = G := by
      rw [← hX, hG]
      rfl
    subst hXG
    clear hX
  · exact (E 3 3 j).symm
  · exact (E 3 2 j).symm
  · exact (E 2 3 j).symm
  · exact (E 2 2 j).symm
  · exact (E 1 3 j).symm
  · exact (E 1 2 j).symm
  · exact (E 0 3 j).symm
  · exact (E 0 2 j).symm
  · exact (E 3 1 j).symm
  · exact (E 3 0 j).symm
  · exact (E 2 1 j).symm
  · exact (E 2 0 j).symm
  · exact (E 1 1 j).symm
  · exact (E 1 0 j).symm
  · exact (E 0 1 j).symm
  · exact (E 0 0 j).symm

end Cert.SwaIdeal.Tile
-- ==== Proof.Swa.Row.lean ====
/-
  One row of softmax attention with a sink, over the extended reals: the weighed values times one over the exponentials' sum
  (the kernel's order) are the values summed with the normalised weights (the reference's order).
-/
module

public import Idealize.ShloMosaic.Lib.ValueIdx

@[expose] public section

noncomputable section

namespace Cert.SwaRow

open Idealize.ShloMosaic

/-- The largest of 256 scores and the sink. -/
def peak (s : Fin 256 → EReal) (z : EReal) : EReal := max ((Finset.univ : Finset (Fin 256)).fold max ⊥ s) z

/-- The exponentials' sum, the sink's own last. -/
def total (s : Fin 256 → EReal) (z : EReal) : EReal :=
  (∑ k, Ideal.exp (s k - peak s z)) + Ideal.exp (z - peak s z)

/-- The kernel's order: weigh the values by the exponentials, then multiply by one over their sum. -/
def kerRow (s v : Fin 256 → EReal) (z : EReal) : EReal :=
  (∑ k, Ideal.exp (s k - peak s z) * v k) * Ideal.div 1 (total s z)

/-- The scores with the sink in the last place. -/
def joined (s : Fin 256 → EReal) (z : EReal) : Fin 257 → EReal := fun k =>
  if h : k.val < 256 then s ⟨k.val, h⟩ else z

/-- The reference's maximum over scores and sink. -/
def refPeak (s : Fin 256 → EReal) (z : EReal) : EReal :=
  max ⊥ ((Finset.univ : Finset (Fin 257)).fold max ⊥ (joined s z))

/-- The reference's sum of exponentials over scores and sink. -/
def refTotal (s : Fin 256 → EReal) (z : EReal) : EReal :=
  0 + ∑ k : Fin 257, Ideal.exp (joined s z k - refPeak s z)

/-- The reference's order: normalise each weight, then sum the weighed values. -/
def refRow (s v : Fin 256 → EReal) (z : EReal) : EReal :=
  ∑ k : Fin 256, v k * Ideal.div (Ideal.exp (s k - refPeak s z)) (refTotal s z)

theorem joined_castSucc (s : Fin 256 → EReal) (z : EReal) (k : Fin 256) : joined s z k.castSucc = s k := by
  unfold joined
  rw [dif_pos (show k.castSucc.val < 256 from k.isLt)]
  rfl

theorem joined_last (s : Fin 256 → EReal) (z : EReal) : joined s z (Fin.last 256) = z := by
  unfold joined
  rw [dif_neg (by simp)]

theorem refPeak_eq (s : Fin 256 → EReal) (z : EReal) : refPeak s z = peak s z := by
  unfold refPeak peak
  show max ⊥ ((Finset.univ : Finset (Fin 257)).sup (joined s z)) = max ((Finset.univ : Finset (Fin 256)).sup s) z
  rw [max_eq_right bot_le, Fin.univ_castSuccEmb 256, Finset.sup_cons, Finset.sup_map, joined_last, max_comm]
  congr 1

theorem refTotal_eq (s : Fin 256 → EReal) (z : EReal) : refTotal s z = total s z := by
  unfold refTotal total
  rw [zero_add, refPeak_eq, Fin.sum_univ_castSucc, joined_last]
  simp only [joined_castSucc]

theorem exp_nonneg (x : EReal) : 0 ≤ Ideal.exp x := by
  induction x with
  | bot => exact le_refl _
  | coe r => exact EReal.coe_nonneg.2 (Real.exp_pos r).le
  | top => exact le_top

theorem exp_pos {x : EReal} (h : x ≠ ⊥) : 0 < Ideal.exp x := by
  induction x with
  | bot => exact absurd rfl h
  | coe r => exact EReal.coe_pos.2 (Real.exp_pos r)
  | top => exact EReal.coe_lt_top 0

/-- A sum times a factor from zero up to a real is the sum of the products. -/
theorem sum_mul {ι : Type} (S : Finset ι) (f : ι → EReal) {c : EReal} (h0 : 0 ≤ c) (ht : c ≠ ⊤) :
    (∑ k ∈ S, f k) * c = ∑ k ∈ S, f k * c := by
  classical
  induction S using Finset.induction_on with
  | empty => simp
  | insert a S ha ih => rw [Finset.sum_insert ha, Finset.sum_insert ha, EReal.right_distrib_of_nonneg_of_ne_top h0 ht, ih]

theorem total_pos {s : Fin 256 → EReal} {z : EReal} (hs : ∀ k, s k < ⊤) (hz : z ≠ ⊥) (hz' : z < ⊤) : 0 < total s z := by
  have hM : peak s z < ⊤ := max_lt (Finset.sup_lt_iff (bot_lt_top) |>.2 fun k _ => hs k) hz'
  have hp : 0 < Ideal.exp (z - peak s z) := by
    apply exp_pos
    rw [sub_eq_add_neg]
    intro h
    rcases EReal.add_eq_bot_iff.1 h with h | h
    · exact hz h
    · exact hM.ne (EReal.neg_eq_bot_iff.1 h)
  exact lt_of_lt_of_le hp (le_add_of_nonneg_left (Finset.sum_nonneg fun k _ => exp_nonneg _))

/-- With scores below infinity and a real sink, the two orders agree. -/
theorem row_eq {s v : Fin 256 → EReal} {z : EReal} (hs : ∀ k, s k < ⊤) (hz : z ≠ ⊥) (hz' : z < ⊤) :
    kerRow s v z = refRow s v z := by
  have hD := total_pos hs hz hz'
  unfold kerRow refRow
  rw [refTotal_eq, refPeak_eq]
  have hdiv : ∀ x : EReal, Ideal.div x (total s z) = x * (total s z)⁻¹ := fun x => if_neg hD.ne'
  simp only [hdiv]
  rw [one_mul, sum_mul _ _ (EReal.inv_nonneg_of_nonneg hD.le) (EReal.inv_lt_top _).ne]
  refine Finset.sum_congr rfl fun k _ => ?_
  rw [mul_comm (Ideal.exp _) (v k), mul_assoc]

/-- A value whose score is the bottom is not read. -/
theorem kerRow_congr {s v v' : Fin 256 → EReal} {z : EReal} (h : ∀ k, s k ≠ ⊥ → v k = v' k) : kerRow s v z = kerRow s v' z := by
  unfold kerRow
  congr 1
  refine Finset.sum_congr rfl fun k _ => ?_
  by_cases hk : s k = ⊥
  · have : Ideal.exp (s k - peak s z) = 0 := by rw [hk, EReal.bot_sub]; rfl
    rw [this, zero_mul, zero_mul]
  · rw [h k hk]

end Cert.SwaRow
-- ==== Proof.Swa.Element.lean ====
/-
  One element of the sliding-window attention's output tile, over the extended reals: a row of softmax attention (`Row.lean`)
  over the 64 lanes of the element's own head.
-/
module

public import proofs.«01_k».proof.Proof.Swa.Tile
public import proofs.«01_k».proof.Proof.Swa.Row
public import Idealize.ShloMosaic.Lib.MatmulPlain
public import Idealize.ShloMosaic.PureOps.Ideal.Laws

@[expose] public section

noncomputable section

namespace Cert.SwaIdeal.Tile

open Cert.SwaIdeal Cert.SwaIdeal.Gen Idealize.ShloMosaic Idealize.ShloMosaic.TcCoe Idealize.SL.Sem ValueIdx Cert.SwaRow

/-- A rank-2 index whose first axis has rows below `m`, by its numbers. -/
theorem ix2_eq {n m : Nat} {a a' : Fin n} {b b' : Fin m} (ha : a.val = a'.val) (hb : b.val = b'.val) :
    ix2 a b = ix2 a' b' := by rw [Fin.ext ha, Fin.ext hb]

/-- A strip's rows: the previous tile's first, then the block's. -/
theorem strip_prev (prev : Vec Ideal S1x128x128 .bf16) (cur : Vec Ideal S1x512x128 .bf16) (r : Fin 128) (l : Fin 128) :
    strip prev cur (ix2 (n0 := 640) (n1 := 128) ⟨r.val, by omega⟩ l) = prev (ix3 0 r l) := by
  unfold strip
  rw [concatenate_pair_apply_left (t := S640x128) (s₁ := S128x128) (s₂ := S512x128) 0 _ _ _
    (ix2 (n0 := 640) (n1 := 128) ⟨r.val, by omega⟩ l) rfl (ix2 (n0 := 128) (n1 := 128) r l) ?_]
  · rw [shapeCast_dropUnit_apply ![128, 128]]
    congr 1; funext a
    match a with | ⟨0, _⟩ => rfl | ⟨1, _⟩ => rfl | ⟨2, _⟩ => rfl
  · intro b
    match b with | ⟨0, _⟩ => rfl | ⟨1, _⟩ => rfl

theorem strip_cur (prev : Vec Ideal S1x128x128 .bf16) (cur : Vec Ideal S1x512x128 .bf16) (r : Fin 512) (l : Fin 128) :
    strip prev cur (ix2 (n0 := 640) (n1 := 128) ⟨128 + r.val, by omega⟩ l) = cur (ix3 0 r l) := by
  unfold strip
  rw [concatenate_pair_apply_right (t := S640x128) (s₁ := S128x128) (s₂ := S512x128) 0 _ _ _
    (ix2 (n0 := 640) (n1 := 128) ⟨128 + r.val, by omega⟩ l) rfl rfl (ix2 (n0 := 512) (n1 := 128) r l) ?_ ?_]
  · rw [shapeCast_dropUnit_apply ![512, 128]]
    congr 1; funext a
    match a with | ⟨0, _⟩ => rfl | ⟨1, _⟩ => rfl | ⟨2, _⟩ => rfl
  · intro b hb
    match b with | ⟨0, _⟩ => exact absurd rfl hb | ⟨1, _⟩ => rfl
  · show r.val + 128 = 128 + r.val; omega

/-- The exchanged strip's lane is the lane 64 further round. -/
theorem swapped_apply (x : FVec Ideal S640x128 .bf16) (r : Fin 640) (l l' : Fin 128) (h : l'.val = (l.val + 64) % 128) :
    swapped x (ix2 r l) = x (ix2 r l') := by
  unfold swapped
  by_cases hl : l.val < 64
  · rw [concatenate_pair_apply_left (t := S640x128) (s₁ := S640x64) (s₂ := S640x64) 1 _ _ _ (ix2 r l) rfl
      (ix2 (n0 := 640) (n1 := 64) r ⟨l.val, hl⟩) ?_]
    · rw [extractStridedSlice_apply _ _ _ _ (ix2 r l')]
      intro a
      match a with
      | ⟨0, _⟩ => show r.val = 0 + r.val; omega
      | ⟨1, _⟩ => show l'.val = 64 + l.val; omega
    · intro b
      match b with | ⟨0, _⟩ => rfl | ⟨1, _⟩ => rfl
  · have hlt := l.isLt
    rw [concatenate_pair_apply_right (t := S640x128) (s₁ := S640x64) (s₂ := S640x64) 1 _ _ _ (ix2 r l) rfl rfl
      (ix2 (n0 := 640) (n1 := 64) r ⟨l.val - 64, by omega⟩) ?_ ?_]
    · rw [extractStridedSlice_apply _ _ _ _ (ix2 r l')]
      intro a
      match a with
      | ⟨0, _⟩ => show r.val = 0 + r.val; omega
      | ⟨1, _⟩ => show l'.val = 0 + (l.val - 64); omega
    · intro b hb
      match b with | ⟨0, _⟩ => rfl | ⟨1, _⟩ => exact absurd rfl hb
    · show l.val - 64 + 64 = l.val; omega

/-- Lane `d` of half `t`. -/
abbrev laneOf (t : Fin 2) (d : Fin 64) : Fin 128 := ⟨64 * t.val + d.val, by omega⟩

/-- The strip arranged for parity `par` has key head `kv`'s lane `d` at that parity's lane `d`. -/
theorem headAt_apply (x : FVec Ideal S640x128 .bf16) (kv par : Fin 2) (r : Fin 640) (d : Fin 64) :
    headAt kv.val par.val x (ix2 r (laneOf par d)) = x (ix2 r (laneOf kv d)) := by
  unfold headAt
  by_cases h : kv.val = par.val
  · rw [beq_iff_eq.2 h, cond_true, Fin.ext h]
  · rw [beq_eq_false_iff_ne.2 h, cond_false]
    exact swapped_apply x r _ _ (by show 64 * kv.val + d.val = (64 * par.val + d.val + 64) % 128; omega)

theorem window_apply (blk : Fin 4) (x : FVec Ideal S640x128 .bf16) (k : Fin 256) (l : Fin 128) :
    window blk x (ix2 k l) = x (ix2 ⟨128 * blk.val + k.val, by omega⟩ l) := by
  unfold window
  rw [extractStridedSlice_apply _ _ _ _ (ix2 ⟨128 * blk.val + k.val, by omega⟩ l)]
  intro a
  match a with
  | ⟨0, _⟩ => rfl
  | ⟨1, _⟩ => show l.val = 0 + l.val; omega

/-- Whether a lane is of parity `par`, decided lane by lane. -/
theorem inHalf_apply (par : Fin 2) (r : Fin 128) (t : Fin 2) (d : Fin 64) :
    inHalf par.val (ix2 r (laneOf t d)) = if t = par then 1#1 else 0#1 := by
  have hl : lane (ix2 r (laneOf t d)) = BitVec.ofNat 32 (64 * t.val + d.val) := iota_single_apply _ _ _ _ _ _
  have e : inHalf par.val (ix2 r (laneOf t d)) = bif par.val == 0 then Scalar.cmpi .slt (BitVec.ofNat 32 (64 * t.val + d.val)) 64#32
      else Scalar.cmpi .sge (BitVec.ofNat 32 (64 * t.val + d.val)) 64#32 := by
    rw [← hl]; unfold inHalf
    cases par.val == 0 <;> rfl
  rw [e]
  clear hl e
  revert d t par
  decide

/-- A stacked row of queries: its own tile's row in the lanes of the parity, zero elsewhere. -/
theorem stacked_apply (par : Fin 2) (qa qb : Vec Ideal S1x128x128 .bf16) (half : Fin 2) (r : Fin 128) (t : Fin 2) (d : Fin 64) :
    stacked par.val qa qb (ix2 (n0 := 256) ⟨128 * half.val + r.val, by omega⟩ (laneOf t d))
      = if t = par then (if half = 0 then qa else qb) (ix3 0 r (laneOf t d)) else (0 : EReal) := by
  have key : ∀ q : Vec Ideal S1x128x128 .bf16,
      select (inHalf par.val) (shapeCast S128x128 q shapeCasts_S1x128x128_S128x128)
        (broadcast S128x128 (Scalar.ofBits (F := Ideal) .bf16 0x0000#16)) (ix2 r (laneOf t d))
        = if t = par then q (ix3 0 r (laneOf t d)) else (0 : EReal) := by
    intro q
    show Scalar.select (inHalf par.val (ix2 r (laneOf t d))) _ _ = _
    rw [inHalf_apply]
    by_cases h : t = par
    · rw [if_pos h, if_pos h, select_one, shapeCast_dropUnit_apply ![128, 128]]
      congr 1; funext a
      match a with | ⟨0, _⟩ => rfl | ⟨1, _⟩ => rfl | ⟨2, _⟩ => rfl
    · rw [if_neg h, if_neg h, select_zero]
      show Ideal.ofBits .bf16 0x0000#16 = 0
      simp [Ideal.ofBits, Ideal.ieee]
  unfold stacked
  by_cases hh : half = 0
  · subst hh
    rw [concatenate_pair_apply_left (t := S256x128) (s₁ := S128x128) (s₂ := S128x128) 0 _ _ _ _ rfl
      (ix2 (n0 := 128) (n1 := 128) r (laneOf t d)) ?_]
    · exact key qa
    · intro b
      match b with | ⟨0, _⟩ => show r.val = 128 * 0 + r.val; omega | ⟨1, _⟩ => rfl
  · have h1 : half = 1 := by omega
    subst h1
    rw [concatenate_pair_apply_right (t := S256x128) (s₁ := S128x128) (s₂ := S128x128) 0 _ _ _ _ rfl rfl
      (ix2 (n0 := 128) (n1 := 128) r (laneOf t d)) ?_ ?_]
    · exact key qb
    · intro b hb
      match b with | ⟨0, _⟩ => exact absurd rfl hb | ⟨1, _⟩ => rfl
    · show r.val + 128 = 128 * 1 + r.val; omega

/-- A sum over 128 lanes is the sum over the two halves of 64. -/
theorem sum_lanes (f : Fin 128 → EReal) : ∑ l, f l = ∑ d : Fin 64, f (laneOf 0 d) + ∑ d : Fin 64, f (laneOf 1 d) := by
  rw [Fin.sum_univ_add (a := 64) (b := 64) f]
  congr 1

/-- With the other parity's lanes zeroed, only the parity's own 64 lanes add up. -/
theorem sum_half (par : Fin 2) (f g : Fin 128 → EReal) (u : Fin 64 → EReal) (hu : ∀ d, g (laneOf par d) = u d)
    (q : Fin 64 → EReal) (hf : ∀ t d, f (laneOf t d) = if t = par then q d else 0) :
    ∑ l, f l * g l = ∑ d, q d * u d := by
  rw [sum_lanes]
  simp only [hf]
  match par, hu with
  | 0, hu => simp [hu]
  | 1, hu => simp [hu]

/-- A column of 256 made from a vector of 256 reads it. -/
theorem column_apply (x : FVec Ideal S256 .f32) (R : Fin 256) :
    shapeCast S256x1 x shapeCasts_S256_S256x1 (ix2 R 0) = x (ix1 R) := by
  refine shapeCast_apply _ _ _ _ ?_
  rw [Shape.rowMajor_val_two]
  exact (Shape.rowMajor_val_one _).trans (by show R.val = R.val * 1 + 0; omega)

theorem spread_apply {n : Nat} (x : FVec Ideal S256x1 .f32) (h : S256x1.Broadcasts ⟨2, ![256, n]⟩) (R : Fin 256) (l : Fin n) :
    broadcastTo ⟨2, ![256, n]⟩ x h (ix2 R l) = x (ix2 R 0) := by
  refine broadcastTo_apply _ _ _ _ fun a => ?_
  match a with | ⟨0, _⟩ => rfl | ⟨1, _⟩ => rfl

theorem lift_row (R : Fin 256) (k : Fin 256) : reduces_S256x256_S256.lift (ix1 R) k = ix2 R k := by
  funext a
  match a with | ⟨0, _⟩ => rfl | ⟨1, _⟩ => rfl

/-- A row's maximum, at the row. -/
theorem top_apply (s : FVec Ideal S256x256 .f32) (sink : FVec Ideal S256x1 .f32) (R : Fin 256) :
    top s sink (ix2 R 0) = peak (fun k => s (ix2 R k)) (sink (ix2 R 0)) := by
  unfold top peak
  rw [maximumf_apply]
  refine congrArg (fun x : EReal => max x (sink (ix2 R 0))) ?_
  refine ((column_apply _ R).trans (Ideal.multiReduction_maximumf_single _ _ _ _ _ _)).trans ?_
  have hb : FloatOps.ofBits (F := Ideal) .f32 0xFF800000#32 = ⊥ := by
    show Ideal.ofBits .f32 0xFF800000#32 = ⊥
    simp [Ideal.ofBits, Ideal.ieee]
  have hf : (s ∘ reduces_S256x256_S256.lift (ix1 R)) = fun k : Fin 256 => s (ix2 R k) :=
    funext fun k => congrArg s (lift_row R k)
  exact congrArg₂ (fun b (f : Fin 256 → EReal) => (Finset.univ : Finset (Fin 256)).fold max b f) hb hf

theorem expo_apply (s : FVec Ideal S256x256 .f32) (sink : FVec Ideal S256x1 .f32) (R k : Fin 256) :
    expo s sink (ix2 R k) = Ideal.exp (s (ix2 R k) - peak (fun k => s (ix2 R k)) (sink (ix2 R 0))) := by
  unfold expo
  show Ideal.exp (s (ix2 R k) - broadcastTo S256x256 (top s sink) broadcasts_S256x1_S256x256 (ix2 R k)) = _
  rw [spread_apply, top_apply]

/-- The exponentials' sum, at the row. -/
theorem denom_apply (s : FVec Ideal S256x256 .f32) (sink : FVec Ideal S256x1 .f32) (R : Fin 256) :
    denom s sink (ix2 R 0) = total (fun k => s (ix2 R k)) (sink (ix2 R 0)) := by
  unfold denom total
  rw [addf_apply]
  refine congrArg₂ (· + ·) ?_ ?_
  · refine ((column_apply _ R).trans (Ideal.multiReduction_add_single _ _ _ _ _ _)).trans ?_
    refine Finset.sum_congr rfl fun k _ => ?_
    exact (congrArg (expo s sink) (lift_row R k)).trans (expo_apply s sink R k)
  · show Ideal.exp (sink (ix2 R 0) - top s sink (ix2 R 0)) = _
    rw [top_apply]

/-- A chain's result at a row and lane is that row of softmax attention. -/
theorem weighed_apply (s : FVec Ideal S256x256 .f32) (sink : FVec Ideal S256x1 .f32) (v : FVec Ideal S256x128 .bf16)
    (R : Fin 256) (l : Fin 128) :
    weighed s sink v (ix2 R l) = kerRow (fun k => s (ix2 R k)) (fun k => v (ix2 k l)) (sink (ix2 R 0)) := by
  unfold weighed kerRow
  rw [mulf_apply, spread_apply, divf_apply, denom_apply]
  have hd : dot_S256x256_S256x128_S256x128_1_0_0_1_n_n = DotDims.plain 256 256 128 := rfl
  have h1 : (broadcast S256x1 (Scalar.ofBits (F := Ideal) .f32 0x3F800000#32)) (ix2 R 0) = (1 : EReal) := by
    show Ideal.ofBits .f32 0x3F800000#32 = 1
    simp [Ideal.ofBits, Ideal.ieee]
    rw [← EReal.coe_mul]
    norm_num
  rw [h1, hd]
  show FloatOps.matmul (DotDims.plain 256 256 128) none _ _ _ (ix2 R l) * _ = _
  rw [Ideal.matmul_plain_apply, constant_apply, Ideal.ofBits_zero_f32, zero_add]
  refine congrArg (· * _) ?_
  refine Finset.sum_congr rfl fun k _ => ?_
  rw [truncf_apply, expo_apply]

end Cert.SwaIdeal.Tile
-- ==== Proof.Swa.Words.lean ====
/-
  The window's integer words: the distance of a query row and a key as a 32-bit word, and the bit that says it is seen.
-/
module

public import Idealize.ShloMosaic.Lib.Affine
public import Idealize.ShloMosaic.Lib.ValueIdx

@[expose] public section

namespace Cert.SwaRow

open Idealize.ShloMosaic

/-- The distance from key `k` of a window of 256 to row `r` of the window's last 128. -/
def gap (r k : Nat) : Int := (r : Int) + 128 - k

/-- The keys in the window of row `r`: distances 0 to 127. -/
abbrev Seen (r k : Nat) : Prop := r < k ∧ k ≤ r + 128

/-- The word of a distance. -/
theorem gap_word (r k : Nat) (hr : r < 128) (hk : k < 256) :
    Affine.IsInt (Scalar.subi (Scalar.addi (BitVec.ofNat 32 r) 128#32) (BitVec.ofNat 32 k)) (gap r k) := by
  have h1 : Affine.IsInt (BitVec.ofNat 32 r) (r : Int) := Affine.ofNat _ (by omega)
  have h2 : Affine.IsInt 128#32 128 := Affine.ofNat _ (by omega)
  have h3 : Affine.IsInt (BitVec.ofNat 32 k) (k : Int) := Affine.ofNat _ (by omega)
  have h4 : Affine.IsInt (Scalar.addi (BitVec.ofNat 32 r) 128#32) ((r : Int) + 128) := Affine.addi h1 h2 (by omega)
  exact Affine.subi h4 h3 (by unfold gap; omega)

theorem toInt_of {x : BitVec 32} {e : Int} (h : Affine.IsInt x e) : x.toInt = e := by unfold Affine.IsInt at h; exact h

theorem bit_of_fails {c : BitVec 1} (h : Affine.Fails c) : c = 0#1 := ValueIdx.eq_zero_of_ne_one h

/-- The bit of the window. -/
theorem seen_word (r k : Nat) (hr : r < 128) (hk : k < 256) :
    Scalar.andi (Scalar.cmpi .sge (Scalar.subi (Scalar.addi (BitVec.ofNat 32 r) 128#32) (BitVec.ofNat 32 k)) 0#32)
      (Scalar.cmpi .slt (Scalar.subi (Scalar.addi (BitVec.ofNat 32 r) 128#32) (BitVec.ofNat 32 k)) 128#32)
      = if Seen r k then 1#1 else 0#1 := by
  have hg := gap_word r k hr hk
  have h0 : Affine.IsInt 0#32 0 := Affine.ofNat _ (by omega)
  have h2 : Affine.IsInt 128#32 128 := Affine.ofNat _ (by omega)
  unfold gap at hg
  by_cases h : Seen r k
  · rw [if_pos h]
    exact Affine.andi_holds (Affine.sge_holds hg h0 (by omega)) (Affine.slt_holds hg h2 (by omega))
  · rw [if_neg h]
    apply bit_of_fails
    by_cases h1 : r < k
    · exact Affine.andi_fails_left (Affine.sge_fails hg h0 (by omega)) trivial
    · exact Affine.andi_fails_right trivial (Affine.slt_fails hg h2 (by omega))

/-- A row of the stacked pair of tiles, taken modulo 128. -/
theorem row_word (half : Fin 2) (r : Fin 128) :
    Scalar.andi (BitVec.ofNat 32 (128 * half.val + r.val)) 127#32 = BitVec.ofNat 32 r.val := by
  revert half r
  decide

/-- Whether a number below 2³¹ is below `n`. -/
theorem slt_word (k n : Nat) (hk : k < 2 ^ 31) (hn : n < 2 ^ 31) :
    Scalar.cmpi .slt (BitVec.ofNat 32 k) (BitVec.ofNat 32 n) = if k < n then 1#1 else 0#1 := by
  have h1 : Affine.IsInt (BitVec.ofNat 32 k) (k : Int) := Affine.ofNat _ (by omega)
  have h2 : Affine.IsInt (BitVec.ofNat 32 n) (n : Int) := Affine.ofNat _ (by omega)
  by_cases h : k < n
  · rw [if_pos h]; exact Affine.slt_holds h1 h2 (by omega)
  · rw [if_neg h]; exact bit_of_fails (Affine.slt_fails h1 h2 (by omega))

/-- Whether a number below 2³¹ is at least `n`. -/
theorem sge_word (k n : Nat) (hk : k < 2 ^ 31) (hn : n < 2 ^ 31) :
    Scalar.cmpi .sge (BitVec.ofNat 32 k) (BitVec.ofNat 32 n) = if n ≤ k then 1#1 else 0#1 := by
  have h1 : Affine.IsInt (BitVec.ofNat 32 k) (k : Int) := Affine.ofNat _ (by omega)
  have h2 : Affine.IsInt (BitVec.ofNat 32 n) (n : Int) := Affine.ofNat _ (by omega)
  by_cases h : n ≤ k
  · rw [if_pos h]; exact Affine.sge_holds h1 h2 (by omega)
  · rw [if_neg h]; exact bit_of_fails (Affine.sge_fails h1 h2 (by omega))

/-- Whether a number below 2³¹ is zero. -/
theorem eq_word (k : Nat) (hk : k < 2 ^ 31) :
    Scalar.cmpi .eq (BitVec.ofNat 32 k) 0#32 = if k = 0 then 1#1 else 0#1 := by
  have h1 : Affine.IsInt (BitVec.ofNat 32 k) (k : Int) := Affine.ofNat _ (by omega)
  have h2 : Affine.IsInt 0#32 0 := Affine.ofNat _ (by omega)
  by_cases h : k = 0
  · rw [if_pos h]; exact Affine.eq_holds h1 h2 (by omega)
  · rw [if_neg h]; exact bit_of_fails (Affine.eq_fails h1 h2 (by omega))

/-- Whether a number below 2³¹ is positive. -/
theorem sgt_word (k : Nat) (hk : k < 2 ^ 31) :
    Scalar.cmpi .sgt (BitVec.ofNat 32 k) 0#32 = if 0 < k then 1#1 else 0#1 := by
  have h1 : Affine.IsInt (BitVec.ofNat 32 k) (k : Int) := Affine.ofNat _ (by omega)
  have h2 : Affine.IsInt 0#32 0 := Affine.ofNat _ (by omega)
  by_cases h : 0 < k
  · rw [if_pos h]; exact Affine.sgt_holds h1 h2 (by omega)
  · rw [if_neg h]; exact bit_of_fails (Affine.sgt_fails h1 h2 (by omega))

end Cert.SwaRow
-- ==== Proof.Swa.Point.lean ====
/-
  One element of the block that a grid point leaves, over the extended reals: a row of softmax attention whose scores are the
  query's and key's product over the 64 lanes of the head, less slope times distance in the window, the bottom off it.
-/
module

public import proofs.«01_k».proof.Proof.Swa.Fill
public import proofs.«01_k».proof.Proof.Swa.Element
public import proofs.«01_k».proof.Proof.Swa.Words

@[expose] public section

noncomputable section

namespace Cert.SwaIdeal.Tile

open Cert.SwaIdeal Cert.SwaIdeal.Gen Idealize.ShloMosaic Idealize.ShloMosaic.TcCoe Idealize.SL.Sem ValueIdx Cert.SwaRow

/-- Row `r` of the stacked pair's half. -/
abbrev rowOf (half : Fin 2) (r : Fin 128) : Fin 256 := ⟨128 * half.val + r.val, by omega⟩

/-- Head `4·kv + 2·half + par` of a point's eight. -/
abbrev headOf (kv half par : Fin 2) : Fin 8 := ⟨4 * kv.val + 2 * half.val + par.val, by omega⟩

/-- Column of tiles `2·kv + half`. -/
abbrev colOf (kv half : Fin 2) : Fin 4 := ⟨2 * kv.val + half.val, by omega⟩

/-- The sink read at a point of column `p` for head `r` is the sink of head `8·p + r`. -/
theorem sinkElt_eq (i : grid0.Coords) (x1 : Vec Ideal S16 .f32) (r : Fin 8) (h : 8 * (i 1).val + r.val < 16) :
    sinkElt i x1 r = x1 (ix1 ⟨8 * (i 1).val + r.val, h⟩) := by
  unfold sinkElt
  refine congrArg x1 ?_
  funext a
  match a with
  | ⟨0, _⟩ =>
    apply Fin.ext
    show (k0_off2 i (BitVec.ofNat 32 r.val)) 0 + 1 * 0 = 8 * (i 1).val + r.val
    rw [k0_off2_eq]
    rfl

/-- The two heads of a chain's rows. -/
theorem sinkRows_apply (i : grid0.Coords) (x1 : Vec Ideal S16 .f32) (ra rb : Fin 8) (half : Fin 2) (r : Fin 128) :
    sinkRows i x1 ra rb (ix2 (rowOf half r) 0) = sinkElt i x1 (if half = 0 then ra else rb) := by
  unfold sinkRows
  show Scalar.select (Scalar.cmpi .sge (iota .tc S256x1 32 [0] iota_S256x1_d0_w32 (ix2 (rowOf half r) 0)) 128#32)
    (sinkElt i x1 rb) (sinkElt i x1 ra) = _
  rw [iota_single_apply]
  have e := sge_word (128 * half.val + r.val) 128 (by omega) (by omega)
  rw [show Scalar.cmpi .sge (BitVec.ofNat 32 ((ix2 (rowOf half r) (0 : Fin 1)) 0).val) 128#32 = _ from e]
  match half with
  | 0 =>
    rw [if_neg (by show ¬ 128 ≤ 128 * 0 + r.val; omega), if_pos rfl, select_zero]
  | 1 =>
    rw [if_pos (by show 128 ≤ 128 * 1 + r.val; omega), if_neg (by decide), select_one]

theorem sinksOf_apply (i : grid0.Coords) (x1 : Vec Ideal S16 .f32) (kv half par : Fin 2) (r : Fin 128) :
    sinksOf i x1 (chainIdx kv par) (ix2 (rowOf half r) 0) = sinkElt i x1 (headOf kv half par) := by
  match kv, par with
  | 0, 0 => refine (sinkRows_apply i x1 0 2 half r).trans ?_; match half with | 0 => rfl | 1 => rfl
  | 0, 1 => refine (sinkRows_apply i x1 1 3 half r).trans ?_; match half with | 0 => rfl | 1 => rfl
  | 1, 0 => refine (sinkRows_apply i x1 4 6 half r).trans ?_; match half with | 0 => rfl | 1 => rfl
  | 1, 1 => refine (sinkRows_apply i x1 5 7 half r).trans ?_; match half with | 0 => rfl | 1 => rfl

theorem dist_apply (half : Fin 2) (r : Fin 128) (k : Fin 256) :
    dist (ix2 (rowOf half r) k) = Scalar.subi (Scalar.addi (BitVec.ofNat 32 r.val) 128#32) (BitVec.ofNat 32 k.val) := by
  show Scalar.subi (Scalar.addi (Scalar.andi (iota .tc S256x256 32 [0] iota_S256x256_d0_w32 (ix2 (rowOf half r) k)) 127#32) 128#32)
    (iota .tc S256x256 32 [1] iota_S256x256_d1_w32 (ix2 (rowOf half r) k)) = _
  rw [iota_single_apply, iota_single_apply]
  rw [show Scalar.andi (BitVec.ofNat 32 ((ix2 (rowOf half r) k) 0).val) 127#32 = BitVec.ofNat 32 r.val from row_word half r]

/-- A slab at a row and key: slope times distance in the window, the top off it. -/
theorem slab_apply (sl : FVec Ideal S256x1 .f32) (half : Fin 2) (r : Fin 128) (k : Fin 256) :
    slab sl (ix3 0 (rowOf half r) k)
      = if Seen r.val k.val then sl (ix2 (rowOf half r) 0) * (((gap r.val k.val : Int) : ℝ) : EReal) else (⊤ : EReal) := by
  unfold slab
  rw [shapeCast_addUnit_apply ![256, 256]]
  have hj : (fun a : Fin 2 => (ix3 (0 : Fin 1) (rowOf half r) k) a.succ) = ix2 (rowOf half r) k := by
    funext a
    match a with | ⟨0, _⟩ => rfl | ⟨1, _⟩ => rfl
  refine (congrArg _ hj).trans ?_
  show Scalar.select (Scalar.andi (Scalar.cmpi .sge (dist (ix2 (rowOf half r) k)) 0#32) (Scalar.cmpi .slt (dist (ix2 (rowOf half r) k)) 128#32))
    (broadcastTo S256x256 sl broadcasts_S256x1_S256x256 (ix2 (rowOf half r) k) * (((dist (ix2 (rowOf half r) k)).toInt : ℝ) : EReal))
    (⊤ : EReal) = _
  rw [dist_apply, seen_word _ _ r.isLt k.isLt, toInt_of (gap_word _ _ r.isLt k.isLt), spread_apply]
  by_cases h : Seen r.val k.val
  · rw [if_pos h, if_pos h, select_one]
  · rw [if_neg h, if_neg h, select_zero]

/-- The four slabs as one array. -/
theorem slabs_apply (i : grid0.Coords) (x0 : Vec Ideal S16 .f32) (ch : Fin 4) (R k : Fin 256) :
    View.canon (slabs i x0) (ix3 ch R k) = slab (sinksOf i x0 ch) (ix3 0 R k) := by
  have key' : ∀ (ch' : Fin 4) (R k : Fin 256),
      (Rect.unit (s := S4x256x256) ![ch'.val, 0, 0] S1x256x256.size (inb_bias ch')).emb (ix3 (0 : Fin 1) R k) = ix3 ch' R k := by
    intro ch' R k
    funext a
    match a with
    | ⟨0, _⟩ => exact Fin.ext (by show ch'.val + 1 * 0 = ch'.val; omega)
    | ⟨1, _⟩ => exact Fin.ext (by show 0 + 1 * R.val = R.val; omega)
    | ⟨2, _⟩ => exact Fin.ext (by show 0 + 1 * k.val = k.val; omega)
  have piece : ∀ (ch' : Fin 4) (j : S1x256x256.Idx), slab (sinksOf i x0 ch') j
      = (fun y : S4x256x256.Idx => slab (sinksOf i x0 (y 0)) (ix3 0 (y 1) (y 2)))
        ((Rect.unit (s := S4x256x256) ![ch'.val, 0, 0] S1x256x256.size (inb_bias ch')).emb j) := by
    intro ch' j
    have hj : j = ix3 (0 : Fin 1) (j 1) (j 2) := by
      funext a
      match a with
      | ⟨0, _⟩ => exact Fin.ext (by have h : (j 0).val < 1 := (j 0).isLt; show (j 0).val = 0; omega)
      | ⟨1, _⟩ => rfl
      | ⟨2, _⟩ => rfl
    obtain ⟨R', k', rfl⟩ : ∃ R' k' : Fin 256, j = ix3 (0 : Fin 1) R' k' := ⟨j 1, j 2, hj⟩
    rw [key' ch']
  have mem : ∀ ch' : Fin 4, ix3 ch' R k ∈ (Rect.unit (s := S4x256x256) ![ch'.val, 0, 0] S1x256x256.size (inb_bias ch')).set := by
    intro ch'
    rw [← Rect.map_emb_univ]
    exact Finset.mem_map.2 ⟨ix3 (0 : Fin 1) R k, Finset.mem_univ _, key' ch' R k⟩
  refine View.canon_apply_of_pieces (fun y : S4x256x256.Idx => slab (sinksOf i x0 (y 0)) (ix3 0 (y 1) (y 2))) (slabs i x0)
    (fun p hp => ?_) (ix3 ch R k) ?_
  · unfold slabs at hp
    simp only [List.mem_cons, List.mem_nil_iff, or_false] at hp
    rcases hp with rfl | rfl | rfl | rfl
    · exact piece 3
    · exact piece 2
    · exact piece 1
    · exact piece 0
  · match ch with
    | 0 => exact ⟨_, List.mem_cons_of_mem _ (List.mem_cons_of_mem _ (List.mem_cons_of_mem _ List.mem_cons_self)), mem 0⟩
    | 1 => exact ⟨_, List.mem_cons_of_mem _ (List.mem_cons_of_mem _ List.mem_cons_self), mem 1⟩
    | 2 => exact ⟨_, List.mem_cons_of_mem _ List.mem_cons_self, mem 2⟩
    | 3 => exact ⟨_, List.mem_cons_self, mem 3⟩

/-- The score of a point's row `128·blk + r` against key `k` of its window, for one head. -/
def score (t : Nat) (q : Fin 64 → EReal) (key : Fin 256 → Fin 64 → EReal) (slope : EReal) (blk : Fin 4) (r : Fin 128) (k : Fin 256) : EReal :=
  if blk.val = 0 ∧ t = 0 ∧ k.val < 128 then ⊥
  else (∑ d, q d * key k d) - (if Seen r.val k.val then slope * (((gap r.val k.val : Int) : ℝ) : EReal) else ⊤)

theorem noPrev_apply (i : grid0.Coords) (R k : Fin 256) :
    noPrev i (ix2 R k) = if (i 2).val = 0 ∧ k.val < 128 then 1#1 else 0#1 := by
  have h2 : (i 2).val < 4 := (i 2).isLt
  show Scalar.andi (Scalar.cmpi .eq (BitVec.ofNat 32 (i 2).val) 0#32)
    (Scalar.cmpi .slt (iota .tc S256x256 32 [1] iota_S256x256_d1_w32 (ix2 R k)) 128#32) = _
  rw [iota_single_apply, eq_word _ (by omega)]
  rw [show Scalar.cmpi .slt (BitVec.ofNat 32 ((ix2 R k) 1).val) 128#32 = _ from slt_word k.val 128 (by omega) (by omega)]
  by_cases h : (i 2).val = 0
  · by_cases h' : k.val < 128
    · rw [if_pos h, if_pos h', if_pos ⟨h, h'⟩]; rfl
    · rw [if_pos h, if_neg h', if_neg fun c => h' c.2]; rfl
  · by_cases h' : k.val < 128
    · rw [if_neg h, if_pos h', if_neg fun c => h c.1]; rfl
    · rw [if_neg h, if_neg h', if_neg fun c => h c.1]; rfl

/-- The scores of the body at a row and key. -/
theorem scores_apply (i : grid0.Coords) (blk : Fin 4) (q k : FVec Ideal S256x128 .bf16) (bias : Vec Ideal S1x256x256 .f32) (R kk : Fin 256) :
    scores (blk.val == 0) (noPrev i) q k bias (ix2 R kk)
      = if blk.val = 0 ∧ (i 2).val = 0 ∧ kk.val < 128 then (⊥ : EReal)
        else (∑ l : Fin 128, q (ix2 R l) * k (ix2 kk l)) - bias (ix3 0 R kk) := by
  have hd : dot_S256x128_S256x128_S256x256_1_1_0_0_n_n = DotDims.transposedRhs 256 128 256 := rfl
  have base : subf (matmul dot_S256x128_S256x128_S256x256_1_1_0_0_n_n none q k (constant S256x256 .f32 0x00000000#32))
      (shapeCast S256x256 bias shapeCasts_S1x256x256_S256x256) (ix2 R kk)
      = (∑ l : Fin 128, q (ix2 R l) * k (ix2 kk l)) - bias (ix3 0 R kk) := by
    rw [subf_apply, hd]
    show FloatOps.matmul (DotDims.transposedRhs 256 128 256) none _ _ _ (ix2 R kk) - _ = _
    rw [Ideal.matmul_transposedRhs_apply, constant_apply, Ideal.ofBits_zero_f32, zero_add, shapeCast_dropUnit_apply ![256, 256]]
    refine congrArg (fun x : EReal => _ - x) (congrArg bias ?_)
    funext a
    match a with | ⟨0, _⟩ => rfl | ⟨1, _⟩ => rfl | ⟨2, _⟩ => rfl
  unfold scores
  by_cases hb : blk.val = 0
  · rw [beq_iff_eq.2 hb, cond_true]
    show Scalar.select (noPrev i (ix2 R kk)) (⊥ : EReal) _ = _
    rw [noPrev_apply]
    by_cases h : (i 2).val = 0 ∧ kk.val < 128
    · rw [if_pos h, if_pos ⟨hb, h⟩, select_one]
    · rw [if_neg h, if_neg fun c => h c.2, select_zero]
      exact base
  · rw [beq_eq_false_iff_ne.2 hb, cond_false, if_neg fun c => hb c.1]
    exact base

theorem queries_apply (x2 : Vec Ideal S1x512x512 .bf16) (blk c : Fin 4) (r : Fin 128) (l : Fin 128) :
    queries x2 blk c (ix3 0 r l) = x2 (ix3 0 ⟨128 * blk.val + r.val, by omega⟩ ⟨128 * c.val + l.val, by omega⟩) := by
  unfold queries
  refine congrArg x2 ?_
  funext a
  match a with
  | ⟨0, _⟩ => exact Fin.ext (by show 0 + 1 * 0 = 0; omega)
  | ⟨1, _⟩ => exact Fin.ext (by show 128 * blk.val + 1 * r.val = 128 * blk.val + r.val; omega)
  | ⟨2, _⟩ => exact Fin.ext (by show 128 * c.val + 1 * l.val = 128 * c.val + l.val; omega)

/-- The product over a tile's lanes is the product of one head's query and key. -/
theorem product_apply (k : FVec Ideal S640x128 .bf16) (x2 : Vec Ideal S1x512x512 .bf16) (blk : Fin 4) (kv half par : Fin 2) (r : Fin 128) (kk : Fin 256) :
    (∑ l : Fin 128, stacked par.val (queries x2 blk (colOf kv 0)) (queries x2 blk (colOf kv 1)) (ix2 (rowOf half r) l) * window blk (headAt kv.val par.val k) (ix2 kk l))
      = ∑ d' : Fin 64, x2 (ix3 0 ⟨128 * blk.val + r.val, by omega⟩ ⟨128 * (colOf kv half).val + (laneOf par d').val, by omega⟩)
          * k (ix2 ⟨128 * blk.val + kk.val, by omega⟩ (laneOf kv d')) := by
  refine sum_half par (fun l => stacked par.val (queries x2 blk (colOf kv 0)) (queries x2 blk (colOf kv 1)) (ix2 (rowOf half r) l))
    (fun l => window blk (headAt kv.val par.val k) (ix2 kk l)) (fun d' => k (ix2 ⟨128 * blk.val + kk.val, by omega⟩ (laneOf kv d'))) (fun d' => ?_)
    (fun d' => x2 (ix3 0 ⟨128 * blk.val + r.val, by omega⟩ ⟨128 * (colOf kv half).val + (laneOf par d').val, by omega⟩)) (fun t d' => ?_)
  · show window blk (headAt kv.val par.val k) (ix2 kk (laneOf par d')) = _
    rw [window_apply, headAt_apply]
  · show stacked par.val _ _ (ix2 (rowOf half r) (laneOf t d')) = _
    unfold rowOf
    rw [stacked_apply]
    by_cases ht : t = par
    · subst ht
      rw [if_pos rfl, if_pos rfl]
      match half with
      | 0 => exact queries_apply x2 blk (colOf kv 0) r _
      | 1 => exact queries_apply x2 blk (colOf kv 1) r _
    · rw [if_neg ht, if_neg ht]

theorem biasOf_apply (i : grid0.Coords) (x0 : Vec Ideal S16 .f32) (kv half par : Fin 2) (r : Fin 128) (kk : Fin 256) :
    biasOf (View.canon (slabs i x0)) (chainIdx kv par) (ix3 0 (rowOf half r) kk)
      = if Seen r.val kk.val then sinkElt i x0 (headOf kv half par) * (((gap r.val kk.val : Int) : ℝ) : EReal) else ⊤ := by
  have hb : biasOf (View.canon (slabs i x0)) (chainIdx kv par) (ix3 0 (rowOf half r) kk)
      = View.canon (slabs i x0) (ix3 (chainIdx kv par) (rowOf half r) kk) := by
    unfold biasOf
    refine congrArg (View.canon (slabs i x0)) ?_
    funext a
    match a with
    | ⟨0, _⟩ => exact Fin.ext (by show (chainIdx kv par).val + 1 * 0 = (chainIdx kv par).val; omega)
    | ⟨1, _⟩ => exact Fin.ext (by show 0 + 1 * (rowOf half r).val = (rowOf half r).val; omega)
    | ⟨2, _⟩ => exact Fin.ext (by show 0 + 1 * kk.val = kk.val; omega)
  rw [hb, slabs_apply, slab_apply, sinksOf_apply]

/-- A chain at its own rows and lanes: one row of softmax attention. -/
theorem chain_apply (i : grid0.Coords) (k v : FVec Ideal S640x128 .bf16) (x0 x1 : Vec Ideal S16 .f32) (x2 : Vec Ideal S1x512x512 .bf16)
    (blk : Fin 4) (kv half par : Fin 2) (r : Fin 128) (d : Fin 64) :
    chain (noPrev i) k v (sinksOf i x1) x2 (View.canon (slabs i x0)) blk (colOf kv half) par (ix2 (rowOf half r) (laneOf par d))
      = kerRow (score (i 2).val
          (fun d' => x2 (ix3 0 ⟨128 * blk.val + r.val, by omega⟩ ⟨128 * (colOf kv half).val + (laneOf par d').val, by omega⟩))
          (fun kk d' => k (ix2 ⟨128 * blk.val + kk.val, by omega⟩ (laneOf kv d')))
          (sinkElt i x0 (headOf kv half par)) blk r)
        (fun kk => v (ix2 ⟨128 * blk.val + kk.val, by omega⟩ (laneOf kv d)))
        (sinkElt i x1 (headOf kv half par)) := by
  have hkv : kvOf (colOf kv half) = kv := Fin.ext (by show (2 * kv.val + half.val) / 2 = kv.val; omega)
  have hA : colA (colOf kv half) = colOf kv 0 := Fin.ext (by show 2 * ((2 * kv.val + half.val) / 2) = 2 * kv.val + 0; omega)
  have hB : colB (colOf kv half) = colOf kv 1 := Fin.ext (by show 2 * ((2 * kv.val + half.val) / 2) + 1 = 2 * kv.val + 1; omega)
  unfold chain
  rw [hkv, hA, hB, weighed_apply, sinksOf_apply]
  have hs : (fun kk : Fin 256 => scores (blk.val == 0) (noPrev i)
      (stacked par.val (queries x2 blk (colOf kv 0)) (queries x2 blk (colOf kv 1)))
      (window blk (headAt kv.val par.val k)) (biasOf (View.canon (slabs i x0)) (chainIdx kv par)) (ix2 (rowOf half r) kk))
      = score (i 2).val
          (fun d' => x2 (ix3 0 ⟨128 * blk.val + r.val, by omega⟩ ⟨128 * (colOf kv half).val + (laneOf par d').val, by omega⟩))
          (fun kk d' => k (ix2 ⟨128 * blk.val + kk.val, by omega⟩ (laneOf kv d')))
          (sinkElt i x0 (headOf kv half par)) blk r := by
    funext kk
    rw [scores_apply, product_apply, biasOf_apply]
    rfl
  have hv : (fun kk : Fin 256 => window blk (headAt kv.val par.val v) (ix2 kk (laneOf par d)))
      = fun kk => v (ix2 ⟨128 * blk.val + kk.val, by omega⟩ (laneOf kv d)) := by
    funext kk
    rw [window_apply, headAt_apply]
  rw [hs, hv]

/-- The block at row `128·blk + r` and lane `d` of head `4·kv + 2·half + par`. -/
theorem block_apply (i : grid0.Coords) (k v : FVec Ideal S640x128 .bf16) (x0 x1 : Vec Ideal S16 .f32) (x2 : Vec Ideal S1x512x512 .bf16)
    (blk : Fin 4) (kv half par : Fin 2) (r : Fin 128) (d : Fin 64) :
    block (noPrev i) k v (sinksOf i x1) x2 (View.canon (slabs i x0))
        (ix3 (0 : Fin 1) ⟨128 * blk.val + r.val, by omega⟩ ⟨128 * (colOf kv half).val + (laneOf par d).val, by omega⟩)
      = kerRow (score (i 2).val
          (fun d' => x2 (ix3 0 ⟨128 * blk.val + r.val, by omega⟩ ⟨128 * (colOf kv half).val + (laneOf par d').val, by omega⟩))
          (fun kk d' => k (ix2 ⟨128 * blk.val + kk.val, by omega⟩ (laneOf kv d')))
          (sinkElt i x0 (headOf kv half par)) blk r)
        (fun kk => v (ix2 ⟨128 * blk.val + kk.val, by omega⟩ (laneOf kv d)))
        (sinkElt i x1 (headOf kv half par)) := by
  have he : (rectQ blk (colOf kv half)).emb (ix3 (0 : Fin 1) r (laneOf par d))
      = ix3 (0 : Fin 1) ⟨128 * blk.val + r.val, by omega⟩ ⟨128 * (colOf kv half).val + (laneOf par d).val, by omega⟩ := by
    funext a
    match a with
    | ⟨0, _⟩ => exact Fin.ext (by show 0 + 1 * 0 = 0; omega)
    | ⟨1, _⟩ => exact Fin.ext (by show 128 * blk.val + 1 * r.val = 128 * blk.val + r.val; omega)
    | ⟨2, _⟩ => exact Fin.ext (by show 128 * (colOf kv half).val + 1 * (laneOf par d).val = 128 * (colOf kv half).val + (laneOf par d).val; omega)
  rw [← he, block_emb, ← chain_apply i k v x0 x1 x2 blk kv half par r d]
  have hhalf : (colOf kv half).val % 2 = half.val := by show (2 * kv.val + half.val) % 2 = half.val; omega
  unfold tile merged
  rw [hhalf, shapeCast_addUnit_apply ![128, 128]]
  have hj : (fun a : Fin 2 => (ix3 (0 : Fin 1) r (laneOf par d)) a.succ) = ix2 r (laneOf par d) := by
    funext a
    match a with | ⟨0, _⟩ => rfl | ⟨1, _⟩ => rfl
  refine (congrArg _ hj).trans ?_
  have ho : ∀ x : FVec Ideal S256x128 .f32, halfOf half.val x (ix2 r (laneOf par d)) = x (ix2 (rowOf half r) (laneOf par d)) := by
    intro x
    match half with
    | 0 =>
      refine (extractStridedSlice_apply (s := S256x128) (t := S128x128) ![0, 0] x slices_S256x128_o0_0_S128x128 (ix2 r (laneOf par d)) (ix2 (rowOf 0 r) (laneOf par d)) fun a => ?_)
      match a with
      | ⟨0, _⟩ => show 128 * 0 + r.val = 0 + r.val; omega
      | ⟨1, _⟩ => show (laneOf par d).val = 0 + (laneOf par d).val; omega
    | 1 =>
      refine (extractStridedSlice_apply (s := S256x128) (t := S128x128) ![128, 0] x slices_S256x128_o128_0_S128x128 (ix2 r (laneOf par d)) (ix2 (rowOf 1 r) (laneOf par d)) fun a => ?_)
      match a with
      | ⟨0, _⟩ => show 128 * 1 + r.val = 128 + r.val; omega
      | ⟨1, _⟩ => show (laneOf par d).val = 0 + (laneOf par d).val; omega
  show Scalar.select (inHalf (0 : Fin 2).val (ix2 r (laneOf par d))) (halfOf half.val _ (ix2 r (laneOf par d))) (halfOf half.val _ (ix2 r (laneOf par d))) = _
  rw [inHalf_apply, ho, ho]
  match par with
  | 0 => rw [if_pos rfl, select_one]
  | 1 => rw [if_neg (by decide), select_zero]

end Cert.SwaIdeal.Tile
-- ==== Proof.Swa.Spec.lean ====
/-
  The sliding-window attention in plain terms, over the extended reals: of the array of projections, the heads' slopes and
  sinks, one element of the result by its sequence, row and column.
-/
module

public import proofs.«01_k».proof.Proof.Swa.Row
public import proofs.«01_k».proof.Proof.Swa.Words
public import Idealize.ShloMosaic.Lib.ValueIdx

@[expose] public section

noncomputable section

namespace Cert.SwaSpec

open Idealize.ShloMosaic ValueIdx Cert.SwaRow

abbrev Proj : Shape := ⟨3, ![16, 2048, 4608]⟩
abbrev Heads : Shape := ⟨1, ![16]⟩
abbrev Out : Shape := ⟨3, ![16, 2048, 1024]⟩

/-- The projections at sequence `b`, row `s`, column `c`. -/
def elt (x : Proj.Idx → EReal) (b : Fin 16) (s c : Nat) : EReal :=
  x (ix3 b ⟨s % 2048, Nat.mod_lt _ (by decide)⟩ ⟨c % 4608, Nat.mod_lt _ (by decide)⟩)

theorem eq_elt (x : Proj.Idx → EReal) (i : Proj.Idx) {b : Fin 16} {s c : Nat} (h0 : (i 0).val = b.val) (h1 : (i 1).val = s) (h2 : (i 2).val = c) :
    x i = elt x b s c := by
  unfold elt
  have l1 : (i 1).val < 2048 := (i 1).isLt
  have l2 : (i 2).val < 4608 := (i 2).isLt
  refine congrArg x ?_
  funext a
  match a with
  | ⟨0, _⟩ => exact Fin.ext h0
  | ⟨1, _⟩ => exact Fin.ext (by show (i 1).val = s % 2048; omega)
  | ⟨2, _⟩ => exact Fin.ext (by show (i 2).val = c % 4608; omega)

/-- Key `k` of the window of block `n` is before the sequence's start. -/
abbrev Before (n k : Nat) : Prop := n = 0 ∧ k < 128

/-- Key `k` of the window of block `n` of query head `h`, lane `d`, from the columns starting at `base`; zero before the start. -/
def windowAt (x : Proj.Idx → EReal) (base : Nat) (b : Fin 16) (n h : Nat) (k : Fin 256) (d : Fin 64) : EReal :=
  if Before n k.val then 0 else elt x b (128 * n + k.val - 128) (base + 64 * (h / 4) + d.val)

/-- The score of row `r` of block `n` against key `k`: the product less slope times distance inside the window. -/
def scoreAt (x : Proj.Idx → EReal) (slope : EReal) (b : Fin 16) (n h r : Nat) (k : Fin 256) : EReal :=
  if Seen r k.val ∧ ¬ Before n k.val then
    (∑ d : Fin 64, elt x b (128 * n + r) (64 * h + d.val) * windowAt x 1024 b n h k d) - slope * (((gap r k.val : Int) : ℝ) : EReal)
  else ⊥

/-- The head of a column of the result. -/
abbrev headAt (c : Fin 1024) : Fin 16 := ⟨c.val / 64, by omega⟩

/-- The scores' row that an element of the result is a softmax of. -/
def rowScores (x : Proj.Idx → EReal) (sl : Heads.Idx → EReal) (b : Fin 16) (s : Fin 2048) (c : Fin 1024) : Fin 256 → EReal :=
  scoreAt x (sl (ix1 (headAt c))) b (s.val / 128) (c.val / 64) (s.val % 128)

def rowValues (x : Proj.Idx → EReal) (b : Fin 16) (s : Fin 2048) (c : Fin 1024) : Fin 256 → EReal := fun k =>
  windowAt x 1280 b (s.val / 128) (c.val / 64) k ⟨c.val % 64, Nat.mod_lt _ (by decide)⟩

/-- The attention's element in the kernel's order of normalisation. -/
def attn (x : Proj.Idx → EReal) (sl z : Heads.Idx → EReal) : Out.Idx → EReal := fun i =>
  kerRow (rowScores x sl (i 0) (i 1) (i 2)) (rowValues x (i 0) (i 1) (i 2)) (z (ix1 (headAt (i 2))))

/-- The attention's element in the reference's order of normalisation. -/
def attnRef (x : Proj.Idx → EReal) (sl z : Heads.Idx → EReal) : Out.Idx → EReal := fun i =>
  refRow (rowScores x sl (i 0) (i 1) (i 2)) (rowValues x (i 0) (i 1) (i 2)) (z (ix1 (headAt (i 2))))

end Cert.SwaSpec
-- ==== Proof.Swa.Array.lean ====
/-
  What the sliding-window attention's call leaves in its result array: block by block the attention of `Spec.lean`.
-/
module

public import proofs.«01_k».proof.Proof.Swa.FillOut
public import proofs.«01_k».proof.Proof.Swa.Point
public import proofs.«01_k».proof.Proof.Swa.Spec
public import proofs.«01_k».proof.Proof.Gen.SwaIdeal.Value

@[expose] public section

noncomputable section

namespace Cert.SwaIdeal.Tile

open Cert.SwaIdeal Cert.SwaIdeal.Gen Idealize.ShloMosaic Idealize.ShloMosaic.TcCoe Idealize.SL.Sem ValueIdx Cert.SwaRow Cert.SwaSpec

variable (m : (ℓ : Loc nD τ sig) → Buf (Elt Ideal) ℓ)

/-! ## The grid's points and the windows' blocks -/

theorem coord0 (t : Fin cfg0.N) : (grid0.coords t 0).val = t.val / 8 % 16 := Pipeline.Grid.coords_val t 0 (by decide) rfl
theorem coord1 (t : Fin cfg0.N) : (grid0.coords t 1).val = t.val / 4 % 2 := Pipeline.Grid.coords_val t 1 (by decide) rfl
theorem coord2 (t : Fin cfg0.N) : (grid0.coords t 2).val = t.val % 4 := (Pipeline.Grid.coords_val t 2 (S := 1) (by decide) rfl).trans (by rw [Nat.div_one]; rfl)

theorem index2 : ∀ t : Fin cfg0.N, win0_2.index t = ![t.val / 8 % 16, t.val % 4, t.val / 4 % 2] := by
  show ∀ t : Fin grid0.N, _
  decide +kernel
theorem index3 : ∀ t : Fin cfg0.N, win0_3.index t = ![t.val / 8 % 16, 4 * (t.val % 4) - 1, 8 + t.val / 4 % 2] := by
  show ∀ t : Fin grid0.N, _
  decide +kernel
theorem index4 : ∀ t : Fin cfg0.N, win0_4.index t = ![t.val / 8 % 16, t.val % 4, 8 + t.val / 4 % 2] := by
  show ∀ t : Fin grid0.N, _
  decide +kernel
theorem index5 : ∀ t : Fin cfg0.N, win0_5.index t = ![t.val / 8 % 16, 4 * (t.val % 4) - 1, 10 + t.val / 4 % 2] := by
  show ∀ t : Fin grid0.N, _
  decide +kernel
theorem index6 : ∀ t : Fin cfg0.N, win0_6.index t = ![t.val / 8 % 16, t.val % 4, 10 + t.val / 4 % 2] := by
  show ∀ t : Fin grid0.N, _
  decide +kernel
theorem index7 : ∀ t : Fin cfg0.N, win0_7.index t = ![t.val / 8 % 16, t.val % 4, t.val / 4 % 2] := by
  show ∀ t : Fin grid0.N, _
  decide +kernel

theorem whole0 (c : Dev nD) (t : Fin cfg0.N) : (iblk m c 0 t : Vec Ideal S16 .f32) = V m c main_v9 := by
  funext j
  unfold iblk
  rw [View.read_apply]
  show V m c main_v9 _ = V m c main_v9 j
  refine congrArg (V m c main_v9) ?_
  funext a
  match a with
  | ⟨0, _⟩ => exact Fin.ext (by show 0 * 16 + 1 * (j 0).val = (j 0).val; omega)

theorem whole1 (c : Dev nD) (t : Fin cfg0.N) : (iblk m c 1 t : Vec Ideal S16 .f32) = V m c main_v10 := by
  funext j
  unfold iblk
  rw [View.read_apply]
  show V m c main_v10 _ = V m c main_v10 j
  refine congrArg (V m c main_v10) ?_
  funext a
  match a with
  | ⟨0, _⟩ => exact Fin.ext (by show 0 * 16 + 1 * (j 0).val = (j 0).val; omega)

/-- The projections as the call finds them. -/
abbrev proj (c : Dev nD) : Proj.Idx → EReal := V m c main_arg0

/-- The sequence of a point. -/
abbrev seqOf (t : Fin cfg0.N) : Fin 16 := ⟨t.val / 8 % 16, Nat.mod_lt _ (by decide)⟩

theorem block2 (c : Dev nD) (t : Fin cfg0.N) (R C : Fin 512) :
    (iblk m c 2 t : Vec Ideal S1x512x512 .bf16) (ix3 0 R C) = elt (proj m c) (seqOf t) (512 * (t.val % 4) + R.val) (512 * (t.val / 4 % 2) + C.val) := by
  unfold iblk
  rw [View.read_apply]
  have e := index2 t
  refine eq_elt (proj m c) _ ?_ ?_ ?_
  · show win0_2.index t 0 * 1 + 1 * 0 = t.val / 8 % 16
    rw [e]; show t.val / 8 % 16 * 1 + 1 * 0 = _; omega
  · show win0_2.index t 1 * 512 + 1 * R.val = _
    rw [e]; show t.val % 4 * 512 + 1 * R.val = _; omega
  · show win0_2.index t 2 * 512 + 1 * C.val = _
    rw [e]; show t.val / 4 % 2 * 512 + 1 * C.val = _; omega

/-- A point's tile before its block, of 128 lanes starting at lane `128·u`. -/
theorem block3 (c : Dev nD) (t : Fin cfg0.N) (R C : Fin 128) :
    (iblk m c 3 t : Vec Ideal S1x128x128 .bf16) (ix3 0 R C)
      = elt (proj m c) (seqOf t) (128 * (4 * (t.val % 4) - 1) + R.val) (128 * (8 + t.val / 4 % 2) + C.val) := by
  unfold iblk
  rw [View.read_apply]
  have e := index3 t
  refine eq_elt (proj m c) _ ?_ ?_ ?_
  · show win0_3.index t 0 * 1 + 1 * 0 = t.val / 8 % 16
    rw [e]; show t.val / 8 % 16 * 1 + 1 * 0 = _; omega
  · show win0_3.index t 1 * 128 + 1 * R.val = _
    rw [e]; show (4 * (t.val % 4) - 1) * 128 + 1 * R.val = _; omega
  · show win0_3.index t 2 * 128 + 1 * C.val = _
    rw [e]; show (8 + t.val / 4 % 2) * 128 + 1 * C.val = _; omega

theorem block5 (c : Dev nD) (t : Fin cfg0.N) (R C : Fin 128) :
    (iblk m c 5 t : Vec Ideal S1x128x128 .bf16) (ix3 0 R C)
      = elt (proj m c) (seqOf t) (128 * (4 * (t.val % 4) - 1) + R.val) (128 * (10 + t.val / 4 % 2) + C.val) := by
  unfold iblk
  rw [View.read_apply]
  have e := index5 t
  refine eq_elt (proj m c) _ ?_ ?_ ?_
  · show win0_5.index t 0 * 1 + 1 * 0 = t.val / 8 % 16
    rw [e]; show t.val / 8 % 16 * 1 + 1 * 0 = _; omega
  · show win0_5.index t 1 * 128 + 1 * R.val = _
    rw [e]; show (4 * (t.val % 4) - 1) * 128 + 1 * R.val = _; omega
  · show win0_5.index t 2 * 128 + 1 * C.val = _
    rw [e]; show (10 + t.val / 4 % 2) * 128 + 1 * C.val = _; omega

theorem block4 (c : Dev nD) (t : Fin cfg0.N) (R : Fin 512) (C : Fin 128) :
    (iblk m c 4 t : Vec Ideal S1x512x128 .bf16) (ix3 0 R C)
      = elt (proj m c) (seqOf t) (512 * (t.val % 4) + R.val) (128 * (8 + t.val / 4 % 2) + C.val) := by
  unfold iblk
  rw [View.read_apply]
  have e := index4 t
  refine eq_elt (proj m c) _ ?_ ?_ ?_
  · show win0_4.index t 0 * 1 + 1 * 0 = t.val / 8 % 16
    rw [e]; show t.val / 8 % 16 * 1 + 1 * 0 = _; omega
  · show win0_4.index t 1 * 512 + 1 * R.val = _
    rw [e]; show t.val % 4 * 512 + 1 * R.val = _; omega
  · show win0_4.index t 2 * 128 + 1 * C.val = _
    rw [e]; show (8 + t.val / 4 % 2) * 128 + 1 * C.val = _; omega

theorem block6 (c : Dev nD) (t : Fin cfg0.N) (R : Fin 512) (C : Fin 128) :
    (iblk m c 6 t : Vec Ideal S1x512x128 .bf16) (ix3 0 R C)
      = elt (proj m c) (seqOf t) (512 * (t.val % 4) + R.val) (128 * (10 + t.val / 4 % 2) + C.val) := by
  unfold iblk
  rw [View.read_apply]
  have e := index6 t
  refine eq_elt (proj m c) _ ?_ ?_ ?_
  · show win0_6.index t 0 * 1 + 1 * 0 = t.val / 8 % 16
    rw [e]; show t.val / 8 % 16 * 1 + 1 * 0 = _; omega
  · show win0_6.index t 1 * 512 + 1 * R.val = _
    rw [e]; show t.val % 4 * 512 + 1 * R.val = _; omega
  · show win0_6.index t 2 * 128 + 1 * C.val = _
    rw [e]; show (10 + t.val / 4 % 2) * 128 + 1 * C.val = _; omega

/-- A strip read whole, at a row that is not before the sequence's start. -/
theorem strip_elt (c : Dev nD) (b : Fin 16) (tt u : Nat) (prev : Vec Ideal S1x128x128 .bf16) (cur : Vec Ideal S1x512x128 .bf16)
    (hp : ∀ R C : Fin 128, prev (ix3 0 R C) = elt (proj m c) b (128 * (4 * tt - 1) + R.val) (128 * u + C.val))
    (hc : ∀ (R : Fin 512) (C : Fin 128), cur (ix3 0 R C) = elt (proj m c) b (512 * tt + R.val) (128 * u + C.val))
    (r : Fin 640) (l : Fin 128) (h : tt = 0 → 128 ≤ r.val) :
    stripLd prev cur (ix2 r l) = elt (proj m c) b (512 * tt + r.val - 128) (128 * u + l.val) := by
  have hz : (![0, 0, 0] : Fin 3 → Nat) = fun _ => 0 := funext fun a => by fin_cases a <;> rfl
  unfold stripLd
  rw [View.ld_unit_zero (S := S1x128x128) hz, View.ld_unit_zero (S := S1x512x128) hz]
  by_cases hr : r.val < 128
  · refine (strip_prev prev cur ⟨r.val, hr⟩ l).trans ((hp _ _).trans (congrArg (fun s => elt (proj m c) b s (128 * u + l.val)) ?_))
    show 128 * (4 * tt - 1) + r.val = 512 * tt + r.val - 128
    have : tt ≠ 0 := fun e => absurd (h e) (by omega)
    omega
  · have hr' : r.val - 128 < 512 := by omega
    have e : ix2 r l = ix2 (n0 := 640) (n1 := 128) ⟨128 + (⟨r.val - 128, hr'⟩ : Fin 512).val, by show 128 + (r.val - 128) < 640; omega⟩ l :=
      congrArg (fun x => ix2 x l) (Fin.ext (by show r.val = 128 + (r.val - 128); omega))
    refine (congrArg (strip prev cur) e).trans ?_
    refine (strip_cur prev cur ⟨r.val - 128, hr'⟩ l).trans ((hc _ _).trans (congrArg (fun s => elt (proj m c) b s (128 * u + l.val)) ?_))
    show 512 * tt + (r.val - 128) = 512 * tt + r.val - 128
    omega

/-! ## The scratch of distance shares -/

theorem sinkElt_congr {i i' : grid0.Coords} (h : (i 1).val = (i' 1).val) (x : Vec Ideal S16 .f32) : sinkElt i x = sinkElt i' x := by
  funext r
  have l : (i 1).val < 2 := (i 1).isLt
  rw [sinkElt_eq i x r (by omega), sinkElt_eq i' x r (by omega)]
  simp only [h]

theorem slabs_congr {i i' : grid0.Coords} (h : (i 1).val = (i' 1).val) (x : Vec Ideal S16 .f32) : slabs i x = slabs i' x := by
  have hs : sinksOf i x = sinksOf i' x := by
    funext ch
    match ch with
    | 0 => exact congrArg (fun e => select _ (broadcast S256x1 (e 2)) (broadcast S256x1 (e 0))) (sinkElt_congr h x)
    | 1 => exact congrArg (fun e => select _ (broadcast S256x1 (e 3)) (broadcast S256x1 (e 1))) (sinkElt_congr h x)
    | 2 => exact congrArg (fun e => select _ (broadcast S256x1 (e 6)) (broadcast S256x1 (e 4))) (sinkElt_congr h x)
    | 3 => exact congrArg (fun e => select _ (broadcast S256x1 (e 7)) (broadcast S256x1 (e 5))) (sinkElt_congr h x)
  unfold slabs
  rw [hs]

/-- After every point the scratch holds the four slabs of the point's own heads. -/
theorem scratch_eq (c : Dev nD) : ∀ (n : ℕ) (h : n < cfg0.N),
    (outsAt0 m c n h).2 = View.canon (slabs (grid0.coords ⟨n, h⟩) (V m c main_v9)) := by
  have first : ∀ (n : ℕ) (h : n < cfg0.N), n % 4 = 0 → (outsAt0 m c n h).2 = View.canon (slabs (grid0.coords ⟨n, h⟩) (V m c main_v9)) := by
    intro n h h0
    have e := outsAt0_A m c ⟨n, h⟩ h0
    dsimp only at e
    rw [e]
    dsimp only
    rw [scratch_A, whole0]
  intro n
  induction n with
  | zero => exact fun h => first 0 h rfl
  | succ n ih =>
    intro h
    by_cases h0 : (n + 1) % 4 = 0
    · exact first (n + 1) h h0
    · have e := outsAt0_B m c ⟨n + 1, h⟩ h0
      dsimp only at e
      rw [e]
      dsimp only
      unfold sout0_B_0
      refine (ih (Nat.lt_of_succ_lt h)).trans ?_
      refine congrArg View.canon (slabs_congr ?_ _)
      rw [coord1, coord1]
      show n / 4 % 2 = (n + 1) / 4 % 2
      omega

/-- Every point's block is the body's block of its inputs and its own heads' slabs. -/
theorem outs_eq (c : Dev nD) (t : Fin cfg0.N) :
    (outsAt0 m c t.val t.isLt).1 = outBlock (grid0.coords t) (V m c main_v10) (iblk m c 2 t) (iblk m c 3 t) (iblk m c 4 t) (iblk m c 5 t) (iblk m c 6 t)
      (View.canon (slabs (grid0.coords t) (V m c main_v9))) := by
  by_cases h0 : t.val % 4 = 0
  · rw [outsAt0_A m c t h0]
    dsimp only
    rw [out_A, whole0, whole1]
  · rw [outsAt0_B m c t h0]
    dsimp only
    rw [out_B, whole1, scratch_eq]
    refine congrArg (fun G => outBlock _ _ _ _ _ _ _ G) ?_
    refine congrArg View.canon (slabs_congr ?_ _)
    rw [coord1, coord1]
    show (t.val - 1) / 4 % 2 = t.val / 4 % 2
    omega

/-! ## A point's element, and the array -/

/-- The body's score is the specification's, once its queries and keys are the projections'. -/
theorem score_eq (x : Proj.Idx → EReal) (sl : EReal) (b : Fin 16) (tt h : Nat) (blk : Fin 4) (r : Fin 128)
    (q : Fin 64 → EReal) (key : Fin 256 → Fin 64 → EReal)
    (hq : ∀ d, q d = elt x b (128 * (4 * tt + blk.val) + r.val) (64 * h + d.val))
    (hk : ∀ k d, ¬ Before (4 * tt + blk.val) k.val → key k d = windowAt x 1024 b (4 * tt + blk.val) h k d) :
    score tt q key sl blk r = scoreAt x sl b (4 * tt + blk.val) h r.val := by
  funext k
  unfold score scoreAt
  by_cases hb : Before (4 * tt + blk.val) k.val
  · rw [if_pos ⟨by omega, by omega, hb.2⟩, if_neg fun e => e.2 hb]
  · have h1 : ¬ (blk.val = 0 ∧ tt = 0 ∧ k.val < 128) := fun e => hb ⟨by omega, e.2.2⟩
    rw [if_neg h1]
    by_cases hs : Seen r.val k.val
    · rw [if_pos hs, if_pos ⟨hs, hb⟩]
      simp only [hq, fun d => hk k d hb]
    · rw [if_neg hs, if_neg fun e => hs e.1, EReal.sub_top]

/-- A point's block at row `128·blk + r` and lane `d` of its head `4·kv + 2·half + par`: the specification's element. -/
theorem point_eq (c : Dev nD) (t : Fin cfg0.N) (blk : Fin 4) (kv half par : Fin 2) (r : Fin 128) (d : Fin 64)
    (s : Fin 2048) (hs : s.val = 512 * (t.val % 4) + (128 * blk.val + r.val))
    (col : Fin 1024) (hcol : col.val = 512 * (t.val / 4 % 2) + (128 * (colOf kv half).val + (laneOf par d).val)) :
    outBlock (grid0.coords t) (V m c main_v10) (iblk m c 2 t) (iblk m c 3 t) (iblk m c 4 t) (iblk m c 5 t) (iblk m c 6 t)
        (View.canon (slabs (grid0.coords t) (V m c main_v9)))
        (ix3 (0 : Fin 1) ⟨128 * blk.val + r.val, by omega⟩ ⟨128 * (colOf kv half).val + (laneOf par d).val, by omega⟩)
      = attn (proj m c) (V m c main_v9) (V m c main_v10) (ix3 (seqOf t) s col) := by
  have hcol' : col.val = 512 * (t.val / 4 % 2) + (128 * (2 * kv.val + half.val) + (64 * par.val + d.val)) := hcol
  have hh : col.val / 64 = 8 * (t.val / 4 % 2) + (4 * kv.val + 2 * half.val + par.val) := by omega
  have hd : col.val % 64 = d.val := by omega
  have hn : s.val / 128 = 4 * (t.val % 4) + blk.val := by omega
  have hr : s.val % 128 = r.val := by omega
  have c1 := coord1 t
  have c2 := coord2 t
  have head : ∀ x : Vec Ideal S16 .f32, sinkElt (grid0.coords t) x (headOf kv half par) = x (ix1 (Cert.SwaSpec.headAt col)) := by
    intro x
    rw [sinkElt_eq (grid0.coords t) x (headOf kv half par) (by show 8 * _ + (4 * kv.val + 2 * half.val + par.val) < 16; omega)]
    refine congrArg (fun h : Fin 16 => x (ix1 h)) (Fin.ext ?_)
    show 8 * (grid0.coords t 1).val + (4 * kv.val + 2 * half.val + par.val) = col.val / 64
    rw [c1, hh]
  have hkv : col.val / 64 / 4 = 2 * (t.val / 4 % 2) + kv.val := by omega
  unfold outBlock
  rw [block_apply, head, head]
  show kerRow _ _ _ = kerRow (scoreAt (proj m c) _ (seqOf t) (s.val / 128) (col.val / 64) (s.val % 128))
    (fun k => windowAt (proj m c) 1280 (seqOf t) (s.val / 128) (col.val / 64) k ⟨col.val % 64, _⟩) _
  rw [c2, hn, hr]
  have hS := score_eq (proj m c) (V m c main_v9 (ix1 (Cert.SwaSpec.headAt col))) (seqOf t) (t.val % 4) (col.val / 64) blk r
    (fun d' => (iblk m c 2 t : Vec Ideal S1x512x512 .bf16) (ix3 0 ⟨128 * blk.val + r.val, by omega⟩ ⟨128 * (colOf kv half).val + (laneOf par d').val, by omega⟩))
    (fun kk d' => stripLd (iblk m c 3 t) (iblk m c 4 t) (ix2 ⟨128 * blk.val + kk.val, by omega⟩ (laneOf kv d')))
    (fun d' => by
      rw [block2]
      show elt _ _ (512 * (t.val % 4) + (128 * blk.val + r.val)) (512 * (t.val / 4 % 2) + (128 * (2 * kv.val + half.val) + (64 * par.val + d'.val))) = _
      congr 1 <;> omega)
    (fun kk d' hb => by
      rw [strip_elt m c (seqOf t) (t.val % 4) (8 + t.val / 4 % 2) _ _ (block3 m c t) (block4 m c t) _ _ (fun e => by
        show 128 ≤ 128 * blk.val + kk.val
        by_contra hlt
        exact hb ⟨by omega, by omega⟩)]
      unfold windowAt
      rw [if_neg hb]
      show elt _ _ (512 * (t.val % 4) + (128 * blk.val + kk.val) - 128) (128 * (8 + t.val / 4 % 2) + (64 * kv.val + d'.val)) = _
      congr 1 <;> omega)
  rw [hS]
  refine kerRow_congr fun kk hne => ?_
  have hb : ¬ Before (4 * (t.val % 4) + blk.val) kk.val := by
    intro hb
    apply hne
    unfold scoreAt
    rw [if_neg fun e => e.2 hb]
  rw [strip_elt m c (seqOf t) (t.val % 4) (10 + t.val / 4 % 2) _ _ (block5 m c t) (block6 m c t) _ _ (fun e => by
    show 128 ≤ 128 * blk.val + kk.val
    by_contra hlt
    exact hb ⟨by omega, by omega⟩)]
  unfold windowAt
  rw [if_neg hb]
  show elt _ _ (512 * (t.val % 4) + (128 * blk.val + kk.val) - 128) (128 * (10 + t.val / 4 % 2) + (64 * kv.val + d.val))
    = elt _ _ _ (1280 + 64 * (col.val / 64 / 4) + col.val % 64)
  congr 1 <;> omega

/-- The result array holds the attention. -/
theorem final_eq (c : Dev nD) :
    (dats m 0 c).arrAt 7 cfg0.N = (attn (proj m c) (V m c main_v9) (V m c main_v10) : S16x2048x1024.Idx → EReal) := by
  refine (dats m 0 c).arrAt_eq_of_cover 7 (attn (proj m c) (V m c main_v9) (V m c main_v10) : S16x2048x1024.Idx → EReal) (fun t _ => ?_) (fun i => ?_)
  · rw [Value.flushed7, outs_eq]
    funext y
    rw [View.read_apply]
    have hi := index7 t
    have l0 : (y 0).val < 1 := (y 0).isLt
    have l1 : (y 1).val < 512 := (y 1).isLt
    have l2 : (y 2).val < 512 := (y 2).isLt
    obtain ⟨blk, hblk⟩ : ∃ blk : Fin 4, blk.val = (y 1).val / 128 := ⟨⟨(y 1).val / 128, by omega⟩, rfl⟩
    obtain ⟨r, hr⟩ : ∃ r : Fin 128, r.val = (y 1).val % 128 := ⟨⟨(y 1).val % 128, by omega⟩, rfl⟩
    obtain ⟨kv, hkv⟩ : ∃ kv : Fin 2, kv.val = (y 2).val / 256 := ⟨⟨(y 2).val / 256, by omega⟩, rfl⟩
    obtain ⟨half, hhalf⟩ : ∃ half : Fin 2, half.val = (y 2).val / 128 % 2 := ⟨⟨(y 2).val / 128 % 2, by omega⟩, rfl⟩
    obtain ⟨par, hpar⟩ : ∃ par : Fin 2, par.val = (y 2).val / 64 % 2 := ⟨⟨(y 2).val / 64 % 2, by omega⟩, rfl⟩
    obtain ⟨d, hd⟩ : ∃ d : Fin 64, d.val = (y 2).val % 64 := ⟨⟨(y 2).val % 64, by omega⟩, rfl⟩
    have hp := point_eq m c t blk kv half par r d ⟨512 * (t.val % 4) + (128 * blk.val + r.val), by omega⟩ rfl
      ⟨512 * (t.val / 4 % 2) + (128 * (colOf kv half).val + (laneOf par d).val), by
        show 512 * (t.val / 4 % 2) + (128 * (2 * kv.val + half.val) + (64 * par.val + d.val)) < 1024; omega⟩ rfl
    refine Eq.trans ?_ (hp.trans ?_)
    · show outBlock _ _ _ _ _ _ _ _ _ = outBlock _ _ _ _ _ _ _ _ _
      refine congrArg (outBlock _ _ _ _ _ _ _ _) ?_
      funext a
      match a with
      | ⟨0, _⟩ => exact Fin.ext (by show (y 0).val = 0; omega)
      | ⟨1, _⟩ => exact Fin.ext (by show (y 1).val = 128 * blk.val + r.val; omega)
      | ⟨2, _⟩ => exact Fin.ext (by show (y 2).val = 128 * (2 * kv.val + half.val) + (64 * par.val + d.val); omega)
    · refine congrArg (attn (proj m c) (V m c main_v9) (V m c main_v10)) ?_
      funext a
      match a with
      | ⟨0, _⟩ => exact Fin.ext (by
          show t.val / 8 % 16 = win0_7.index t 0 * 1 + 1 * (y 0).val
          rw [hi]; show t.val / 8 % 16 = t.val / 8 % 16 * 1 + 1 * (y 0).val; omega)
      | ⟨1, _⟩ => exact Fin.ext (by
          show 512 * (t.val % 4) + (128 * blk.val + r.val) = win0_7.index t 1 * 512 + 1 * (y 1).val
          rw [hi]; show 512 * (t.val % 4) + (128 * blk.val + r.val) = t.val % 4 * 512 + 1 * (y 1).val; omega)
      | ⟨2, _⟩ => exact Fin.ext (by
          show 512 * (t.val / 4 % 2) + (128 * (2 * kv.val + half.val) + (64 * par.val + d.val)) = win0_7.index t 2 * 512 + 1 * (y 2).val
          rw [hi]; show 512 * (t.val / 4 % 2) + (128 * (2 * kv.val + half.val) + (64 * par.val + d.val)) = t.val / 4 % 2 * 512 + 1 * (y 2).val; omega)
  · have l0 : (i 0).val < 16 := (i 0).isLt
    have l1 : (i 1).val < 2048 := (i 1).isLt
    have l2 : (i 2).val < 1024 := (i 2).isLt
    obtain ⟨t, ht⟩ : ∃ t : Fin cfg0.N, t.val = 8 * (i 0).val + 4 * ((i 2).val / 512) + (i 1).val / 512 :=
      ⟨⟨8 * (i 0).val + 4 * ((i 2).val / 512) + (i 1).val / 512, lt_of_lt_of_eq (by omega) (show 128 = cfg0.N from N_0.symm)⟩, rfl⟩
    refine ⟨t, flush0_7 t, ?_⟩
    have hi := index7 t
    show i ∈ ((View.whole main_v11).slice (win0_7.rect t)).set
    rw [View.set_slice_whole, Rect.mem_set_unit]
    intro a
    match a with
    | ⟨0, _⟩ =>
      show win0_7.index t 0 * 1 ≤ (i 0).val ∧ (i 0).val < win0_7.index t 0 * 1 + 1
      rw [hi]; show t.val / 8 % 16 * 1 ≤ (i 0).val ∧ (i 0).val < t.val / 8 % 16 * 1 + 1; omega
    | ⟨1, _⟩ =>
      show win0_7.index t 1 * 512 ≤ (i 1).val ∧ (i 1).val < win0_7.index t 1 * 512 + 512
      rw [hi]; show t.val % 4 * 512 ≤ (i 1).val ∧ (i 1).val < t.val % 4 * 512 + 512; omega
    | ⟨2, _⟩ =>
      show win0_7.index t 2 * 512 ≤ (i 2).val ∧ (i 2).val < win0_7.index t 2 * 512 + 512
      rw [hi]; show t.val / 4 % 2 * 512 ≤ (i 2).val ∧ (i 2).val < t.val / 4 % 2 * 512 + 512; omega

end Cert.SwaIdeal.Tile
-- ==== Proof.Swa.Final.lean ====
/-
  The attention's two host chains — the heads' slopes and the sinks — and the precondition, read in the two orders of
  normalisation: where queries, keys and sinks are finite the kernel's and the reference's are equal.
-/
module

public import proofs.«01_k».proof.Proof.Swa.Array

@[expose] public section

noncomputable section

namespace Cert.SwaIdeal.Tile

open Cert.SwaIdeal Cert.SwaIdeal.Gen Idealize.ShloMosaic Idealize.ShloMosaic.TcCoe Idealize.SL.Sem ValueIdx Cert.SwaRow Cert.SwaSpec

variable (m : (ℓ : Loc nD τ sig) → Buf (Elt Ideal) ℓ)

/-- The heads' slopes as the host computes them. -/
def slopes : Vec Ideal S16 .f32 :=
  Host.exp (mulf (broadcastInDim S16 ![] bcast_S_S16 (constant (F := Ideal) S_ .f32 0x3F317218#32))
    (Host.divf (mulf (broadcastInDim S16 ![] bcast_S_S16 (constant (F := Ideal) S_ .f32 0xC1000000#32))
      (addf (broadcastInDim S16 ![] bcast_S_S16 (constant (F := Ideal) S_ .f32 0x3F800000#32)) (sitofp .f32 (iotaInDim S16 32 0))))
      (broadcastInDim S16 ![] bcast_S_S16 (constant (F := Ideal) S_ .f32 0x41800000#32))))

theorem V_main_v9 (c : Dev nD) : V m c main_v9 = slopes := by
  unfold V slopes
  simp only [hostOps0, StableHlo.TRef.binary, StableHlo.TRef.ternary, StableHlo.TRef.unary, StableHlo.TRef.toBuf, StableHlo.TRef.ofBuf, cast_eq]
  after_results_simp <;> rfl

theorem V_main_v10 (c : Dev nD) :
    V m c main_v10 = shapeCast S16 (m ((c.tc : Thread nD τ).loc main_arg1)) shapeCasts_S1x16_S16 := by
  unfold V
  simp only [hostOps0, StableHlo.TRef.binary, StableHlo.TRef.ternary, StableHlo.TRef.unary, StableHlo.TRef.toBuf, StableHlo.TRef.ofBuf, cast_eq]
  after_results_simp <;> rfl

end Cert.SwaIdeal.Tile
-- ==== Proof.Swa.Finite.lean ====
/-
  Where queries, keys and sinks are finite every score is below infinity, and the attention in the kernel's order of
  normalisation is the attention in the reference's.
-/
module

public import proofs.«01_k».proof.Proof.Swa.Spec
public import proofs.«01_k».proof.Pre_finite_queries_keys_sinks
public import Idealize.ShloMosaic.PureOps.Ideal.Laws
public import Idealize.ShloMosaic.Lib.Pipeline.Value

@[expose] public section

noncomputable section

namespace Cert.SwaSpec

open Idealize.ShloMosaic ValueIdx Cert.SwaRow

/-- A sum of reals is a real. -/
theorem sum_real {ι : Type} (S : Finset ι) (f : ι → EReal) (h : ∀ k ∈ S, ∃ r : ℝ, f k = (r : EReal)) :
    ∃ r : ℝ, ∑ k ∈ S, f k = (r : EReal) := by
  classical
  induction S using Finset.induction_on with
  | empty => exact ⟨0, by simp⟩
  | insert a S ha ih =>
    obtain ⟨r, hr⟩ := ih fun k hk => h k (Finset.mem_insert_of_mem hk)
    obtain ⟨q, hq⟩ := h a (Finset.mem_insert_self a S)
    exact ⟨q + r, by rw [Finset.sum_insert ha, hr, hq, EReal.coe_add]⟩

/-- A score is below infinity: a real product less a share that is never negative inside the window. -/
theorem score_lt_top (x : Proj.Idx → EReal) (slope : EReal) (hx : ∀ b s c, c < 1280 → ∃ r : ℝ, elt x b s c = (r : EReal))
    (hs : 0 ≤ slope) (b : Fin 16) (n h r : Nat) (hh : h < 16) (k : Fin 256) : scoreAt x slope b n h r k < ⊤ := by
  unfold scoreAt
  by_cases hv : Seen r k.val ∧ ¬ Before n k.val
  · rw [if_pos hv]
    obtain ⟨p, hp⟩ := sum_real Finset.univ (fun d : Fin 64 => elt x b (128 * n + r) (64 * h + d.val) * windowAt x 1024 b n h k d) (fun d _ => by
      obtain ⟨q, hq⟩ := hx b (128 * n + r) (64 * h + d.val) (by omega)
      obtain ⟨w, hw⟩ : ∃ w : ℝ, windowAt x 1024 b n h k d = (w : EReal) := by
        unfold windowAt
        rw [if_neg hv.2]
        exact hx b _ _ (by omega)
      exact ⟨q * w, by rw [hq, hw, EReal.coe_mul]⟩)
    rw [hp]
    have hg : (0 : EReal) ≤ (((gap r k.val : Int) : ℝ) : EReal) := by
      have : (0 : Int) ≤ gap r k.val := by unfold gap; omega
      exact EReal.coe_nonneg.2 (Int.cast_nonneg this)
    have hm : 0 ≤ slope * (((gap r k.val : Int) : ℝ) : EReal) := mul_nonneg hs hg
    refine lt_of_le_of_lt ?_ (EReal.coe_lt_top p)
    rw [sub_eq_add_neg]
    have hn : -(slope * (((gap r k.val : Int) : ℝ) : EReal)) ≤ 0 := by
      rw [← neg_zero]
      exact EReal.neg_le_neg_iff.2 hm
    exact (add_le_add_right hn _).trans_eq (add_zero _)
  · rw [if_neg hv]
    exact bot_lt_top

/-- The two orders of normalisation agree. -/
theorem attn_eq (x : Proj.Idx → EReal) (sl z : Heads.Idx → EReal) (hx : ∀ b s c, c < 1280 → ∃ r : ℝ, elt x b s c = (r : EReal))
    (hs : ∀ h, 0 ≤ sl h) (hz : ∀ h, ∃ r : ℝ, z h = (r : EReal)) : attn x sl z = attnRef x sl z := by
  funext i
  obtain ⟨r, hr⟩ := hz (ix1 (headAt (i 2)))
  unfold attn attnRef
  rw [hr]
  refine row_eq (fun k => ?_) (EReal.coe_ne_bot r) (EReal.coe_lt_top r)
  refine score_lt_top x _ hx (hs _) _ _ _ _ ?_ k
  have l2 : (i 2).val < 1024 := (i 2).isLt
  show (i 2).val / 64 < 16
  omega

/-! ## The precondition -/

theorem preFacts : Cert.Pre_finite_queries_keys_sinks.Facts where
  slices_S16x2048x4608_S16x2048x1280_0_0_0 := by decide
  bitsLt_bf16_f32 := by decide
  bcast_S_S16x2048x1280 := by decide
  bcast_S_S1x16 := by decide

/-- A word below infinity in size is a real. -/
theorem real_of_bit {a : EReal} (h : Ideal.cmp .olt (max a (-a)) (Ideal.ofBits .f32 0x7F800000#32) = 1#1) : ∃ r : ℝ, a = (r : EReal) := by
  have hinf : Ideal.ofBits .f32 0x7F800000#32 = ⊤ := by simp [Ideal.ofBits, Ideal.ieee]
  rw [hinf] at h
  induction a with
  | bot => exact absurd h (by simp [Ideal.cmp])
  | coe r => exact ⟨r, rfl⟩
  | top => exact absurd h (by simp [Ideal.cmp])

variable [hPre : Cert.Pre_finite_queries_keys_sinks.Facts]

theorem proj_real (x : Proj.Idx → EReal) (z : (⟨2, ![1, 16]⟩ : Shape).Idx → EReal)
    (h : (Cert.Pre_finite_queries_keys_sinks.fn (F := Ideal) x z).1 = fun _ => 1#1) (b : Fin 16) (s c : Nat) (hc : c < 1280) :
    ∃ r : ℝ, elt x b s c = (r : EReal) := by
  have e := congrFun h (ix3 b ⟨s % 2048, Nat.mod_lt _ (by decide)⟩ ⟨c, hc⟩)
  have hsl := extractStridedSlice_apply (s := Proj) (t := Cert.Pre_finite_queries_keys_sinks.S16x2048x1280) ![0, 0, 0] x hPre.slices_S16x2048x4608_S16x2048x1280_0_0_0
    (ix3 b ⟨s % 2048, Nat.mod_lt _ (by decide)⟩ ⟨c, hc⟩) (ix3 b ⟨s % 2048, Nat.mod_lt _ (by decide)⟩ ⟨c % 4608, Nat.mod_lt _ (by decide)⟩) (fun a => by
      match a with
      | ⟨0, _⟩ => show b.val = 0 + b.val; omega
      | ⟨1, _⟩ => show s % 2048 = 0 + s % 2048; omega
      | ⟨2, _⟩ => show c % 4608 = 0 + c; omega)
  unfold elt
  rw [← hsl]
  exact real_of_bit e

theorem sinks_real (x : Proj.Idx → EReal) (z : (⟨2, ![1, 16]⟩ : Shape).Idx → EReal)
    (h : (Cert.Pre_finite_queries_keys_sinks.fn (F := Ideal) x z).2 = fun _ => 1#1) (i : (⟨2, ![1, 16]⟩ : Shape).Idx) :
    ∃ r : ℝ, z i = (r : EReal) :=
  real_of_bit (congrFun h i)

end Cert.SwaSpec
-- ==== Proof.Swa.Ref.lean ====
/-
  The reference's result, element by element: the attention of `Spec.lean` in the reference's order of normalisation.
-/
module

public import proofs.«01_k».proof.Proof.Gen.SwaRefIdeal.Read
public import proofs.«01_k».proof.Proof.Swa.Spec
public import Idealize.ShloMosaic.Lib.KernelVsHost
public import Idealize.ShloMosaic.Lib.ValueIdxRank6

@[expose] public section

noncomputable section

namespace Cert.SwaRefIdeal.Rows

open Cert.SwaRefIdeal Cert.SwaRefIdeal.Gen Cert.SwaRefIdeal.Read Idealize.ShloMosaic Idealize.ShloMosaic.TcCoe ValueIdx Cert.SwaRow Cert.SwaSpec

variable (x : (⟨S16x2048x4608, .bf16⟩ : BufTy).Contents (Elt Ideal)) (x1 : (⟨S1x16, .f32⟩ : BufTy).Contents (Elt Ideal))

/-! ## Queries and windows -/

theorem query_apply (i : S16x16x128x4x4x64.Idx) :
    val_main_v2 (F := Ideal) x i
      = elt x (i 0) (128 * (i 1).val + (i 2).val) (64 * (4 * (i 3).val + (i 4).val) + (i 5).val) := by
  have l1 : (i 1).val < 16 := (i 1).isLt
  have l2 : (i 2).val < 128 := (i 2).isLt
  have l3 : (i 3).val < 4 := (i 3).isLt
  have l4 : (i 4).val < 4 := (i 4).isLt
  have l5 : (i 5).val < 64 := (i 5).isLt
  unfold val_main_v2
  refine (shapeCast_apply (s := S16x2048x1024) (t := S16x16x128x4x4x64) _ _ i (ix3 (i 0) ⟨128 * (i 1).val + (i 2).val, by omega⟩ ⟨64 * (4 * (i 3).val + (i 4).val) + (i 5).val, by omega⟩) (by
    refine (Shape.rowMajor_val_three _).trans (Eq.trans ?_ (Shape.rowMajor_val_six i).symm)
    show ((i 0).val * 2048 + (128 * (i 1).val + (i 2).val)) * 1024 + (64 * (4 * (i 3).val + (i 4).val) + (i 5).val)
      = (((((i 0).val * 16 + (i 1).val) * 128 + (i 2).val) * 4 + (i 3).val) * 4 + (i 4).val) * 64 + (i 5).val
    omega)).trans ?_
  rw [val_main_v1_apply, val_main_v0_apply]
  exact eq_elt x _ rfl rfl rfl

/-- The columns of keys or values, cut into blocks of 128 rows and heads of 64 lanes. -/
theorem blocks_apply (y : S16x2048x256.Idx → EReal) (base : Nat) (hb : base < 4096)
    (hy : ∀ j : S16x2048x256.Idx, y j = elt x (j 0) (j 1).val (base + (j 2).val)) (i : S16x16x128x4x64.Idx) :
    shapeCast S16x16x128x4x64 y shapeCasts_S16x2048x256_S16x16x128x4x64 i
      = elt x (i 0) (128 * (i 1).val + (i 2).val) (base + 64 * (i 3).val + (i 4).val) := by
  have l1 : (i 1).val < 16 := (i 1).isLt
  have l2 : (i 2).val < 128 := (i 2).isLt
  have l3 : (i 3).val < 4 := (i 3).isLt
  have l4 : (i 4).val < 64 := (i 4).isLt
  refine (shapeCast_apply (s := S16x2048x256) (t := S16x16x128x4x64) _ _ i (ix3 (i 0) ⟨128 * (i 1).val + (i 2).val, by omega⟩ ⟨64 * (i 3).val + (i 4).val, by omega⟩) (by
    refine (Shape.rowMajor_val_three _).trans (Eq.trans ?_ (Shape.rowMajor_val_five i).symm)
    show ((i 0).val * 2048 + (128 * (i 1).val + (i 2).val)) * 256 + (64 * (i 3).val + (i 4).val)
      = ((((i 0).val * 16 + (i 1).val) * 128 + (i 2).val) * 4 + (i 3).val) * 64 + (i 4).val
    omega)).trans ?_
  refine (hy _).trans ?_
  show elt x (i 0) (128 * (i 1).val + (i 2).val) (base + (64 * (i 3).val + (i 4).val)) = _
  rw [Nat.add_assoc]

theorem keys_apply (i : S16x16x128x4x64.Idx) :
    val_main_v4 (F := Ideal) x i = elt x (i 0) (128 * (i 1).val + (i 2).val) (1024 + 64 * (i 3).val + (i 4).val) :=
  blocks_apply x (val_main_v3 (F := Ideal) x) 1024 (by decide) (fun j => by
    rw [val_main_v3_apply, val_main_v0_apply]
    exact eq_elt x _ rfl rfl rfl) i

theorem values_apply (i : S16x16x128x4x64.Idx) :
    val_main_v6 (F := Ideal) x i = elt x (i 0) (128 * (i 1).val + (i 2).val) (1280 + 64 * (i 3).val + (i 4).val) :=
  blocks_apply x (val_main_v5 (F := Ideal) x) 1280 (by decide) (fun j => by
    rw [val_main_v5_apply, val_main_v0_apply]
    exact eq_elt x _ rfl rfl rfl) i

/-- The previous block (zero before the first) followed by the block's own: the window. -/
theorem window_apply (base : Nat) (own : S16x16x128x4x64.Idx → EReal) (prev : S16x15x128x4x64.Idx → EReal) (zero : S_.Idx → EReal)
    (ho : ∀ j : S16x16x128x4x64.Idx, own j = elt x (j 0) (128 * (j 1).val + (j 2).val) (base + 64 * (j 3).val + (j 4).val))
    (hp : ∀ j : S16x15x128x4x64.Idx, prev j = elt x (j 0) (128 * (j 1).val + (j 2).val) (base + 64 * (j 3).val + (j 4).val))
    (hz : ∀ j, zero j = 0) (i : S16x16x256x4x64.Idx) (h : Nat) (hh : h / 4 = (i 3).val) :
    concatenate S16x16x256x4x64 2
      [⟨S16x16x128x4x64, pad S16x16x128x4x64 ![0, 1, 0, 0, 0] ![0, 0, 0, 0, 0] ![0, 0, 0, 0, 0] prev zero pads_S16x15x128x4x64_S16x16x128x4x64_000_100_000_000_000 h_S_⟩,
        ⟨S16x16x128x4x64, own⟩] concatenates_S16x16x128x4x64_S16x16x128x4x64_S16x16x256x4x64_d2 i
      = windowAt x base (i 0) (i 1).val h (i 2) (i 4) := by
  have l1 : (i 1).val < 16 := (i 1).isLt
  have l2 : (i 2).val < 256 := (i 2).isLt
  unfold windowAt
  rw [hh]
  by_cases hk : (i 2).val < 128
  · refine (concatenate_pair_apply_left (t := S16x16x256x4x64) (s₁ := S16x16x128x4x64) (s₂ := S16x16x128x4x64) 2 _ _ _ i rfl (ix5 (i 0) (i 1) ⟨(i 2).val, hk⟩ (i 3) (i 4)) (fun b => by
      match b with | ⟨0, _⟩ => rfl | ⟨1, _⟩ => rfl | ⟨2, _⟩ => rfl | ⟨3, _⟩ => rfl | ⟨4, _⟩ => rfl)).trans ?_
    by_cases hn : (i 1).val = 0
    · refine (pad_apply_of_not_inside (s := S16x15x128x4x64) (t := S16x16x128x4x64) _ _ _ _ _ _ _ _ 1 (by
        intro e
        have : 1 ≤ (i 1).val := e.1
        omega)).trans ?_
      rw [if_pos ⟨hn, hk⟩]
      exact hz _
    · refine (pad_apply_of_inside (s := S16x15x128x4x64) (t := S16x16x128x4x64) _ _ _ _ _ _ _ _ (ix5 (i 0) ⟨(i 1).val - 1, by omega⟩ ⟨(i 2).val, hk⟩ (i 3) (i 4)) (fun b => by
        match b with
        | ⟨0, _⟩ => show (i 0).val = 0 + (i 0).val * (0 + 1); omega
        | ⟨1, _⟩ => show (i 1).val = 1 + ((i 1).val - 1) * (0 + 1); omega
        | ⟨2, _⟩ => show (i 2).val = 0 + (i 2).val * (0 + 1); omega
        | ⟨3, _⟩ => show (i 3).val = 0 + (i 3).val * (0 + 1); omega
        | ⟨4, _⟩ => show (i 4).val = 0 + (i 4).val * (0 + 1); omega)).trans ?_
      rw [if_neg fun e => hn e.1]
      refine (hp _).trans (congrArg (fun s => elt x (i 0) s (base + 64 * (i 3).val + (i 4).val)) ?_)
      show 128 * ((i 1).val - 1) + (i 2).val = 128 * (i 1).val + (i 2).val - 128
      omega
  · refine (concatenate_pair_apply_right (t := S16x16x256x4x64) (s₁ := S16x16x128x4x64) (s₂ := S16x16x128x4x64) 2 _ _ _ i rfl rfl (ix5 (i 0) (i 1) ⟨(i 2).val - 128, by omega⟩ (i 3) (i 4)) (fun b hb => by
      match b with | ⟨0, _⟩ => rfl | ⟨1, _⟩ => rfl | ⟨2, _⟩ => exact absurd rfl hb | ⟨3, _⟩ => rfl | ⟨4, _⟩ => rfl) (by
        show (i 2).val - 128 + 128 = (i 2).val
        omega)).trans ?_
    rw [if_neg fun e => hk e.2]
    refine (ho _).trans (congrArg (fun s => elt x (i 0) s (base + 64 * (i 3).val + (i 4).val)) ?_)
    show 128 * (i 1).val + ((i 2).val - 128) = 128 * (i 1).val + (i 2).val - 128
    omega

theorem zero_word : FloatOps.sitofp (F := Ideal) .f32 (0#32) = (0 : EReal) := by
  show (((0#32).toInt : ℝ) : EReal) = 0
  simp

theorem keyWindow_apply (i : S16x16x256x4x64.Idx) (h : Nat) (hh : h / 4 = (i 3).val) :
    val_main_v9 (F := Ideal) x i = windowAt x 1024 (i 0) (i 1).val h (i 2) (i 4) :=
  window_apply x 1024 (val_main_v4 (F := Ideal) x) (val_main_v7 (F := Ideal) x) (val_main_call0_v0 (F := Ideal)) (keys_apply x)
    (fun j => (val_main_v7_apply x j).trans (keys_apply x _)) (fun _ => zero_word) i h hh

theorem valueWindow_apply (i : S16x16x256x4x64.Idx) (h : Nat) (hh : h / 4 = (i 3).val) :
    val_main_v12 (F := Ideal) x i = windowAt x 1280 (i 0) (i 1).val h (i 2) (i 4) :=
  window_apply x 1280 (val_main_v6 (F := Ideal) x) (val_main_v10 (F := Ideal) x) (val_main_call1_v0 (F := Ideal)) (values_apply x)
    (fun j => (val_main_v10_apply x j).trans (values_apply x _)) (fun _ => zero_word) i h hh

/-! ## The window's bit and the distances -/

theorem distance_apply (i : S128x256.Idx) :
    val_main_v23 (F := Ideal) i
      = Scalar.subi (Scalar.addi (BitVec.ofNat 32 (i 0).val) 128#32) (BitVec.ofNat 32 (i 1).val) := by
  rw [val_main_v23_apply, val_main_v21_apply, val_main_v18_apply, val_main_v16_apply, val_main_v17_apply, val_main_v22_apply, val_main_v20_apply]
  rfl

theorem seen_apply (i : S128x256.Idx) :
    val_main_v28 (F := Ideal) i = if Seen (i 0).val (i 1).val then 1#1 else 0#1 := by
  rw [val_main_v28_apply, val_main_v25_apply, val_main_v27_apply, distance_apply, val_main_v24_apply, val_main_v26_apply]
  exact seen_word _ _ (i 0).isLt (i 1).isLt

theorem started_apply (i : S16x1x256.Idx) :
    val_main_v39 (F := Ideal) i = if Before (i 0).val (i 2).val then 0#1 else 1#1 := by
  have l0 : (i 0).val < 16 := (i 0).isLt
  have l2 : (i 2).val < 256 := (i 2).isLt
  rw [val_main_v39_apply, val_main_v37_apply, val_main_v38_apply, val_main_v33_apply, val_main_v36_apply, val_main_v30_apply,
    val_main_v32_apply, val_main_v34_apply, val_main_v35_apply, val_main_v20_apply]
  show Scalar.ori (Scalar.cmpi .sgt (BitVec.ofNat 32 (i 0).val) 0#32) (Scalar.cmpi .sge (BitVec.ofNat 32 (i 2).val) (BitVec.ofNat 32 128)) = _
  rw [sgt_word _ (by omega), sge_word _ 128 (by omega) (by omega)]
  by_cases h0 : 0 < (i 0).val <;> by_cases h2 : 128 ≤ (i 2).val
  · rw [if_pos h0, if_pos h2, if_neg fun e => absurd e.1 (by omega)]; rfl
  · rw [if_pos h0, if_neg h2, if_neg fun e => absurd e.1 (by omega)]; rfl
  · rw [if_neg h0, if_pos h2, if_neg fun e => absurd e.2 (by omega)]; rfl
  · rw [if_neg h0, if_neg h2, if_pos ⟨by omega, by omega⟩]; rfl

theorem valid_apply (i : S16x128x256.Idx) :
    val_main_v42 (F := Ideal) i = if Seen (i 1).val (i 2).val ∧ ¬ Before (i 0).val (i 2).val then 1#1 else 0#1 := by
  rw [val_main_v42_apply, val_main_v40_apply, val_main_v41_apply, val_main_v31_apply, seen_apply, started_apply]
  show Scalar.andi (if Seen (i 1).val (i 2).val then 1#1 else 0#1) (if Before (i 0).val (i 2).val then 0#1 else 1#1) = _
  by_cases hs : Seen (i 1).val (i 2).val <;> by_cases hb : Before (i 0).val (i 2).val
  · rw [if_pos hs, if_pos hb, if_neg fun e => e.2 hb]; rfl
  · rw [if_pos hs, if_neg hb, if_pos ⟨hs, hb⟩]; rfl
  · rw [if_neg hs, if_pos hb, if_neg fun e => hs e.1]; rfl
  · rw [if_neg hs, if_neg hb, if_neg fun e => hs e.1]; rfl

/-! ## Slopes, sinks and scores -/

/-- The query head of a key head and a place in its group. -/
abbrev headOf (a b : Fin 4) : Fin 16 := ⟨4 * a.val + b.val, by omega⟩

theorem slope_apply (i : S4x4.Idx) : val_main_v53 (F := Ideal) i = val_main_v52 (F := Ideal) (ix1 (headOf (i 0) (i 1))) := by
  have l0 : (i 0).val < 4 := (i 0).isLt
  have l1 : (i 1).val < 4 := (i 1).isLt
  unfold val_main_v53
  exact shapeCast_apply _ _ i (ix1 (headOf (i 0) (i 1))) (by
    refine (Shape.rowMajor_val_one _).trans (Eq.trans ?_ (Shape.rowMajor_val_two i).symm)
    show 4 * (i 0).val + (i 1).val = (i 0).val * 4 + (i 1).val
    omega)

theorem gap_apply (i : S128x256.Idx) : val_main_v55 (F := Ideal) i = (((gap (i 0).val (i 1).val : Int) : ℝ) : EReal) := by
  rw [val_main_v55_apply, distance_apply]
  show (((Scalar.subi (Scalar.addi (BitVec.ofNat 32 (i 0).val) 128#32) (BitVec.ofNat 32 (i 1).val)).toInt : ℝ) : EReal) = _
  rw [toInt_of (gap_word _ _ (i 0).isLt (i 1).isLt)]

theorem share_apply (i : S16x16x4x4x128x256.Idx) :
    val_main_v61 (F := Ideal) i
      = val_main_v52 (F := Ideal) (ix1 (headOf (i 2) (i 3))) * (((gap (i 4).val (i 5).val : Int) : ℝ) : EReal) := by
  rw [val_main_v61_apply, val_main_v60_apply, val_main_v59_apply, val_main_v57_apply, val_main_v54_apply, slope_apply,
    val_main_v58_apply, val_main_v56_apply, gap_apply]
  rfl

theorem score_apply (i : S16x16x4x4x128x256.Idx) :
    val_main_v64 (F := Ideal) x i
      = scoreAt x (val_main_v52 (F := Ideal) (ix1 (headOf (i 2) (i 3)))) (i 0) (i 1).val (headOf (i 2) (i 3)).val (i 4).val (i 5) := by
  have hbot : val_main_call2_v2 (F := Ideal) i = (⊥ : EReal) := by
    rw [val_main_call2_v2_apply]
    show Ideal.ofBits .f32 0xFF800000#32 = ⊥
    simp [Ideal.ofBits, Ideal.ieee]
  rw [val_main_v64_apply, val_main_call2_v1_apply, val_main_v63_apply, valid_apply, hbot]
  unfold scoreAt
  show Scalar.select (if Seen (i 4).val (i 5).val ∧ ¬ Before (i 1).val (i 5).val then 1#1 else 0#1) _ _ = _
  by_cases hv : Seen (i 4).val (i 5).val ∧ ¬ Before (i 1).val (i 5).val
  · rw [if_pos hv, if_pos hv]
    show val_main_v62 (F := Ideal) x i = _
    rw [val_main_v62_apply, share_apply, val_main_v14_apply, val_main_v13_apply]
    refine congrArg (fun s : EReal => s - _) (Finset.sum_congr rfl fun k _ => ?_)
    rw [keyWindow_apply x _ (headOf (i 2) (i 3)).val (by
      show (4 * (i 2).val + (i 3).val) / 4 = (i 2).val
      have l3 : (i 3).val < 4 := (i 3).isLt
      omega), query_apply, mul_comm]
    rfl
  · rw [if_neg hv, if_neg hv]
    rfl

theorem sink_apply (i : S16x16x4x4x128x1.Idx) :
    val_main_v67 (F := Ideal) x1 i = val_main_v65 (F := Ideal) x1 (ix1 (headOf (i 2) (i 3))) := by
  rw [val_main_v67_apply]
  unfold val_main_v66
  exact shapeCast_apply _ _ _ (ix1 (headOf (i 2) (i 3))) (by
    refine (Shape.rowMajor_val_one _).trans (Eq.trans ?_ (Shape.rowMajor_val_six _).symm)
    show 4 * (i 2).val + (i 3).val = ((((0 * 1 + 0) * 4 + (i 2).val) * 4 + (i 3).val) * 1 + 0) * 1 + 0
    omega)

/-! ## The rows -/

/-- The scores of a row. -/
def scores (j : S16x16x4x4x128.Idx) : Fin 256 → EReal :=
  scoreAt x (val_main_v52 (F := Ideal) (ix1 (headOf (j 2) (j 3)))) (j 0) (j 1).val (headOf (j 2) (j 3)).val (j 4).val

/-- The sink of a row. -/
def sink (j : S16x16x4x4x128.Idx) : EReal := val_main_v65 (F := Ideal) x1 (ix1 (headOf (j 2) (j 3)))

/-- The row of an entry. -/
abbrev rowOf (i : S16x16x4x4x128x257.Idx) : S16x16x4x4x128.Idx := idx_main_v72 (idx_main_v73 i)

theorem joined_apply (i : S16x16x4x4x128x257.Idx) :
    val_main_v68 (F := Ideal) x x1 i = joined (scores x (rowOf i)) (sink x1 (rowOf i)) (i 5) := by
  have l5 : (i 5).val < 257 := (i 5).isLt
  unfold val_main_v68 joined
  by_cases h : (i 5).val < 256
  · rw [dif_pos h]
    refine (concatenate_pair_apply_left (t := S16x16x4x4x128x257) (s₁ := S16x16x4x4x128x256) (s₂ := S16x16x4x4x128x1) 5 _ _ _ i rfl (ix6 (i 0) (i 1) (i 2) (i 3) (i 4) ⟨(i 5).val, h⟩) (fun b => by
      match b with | ⟨0, _⟩ => rfl | ⟨1, _⟩ => rfl | ⟨2, _⟩ => rfl | ⟨3, _⟩ => rfl | ⟨4, _⟩ => rfl | ⟨5, _⟩ => rfl)).trans ?_
    exact score_apply x _
  · rw [dif_neg h]
    refine (concatenate_pair_apply_right (t := S16x16x4x4x128x257) (s₁ := S16x16x4x4x128x256) (s₂ := S16x16x4x4x128x1) 5 _ _ _ i rfl rfl (ix6 (i 0) (i 1) (i 2) (i 3) (i 4) 0) (fun b hb => by
      match b with | ⟨0, _⟩ => rfl | ⟨1, _⟩ => rfl | ⟨2, _⟩ => rfl | ⟨3, _⟩ => rfl | ⟨4, _⟩ => rfl | ⟨5, _⟩ => exact absurd rfl hb) (by
        show 0 + 256 = (i 5).val
        omega)).trans ?_
    exact sink_apply x1 _

theorem peak_apply (j : S16x16x4x4x128.Idx) :
    val_main_v71 (F := Ideal) x x1 j = refPeak (scores x j) (sink x1 j) := by
  have hb : (FloatOps.ofBits (F := Ideal) .f32 0xFF800000#32 : EReal) = ⊥ := by
    show Ideal.ofBits .f32 0xFF800000#32 = ⊥
    simp [Ideal.ofBits, Ideal.ieee]
  have h0 : val_main_v70 (F := Ideal) j = (⊥ : EReal) := by
    rw [val_main_v70_apply]
    exact hb
  have hf : val_main_v69 (F := Ideal) x x1 j = (Finset.univ : Finset (Fin 257)).fold max ⊥ (joined (scores x j) (sink x1 j)) := by
    unfold val_main_v69
    rw [Host.reduce_eq_fold_single FloatOps.maximumf _ _ reducesTo_S16x16x4x4x128x257_S16x16x4x4x128_d5 (by decide) h_S_]
    refine congrArg₂ (fun b (f : Fin 257 → EReal) => (Finset.univ : Finset (Fin 257)).fold max b f) hb (funext fun k => ?_)
    exact joined_apply x x1 _
  rw [val_main_v71_apply, h0, hf]
  rfl

theorem expo_apply (i : S16x16x4x4x128x257.Idx) :
    val_main_v75 (F := Ideal) x x1 i
      = Ideal.exp (joined (scores x (rowOf i)) (sink x1 (rowOf i)) (i 5) - refPeak (scores x (rowOf i)) (sink x1 (rowOf i))) := by
  rw [val_main_v75_apply, val_main_v74_apply, joined_apply, val_main_v73_apply, val_main_v72_apply, peak_apply]
  rfl

theorem total_apply (j : S16x16x4x4x128.Idx) :
    val_main_v76 (F := Ideal) x x1 j = refTotal (scores x j) (sink x1 j) := by
  rw [val_main_v76_apply]
  unfold refTotal
  refine congrArg₂ (· + ·) Ideal.ofBits_zero_f32 (Finset.sum_congr rfl fun k _ => ?_)
  exact expo_apply x x1 _

theorem weight_apply (i : S16x16x4x4x128x256.Idx) (j : S16x16x4x4x128.Idx) (hj : rowOf (idx_main_v80 i) = j) :
    val_main_v80 (F := Ideal) x x1 i
      = Ideal.div (Ideal.exp (scores x j (i 5) - refPeak (scores x j) (sink x1 j))) (refTotal (scores x j) (sink x1 j)) := by
  subst hj
  rw [val_main_v80_apply, val_main_v79_apply, expo_apply, val_main_v78_apply, val_main_v77_apply, total_apply]
  have e : joined (scores x (rowOf (idx_main_v80 i))) (sink x1 (rowOf (idx_main_v80 i))) (idx_main_v80 i 5) = scores x (rowOf (idx_main_v80 i)) (i 5) :=
    dif_pos (show (i 5).val < 256 from (i 5).isLt)
  rw [e]
  rfl

/-- The reference's result is the attention in its own order of normalisation. -/
theorem result_eq :
    val_main_v83 (F := Ideal) x x1 = (attnRef x (val_main_v52 (F := Ideal)) (val_main_v65 (F := Ideal) x1) : S16x2048x1024.Idx → EReal) := by
  funext i
  have l0 : (i 0).val < 16 := (i 0).isLt
  have l1 : (i 1).val < 2048 := (i 1).isLt
  have l2 : (i 2).val < 1024 := (i 2).isLt
  unfold val_main_v83
  refine (shapeCast_apply (s := S16x16x128x4x4x64) (t := S16x2048x1024) _ _ i (ix6 (i 0) ⟨(i 1).val / 128, by omega⟩ ⟨(i 1).val % 128, by omega⟩ ⟨(i 2).val / 256, by omega⟩
    ⟨(i 2).val / 64 % 4, by omega⟩ ⟨(i 2).val % 64, by omega⟩) (by
      refine (Shape.rowMajor_val_six _).trans (Eq.trans ?_ (Shape.rowMajor_val_three i).symm)
      show ((((((i 0).val * 16 + (i 1).val / 128) * 128 + (i 1).val % 128) * 4 + (i 2).val / 256) * 4 + (i 2).val / 64 % 4) * 64 + (i 2).val % 64)
        = ((i 0).val * 2048 + (i 1).val) * 1024 + (i 2).val
      omega)).trans ?_
  rw [val_main_v82_apply, val_main_v81_apply]
  unfold attnRef refRow
  have hh : (headOf ⟨(i 2).val / 256, by omega⟩ ⟨(i 2).val / 64 % 4, by omega⟩) = headAt (i 2) := Fin.ext (by
    show 4 * ((i 2).val / 256) + (i 2).val / 64 % 4 = (i 2).val / 64
    omega)
  have hS : scores x (ix5 (i 0) ⟨(i 1).val / 128, by omega⟩ ⟨(i 2).val / 256, by omega⟩ ⟨(i 2).val / 64 % 4, by omega⟩ ⟨(i 1).val % 128, by omega⟩)
      = rowScores x (val_main_v52 (F := Ideal)) (i 0) (i 1) (i 2) :=
    congrArg (fun h : Fin 16 => scoreAt x (val_main_v52 (F := Ideal) (ix1 h)) (i 0) ((i 1).val / 128) h.val ((i 1).val % 128)) hh
  have hZ : sink x1 (ix5 (i 0) ⟨(i 1).val / 128, by omega⟩ ⟨(i 2).val / 256, by omega⟩ ⟨(i 2).val / 64 % 4, by omega⟩ ⟨(i 1).val % 128, by omega⟩)
      = val_main_v65 (F := Ideal) x1 (ix1 (headAt (i 2))) :=
    congrArg (fun h : Fin 16 => val_main_v65 (F := Ideal) x1 (ix1 h)) hh
  rw [← hS, ← hZ]
  refine Finset.sum_congr rfl fun k _ => congrArg₂ (· * ·) ?_ ?_
  · refine valueWindow_apply x _ ((i 2).val / 64) ?_
    show (i 2).val / 64 / 4 = (i 2).val / 256
    omega
  · refine weight_apply x x1 _ _ ?_
    funext a
    match a with | ⟨0, _⟩ => rfl | ⟨1, _⟩ => rfl | ⟨2, _⟩ => rfl | ⟨3, _⟩ => rfl | ⟨4, _⟩ => rfl

end Cert.SwaRefIdeal.Rows
-- ==== Proof.Ffn.Frame.lean ====
/-
  The frame of the feed-forward call on the hardware: it ends, its arguments unchanged, every semaphore back at zero.
  The blocks of the three weights overhang their arrays at the last point of each row, so what the body finds past the
  arrays' ends is unknown: the run forgets those blocks, and the output's, and keeps only that the inputs are not written.
-/
module

public import proofs.«01_k».proof.Proof.Gen.Ffn.Frame
public import proofs.«01_k».proof.Proof.Gen.Ffn.Skeleton
public import proofs.«01_k».proof.Proof.Gen.Ffn.Launch

@[expose] public section

set_option maxRecDepth 16384

noncomputable section

namespace Cert.Ffn.Run

open Cert.Ffn Cert.Ffn.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Which of the body's three branches a point takes -/

/-- The first column block of a row of blocks: the norm is taken and the output started. -/
abbrev starts (i : grid0.Coords) : Prop := k0_cond1 i = 1#1
/-- A column block in between: the output is added to. -/
abbrev adds (i : grid0.Coords) : Prop := k0_cond2 i = 1#1
/-- The last column block: the rest is added and the residual taken. -/
abbrev ends (i : grid0.Coords) : Prop := k0_cond3 i = 1#1

/-- Every point takes exactly one branch. -/
theorem one_branch : ∀ t : Fin cfg0.N,
    (starts (grid0.coords t) ∧ ¬adds (grid0.coords t) ∧ ¬ends (grid0.coords t))
    ∨ (¬starts (grid0.coords t) ∧ adds (grid0.coords t) ∧ ¬ends (grid0.coords t))
    ∨ (¬starts (grid0.coords t) ∧ ¬adds (grid0.coords t) ∧ ends (grid0.coords t)) :=
  (by decide +kernel : ∀ t : Fin grid0.N,
    (starts (grid0.coords t) ∧ ¬adds (grid0.coords t) ∧ ¬ends (grid0.coords t))
    ∨ (¬starts (grid0.coords t) ∧ adds (grid0.coords t) ∧ ¬ends (grid0.coords t))
    ∨ (¬starts (grid0.coords t) ∧ ¬adds (grid0.coords t) ∧ ends (grid0.coords t)))

/-! ## The body on any staging buffers -/

abbrev st0 (t : Fin cfg0.N) : Memref sig .tc .vmem S1024x2048 .f32 := win0_0.stage (cfg0.slots t 0)
abbrev st1 (t : Fin cfg0.N) : Memref sig .tc .vmem S1x2048 .f32 := win0_1.stage (cfg0.slots t 1)
abbrev st2 (t : Fin cfg0.N) : Memref sig .tc .vmem S2048x512 .bf16 := win0_2.stage (cfg0.slots t 2)
abbrev st3 (t : Fin cfg0.N) : Memref sig .tc .vmem S2048x512 .bf16 := win0_3.stage (cfg0.slots t 3)
abbrev st4 (t : Fin cfg0.N) : Memref sig .tc .vmem S512x2048 .bf16 := win0_4.stage (cfg0.slots t 4)
abbrev st5 (t : Fin cfg0.N) : Memref sig .tc .vmem S1x2048 .f32 := win0_5.stage (cfg0.slots t 5)
abbrev st6 (t : Fin cfg0.N) : Memref sig .tc .vmem S1024x2048 .f32 := win0_6.stage (cfg0.slots t 6)
/-- The scratch of normed rows. -/
abbrev rows : Memref sig .tc .vmem S1024x2048 .bf16 := Memref.whole cc0_scratch0

/-- Between points: the scratch at something, and the generator register. -/
theorem between_eq (c : Dev nD) :
    (Pipeline.ΦA spec0 c : sProp 𝕄)
      = iprop(iprop((∃ d, owns (c : Thread nD τ) rows fullShare d)) ∗ (∃ r, prngReg c r)) := by
  unfold Pipeline.ΦA; rw [scopedRest0_eq]; simp only [rows, owns_whole]; try rfl

set_option maxHeartbeats 4000000 in
/-- Whichever branch it takes, the body ends with its inputs as they were and something in the output and the scratch. -/
theorem body_runs (c : Dev nD) (i : grid0.Coords) (arg2 : Memref sig .tc .vmem S1024x2048 .f32) (harg2 : arg2.IsWhole)
    (arg3 : Memref sig .tc .vmem S1x2048 .f32) (harg3 : arg3.IsWhole) (arg4 : Memref sig .tc .vmem S2048x512 .bf16) (harg4 : arg4.IsWhole)
    (arg5 : Memref sig .tc .vmem S2048x512 .bf16) (harg5 : arg5.IsWhole) (arg6 : Memref sig .tc .vmem S512x2048 .bf16) (harg6 : arg6.IsWhole)
    (arg7 : Memref sig .tc .vmem S1x2048 .f32) (harg7 : arg7.IsWhole) (arg8 : Memref sig .tc .vmem S1024x2048 .f32) (harg8 : arg8.IsWhole)
    (arg9 : Memref sig .tc .vmem S1024x2048 .bf16) (harg9 : arg9.IsWhole)
    (hc : (starts i ∧ ¬adds i ∧ ¬ends i) ∨ (¬starts i ∧ adds i ∧ ¬ends i) ∨ (¬starts i ∧ ¬adds i ∧ ends i))
    (x0 : Vec F S1024x2048 .f32) (x1 : Vec F S1x2048 .f32) (x2 x3 : Vec F S2048x512 .bf16) (x4 : Vec F S512x2048 .bf16) (x5 : Vec F S1x2048 .f32) :
      ∀ (E : Set ℕ) (K : PUnit → sProp 𝕄),
        iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4 ∗ owns (c : Thread nD τ) arg7 fullShare x5
            ∗ (∃ d, owns (c : Thread nD τ) arg8 fullShare d) ∗ (∃ d, owns (c : Thread nD τ) arg9 fullShare d)
            ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4 ∗ owns (c : Thread nD τ) arg7 fullShare x5
            ∗ (∃ d, owns (c : Thread nD τ) arg8 fullShare d) ∗ (∃ d, owns (c : Thread nD τ) arg9 fullShare d)) -∗ K ⟨⟩))
          ⊢ wp frame (wpE (defs₀ (F := F)) Variants.none c none) E (cc0_ffn i arg2 harg2 arg3 harg3 arg4 harg4 arg5 harg5 arg6 harg6 arg7 harg7 arg8 harg8 arg9 harg9) K := by
  intro E K
  simp only [cc0_ffn_eq_skeleton]; unfold cc0_ffn_skel
  simp only [k0_part1_eq_skeleton, k0_part2_eq_skeleton, k0_part3_eq_skeleton, k0_part4_eq_skeleton, k0_part5_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%ds0, %fs0, -, HS0⟩, Hk⟩
  obtain rfl := harg2.eq_unread hf0; obtain rfl := harg3.eq_unread hf1; obtain rfl := harg4.eq_unread hf2
  obtain rfl := harg5.eq_unread hf3; obtain rfl := harg6.eq_unread hf4; obtain rfl := harg7.eq_unread hf5
  rcases hc with ⟨hc0, hc1, hc2⟩ | ⟨hc0, hc1, hc2⟩ | ⟨hc0, hc1, hc2⟩
  all_goals
    sl_exec (disch := first | sl_exact hc0 | sl_exact hc1 | sl_exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _, _; isplitr; swap; · iexact H6
      ipureintro; rfl
    iexists _, _; isplitr; swap; · iexact HS0
    ipureintro; rfl

/-! ## The run's data -/

/-- The windows nothing is said of: the clipped weights' and the output's. -/
def forgotten : Fin 7 → Bool := fun w => w.val == 2 || w.val == 3 || w.val == 4 || w.val == 6

/-- The run's data: the arrays as launched; the unclipped inputs' buffers at their blocks. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, h⟩ => Pipeline.Dat.unnamed (cfg := cfg0) ⟨2, h⟩ t
    | ⟨3, h⟩ => Pipeline.Dat.unnamed (cfg := cfg0) ⟨3, h⟩ t
    | ⟨4, h⟩ => Pipeline.Dat.unnamed (cfg := cfg0) ⟨4, h⟩ t
    | ⟨5, _⟩ => iblk m c 5 t
    | ⟨6, h⟩ => Pipeline.Dat.unnamed (cfg := cfg0) ⟨6, h⟩ t
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_5 (c : Dev nD) (t : Fin cfg0.N) : (dats m 0 c).after 5 t = iblk m c 5 t := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_5 (c : Dev nD) (t : Fin cfg0.N) (d) : (dats m 0 c).before 5 t d = iblk m c 5 t :=
  before0_5_of m (dats m 0 c) (A_eq m c 5) (after_5 m c) t d

/-- What the body is called with at a point, -/
def bodyPre (c : Dev nD) (t : Fin cfg0.N) : sProp 𝕄 :=
  iprop((dats m 0 c).Φ t.castSucc ∗ (dats m 0 c).owesAt () t.castSucc
    ∗ (∃ d, owns (c : Thread nD τ) (st0 t) fullShare ((dats m 0 c).before 0 t d))
    ∗ (∃ d, owns (c : Thread nD τ) (st1 t) fullShare ((dats m 0 c).before 1 t d))
    ∗ (∃ d, owns (c : Thread nD τ) (st2 t) fullShare d)
    ∗ (∃ d, owns (c : Thread nD τ) (st3 t) fullShare d)
    ∗ (∃ d, owns (c : Thread nD τ) (st4 t) fullShare d)
    ∗ (∃ d, owns (c : Thread nD τ) (st5 t) fullShare ((dats m 0 c).before 5 t d))
    ∗ (∃ d, owns (c : Thread nD τ) (st6 t) fullShare d))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (∃ d, owns (c : Thread nD τ) (st2 t) fullShare d)
    ∗ (∃ d, owns (c : Thread nD τ) (st3 t) fullShare d)
    ∗ (∃ d, owns (c : Thread nD τ) (st4 t) fullShare d)
    ∗ (dats m 0 c).leavesExact 5 t
    ∗ (∃ d, owns (c : Thread nD τ) (st6 t) fullShare d))

set_option maxHeartbeats 1600000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_5]
  rw [show (dats m 0 c).Φ t.succ = (dats m 0 c).Φ t.castSucc from rfl,
    show (dats m 0 c).owesAt () t.succ = (dats m 0 c).owesAt () t.castSucc from rfl]
  rw [show (dats m 0 c).Φ t.castSucc = Pipeline.ΦA spec0 c from rfl, between_eq]
  rw [show (dats m 0 c).leavesExact 0 t = owns (c : Thread nD τ) (st0 t) fullShare ((dats m 0 c).after 0 t) from rfl, after_0]
  rw [show (dats m 0 c).leavesExact 1 t = owns (c : Thread nD τ) (st1 t) fullShare ((dats m 0 c).after 1 t) from rfl, after_1]
  rw [show (dats m 0 c).leavesExact 5 t = owns (c : Thread nD τ) (st5 t) fullShare ((dats m 0 c).after 5 t) from rfl, after_5]
  iintro ⟨⟨HS0, Hg⟩, Ho, ⟨%d0, H0⟩, ⟨%d1, H1⟩, ⟨%d2, H2⟩, ⟨%d3, H3⟩, ⟨%d4, H4⟩, ⟨%d5, H5⟩, ⟨%d6, H6⟩⟩
  iapply ((body_runs c (grid0.coords t) _ _ _ _ _ _ _ _ _ _ _ _ _ _ _ _ (one_branch t) (iblk m c 0 t) (iblk m c 1 t) d2 d3 d4 (iblk m c 5 t)) Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [HS0]; · iexact HS0
  iintro ⟨H0, H1, H2, H3, H4, H5, H6, HS0⟩
  isplitl [HS0 Hg]
  · isplitl [HS0]
    · iexact HS0
    iexact Hg
  isplitl [Ho]; · iexact Ho
  isplitl [H0]; · iexact H0
  isplitl [H1]; · iexact H1
  isplitl [H2]; · iexists _; iexact H2
  isplitl [H3]; · iexists _; iexact H3
  isplitl [H4]; · iexists _; iexact H4
  isplitl [H5]; · iexact H5
  iexact H6

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ forgotten := fun t => by
  rw [bigSep_W0, bigSep_W0, defs₀_row]
  exact triple_restated (sound_body m c t) rfl .rfl fun _ => .rfl

/-! ## The run and the frame -/

set_option backward.isDefEq.respectTransparency.types false in
theorem run_main_quiescent : θ_run defs (onTc (τ := τ) (main (F := F))) (s₀ m ρ) (fun r => (Pipeline.RDat.FramePost (cfgs 0) (fun c => (dats m 0 c).toRForget forgotten) (V m)) r ∧ r.2.sem = fun _ => 0) :=
  Pipeline.θ_run_frame_forget (Q' := _) cfgs (dats m) (0 : Fin 1) launch0 defs₀ Variants.none forgotten m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: the call ends, its arguments as they were and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun _ h => ⟨fun c =>
      ⟨(Pipeline.RDat.FramePost.arr_in h.1 c 0 rfl).trans ((A_eq m c 0).trans (V_main_arg0 m c)),
      (Pipeline.RDat.FramePost.arr_in h.1 c 1 rfl).trans ((A_eq m c 1).trans (V_main_arg1 m c)),
      (Pipeline.RDat.FramePost.arr_in h.1 c 2 rfl).trans ((A_eq m c 2).trans (V_main_arg2 m c)),
      (Pipeline.RDat.FramePost.arr_in h.1 c 3 rfl).trans ((A_eq m c 3).trans (V_main_arg3 m c)),
      (Pipeline.RDat.FramePost.arr_in h.1 c 4 rfl).trans ((A_eq m c 4).trans (V_main_arg4 m c)),
      (Pipeline.RDat.FramePost.arr_in h.1 c 5 rfl).trans ((A_eq m c 5).trans (V_main_arg5 m c))⟩, h.2⟩)
    (run_main_quiescent m ρ)

end Cert.Ffn.Run

end
-- ==== Proof.FfnValue.Runs.lean ====
/-
  What the feed-forward's body leaves in its output block and its scratch of normed rows, branch by branch.

  The body works on the block's 1024 rows as two halves of 512, and on the 512 columns of weights as two halves of 256.
-/
module

public import proofs.«01_k».proof.Proof.Gen.FfnIdeal.Frame
public import proofs.«01_k».proof.Proof.Gen.FfnIdeal.Skeleton
public import proofs.«01_k».proof.Proof.Gen.FfnIdeal.Launch
public import Idealize.ShloMosaic.Lib.Tactic
public import Idealize.ShloMosaic.Lib.ValueIdx

@[expose] public section

set_option maxRecDepth 16384

noncomputable section

namespace Cert.FfnIdeal.Body

open Cert.FfnIdeal Cert.FfnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open ValueIdx

variable {F : FTy → Type} [FloatOps F]

local notation "𝕄" => MT nD τ sig Unit (Elt F) ℕ (UR sig nD τ) ℕ

/-- The first column block of a row of blocks: the norm is taken and the output started. -/
abbrev starts (i : grid0.Coords) : Prop := k0_cond1 i = 1#1
/-- A column block in between: the output is added to. -/
abbrev adds (i : grid0.Coords) : Prop := k0_cond2 i = 1#1
/-- The last column block: the rest is added and the residual taken. -/
abbrev ends (i : grid0.Coords) : Prop := k0_cond3 i = 1#1

/-! ## The halves -/

/-- The upper 512 rows of a block. -/
abbrev rTop : Rect S1024x2048 := Rect.unit (s := S1024x2048) ![0, 0] S512x2048.size inb_S1024x2048_S512x2048_0_0
/-- The lower 512. -/
abbrev rBot : Rect S1024x2048 := Rect.unit (s := S1024x2048) ![512, 0] S512x2048.size inb_S1024x2048_S512x2048_512_0
/-- The left 256 columns of a block of weights. -/
abbrev rLeft : Rect S2048x512 := Rect.unit (s := S2048x512) ![0, 0] S2048x256.size inb_S2048x512_S2048x256_0_0
/-- The right 256. -/
abbrev rRight : Rect S2048x512 := Rect.unit (s := S2048x512) ![0, 256] S2048x256.size inb_S2048x512_S2048x256_0_256
/-- The upper 256 rows of a block of the last weights. -/
abbrev rUp : Rect S512x2048 := Rect.unit (s := S512x2048) ![0, 0] S256x2048.size inb_S512x2048_S256x2048_0_0
/-- The lower 256. -/
abbrev rDown : Rect S512x2048 := Rect.unit (s := S512x2048) ![256, 0] S256x2048.size inb_S512x2048_S256x2048_256_0

/-- The whole row of norm weights. -/
abbrev rRow : Rect S1x2048 := Rect.unit (s := S1x2048) ![0, 0] S1x2048.size inb_S1x2048_S1x2048_0_0

/-- Two halves of rows put together. -/
def stack {e : EltTy} (a b : Vec F S512x2048 e) : Vec F S1024x2048 e := View.canon [⟨rBot, b⟩, ⟨rTop, a⟩]

theorem top_not_bot (x : rTop.shape.Idx) : rTop.emb x ∉ rBot.set := by
  rw [Rect.mem_set_unit]
  intro h
  have h0 : (512 : ℕ) ≤ 0 + 1 * (x 0).val := (h 0).1
  have : (x 0).val < 512 := (x 0).isLt
  omega

theorem half (y : S1024x2048.Idx) : (∃ x : rTop.shape.Idx, rTop.emb x = y) ∨ (∃ x : rBot.shape.Idx, rBot.emb x = y) := by
  have h0 : (y 0).val < 1024 := (y 0).isLt
  have h1 : (y 1).val < 2048 := (y 1).isLt
  by_cases h : (y 0).val < 512
  · refine Or.inl ⟨ix2 (n0 := 512) (n1 := 2048) ⟨(y 0).val, h⟩ ⟨(y 1).val, h1⟩, funext fun a => Fin.ext ?_⟩
    match a with
    | ⟨0, _⟩ => show 0 + 1 * (y 0).val = (y 0).val; omega
    | ⟨1, _⟩ => show 0 + 1 * (y 1).val = (y 1).val; omega
  · refine Or.inr ⟨ix2 (n0 := 512) (n1 := 2048) ⟨(y 0).val - 512, by omega⟩ ⟨(y 1).val, h1⟩, funext fun a => Fin.ext ?_⟩
    match a with
    | ⟨0, _⟩ => show 512 + 1 * ((y 0).val - 512) = (y 0).val; omega
    | ⟨1, _⟩ => show 0 + 1 * (y 1).val = (y 1).val; omega

theorem stack_top {e : EltTy} (a b : Vec F S512x2048 e) (x : rTop.shape.Idx) : stack a b (rTop.emb x) = a x :=
  (View.canon_cons_of_not_mem (Val := Elt F) (⟨rBot, b⟩ : View.Piece (Elt F) S1024x2048 e) [⟨rTop, a⟩] (top_not_bot x)).trans
    (View.canon_cons_emb (Val := Elt F) rTop a [] x)

theorem stack_bot {e : EltTy} (a b : Vec F S512x2048 e) (x : rBot.shape.Idx) : stack a b (rBot.emb x) = b x :=
  View.canon_cons_emb (Val := Elt F) rBot b _ x

/-- Contents whose halves are known. -/
theorem eq_stack {e : EltTy} (X : Vec F S1024x2048 e) (a b : Vec F S512x2048 e) (ha : ∀ x : rTop.shape.Idx, X (rTop.emb x) = a x)
    (hb : ∀ x : rBot.shape.Idx, X (rBot.emb x) = b x) : X = stack a b := by
  funext y
  rcases half y with ⟨x, hx⟩ | ⟨x, hx⟩
  · exact hx ▸ (ha x).trans (stack_top a b x).symm
  · exact hx ▸ (hb x).trans (stack_bot a b x).symm

/-- The last two writes to each half are what is left. -/
theorem read_two {e : EltTy} {κ : Kind} {sp : Space} (v : View sig κ sp S1024x2048 e) (f : v.ty.Contents (Elt F))
    (a : rTop.shape.Idx → Elt F e) (b : rBot.shape.Idx → Elt F e) :
    v.read (Elt F) (v.writes (Elt F) f [⟨rBot, b⟩, ⟨rTop, a⟩]) = stack a b := by
  refine eq_stack _ _ _ (fun x => ?_) (fun x => View.read_writes_cons_emb v f rBot b _ x)
  exact (View.read_writes_cons_miss v f (⟨rBot, b⟩ : View.Piece (Elt F) S1024x2048 e) [⟨rTop, a⟩] _ (top_not_bot x)).trans (View.read_writes_cons_emb v f rTop a [] x)

theorem read_four {e : EltTy} {κ : Kind} {sp : Space} (v : View sig κ sp S1024x2048 e) (f : v.ty.Contents (Elt F))
    (a a' : rTop.shape.Idx → Elt F e) (b b' : rBot.shape.Idx → Elt F e) :
    v.read (Elt F) (v.writes (Elt F) f [⟨rBot, b⟩, ⟨rBot, b'⟩, ⟨rTop, a⟩, ⟨rTop, a'⟩]) = stack a b := by
  refine eq_stack _ _ _ (fun x => ?_) (fun x => View.read_writes_cons_emb v f rBot b _ x)
  exact ((View.read_writes_cons_miss v f (⟨rBot, b⟩ : View.Piece (Elt F) S1024x2048 e) [⟨rBot, b'⟩, ⟨rTop, a⟩, ⟨rTop, a'⟩] _ (top_not_bot x)).trans
    (View.read_writes_cons_miss v f (⟨rBot, b'⟩ : View.Piece (Elt F) S1024x2048 e) [⟨rTop, a⟩, ⟨rTop, a'⟩] _ (top_not_bot x))).trans
    (View.read_writes_cons_emb v f rTop a [⟨rTop, a'⟩] x)

/-! ## The three branches -/

/-- The normed rows the first column block leaves in the scratch. -/
def normed (x : Vec F S1024x2048 .f32) (g : Vec F S1x2048 .f32) : Vec F S1024x2048 .bf16 :=
  stack (k0_pay7 (View.ld x rTop) (View.ld g rRow)) (k0_pay14 (View.ld x rBot) (View.ld g rRow))

/-- The output the first column block leaves. -/
def started (x : Vec F S1024x2048 .f32) (g : Vec F S1x2048 .f32) (wg wu : Vec F S2048x512 .bf16) (wd : Vec F S512x2048 .bf16) :
    Vec F S1024x2048 .f32 :=
  stack
    (k0_pay12 (View.ld wd rDown) (k0_pay9 (View.ld x rTop) (View.ld g rRow) (View.ld wg rRight)) (k0_pay10 (View.ld x rTop) (View.ld g rRow) (View.ld wu rRight))
      (k0_pay11 (View.ld wd rUp) (k0_pay8 (View.ld x rTop) (View.ld g rRow) (View.ld wg rLeft) (View.ld wu rLeft))))
    (k0_pay2 (View.ld wd rDown) (k0_pay13 (View.ld x rBot) (View.ld g rRow)) (View.ld wg rRight) (View.ld wu rRight)
      (k0_pay1 (View.ld wd rUp) (k0_pay15 (View.ld x rBot) (View.ld g rRow) (View.ld wg rLeft) (View.ld wu rLeft))))

/-- The output a column block in between leaves, of the one it finds. -/
def added (h : Vec F S1024x2048 .bf16) (wg wu : Vec F S2048x512 .bf16) (wd : Vec F S512x2048 .bf16) (o : Vec F S1024x2048 .f32) :
    Vec F S1024x2048 .f32 :=
  stack
    (k0_pay17 (View.ld wd rDown) (View.ld h rTop) (View.ld wg rRight) (View.ld wu rRight)
      (k0_pay16 (View.ld wd rUp) (View.ld h rTop) (View.ld wg rLeft) (View.ld wu rLeft) (View.ld o rTop)))
    (k0_pay4 (View.ld wd rDown) (View.ld h rBot) (View.ld wg rRight) (View.ld wu rRight)
      (k0_pay3 (View.ld wd rUp) (View.ld h rBot) (View.ld wg rLeft) (View.ld wu rLeft) (View.ld o rBot)))

/-- The column numbers of a half. -/
def colNo : IVec S1x256 32 := iota .tc S1x256 32 [1] iota_S1x256_d1_w32

/-- The output the last column block leaves. -/
def ended (x : Vec F S1024x2048 .f32) (h : Vec F S1024x2048 .bf16) (wg wu : Vec F S2048x512 .bf16) (wd : Vec F S512x2048 .bf16)
    (o : Vec F S1024x2048 .f32) : Vec F S1024x2048 .f32 :=
  stack
    (k0_pay22 colNo (k0_pay18 (View.ld wd rUp)) (k0_pay19 (View.ld wd rDown)) (View.ld h rTop)
      (k0_pay20 (View.ld h rTop) (View.ld wg rLeft) (View.ld wu rLeft)) (k0_pay21 (View.ld h rTop) (View.ld wg rRight))
      (View.ld wu rRight) (constant S512x256 .f32 0x00000000#32) (View.ld x rTop) (View.ld o rTop))
    (k0_pay5 colNo (k0_pay18 (View.ld wd rUp)) (k0_pay19 (View.ld wd rDown)) (View.ld h rBot)
      (k0_pay23 colNo (View.ld h rBot) (View.ld wg rLeft) (View.ld wu rLeft)) (View.ld wg rRight)
      (View.ld wu rRight) (View.ld x rBot) (View.ld o rBot))

set_option maxHeartbeats 4000000 in
/-- The first column block's run. -/
theorem run_starts (c : Dev nD) (i : grid0.Coords) (arg2 : Memref sig .tc .vmem S1024x2048 .f32) (harg2 : arg2.IsWhole)
    (arg3 : Memref sig .tc .vmem S1x2048 .f32) (harg3 : arg3.IsWhole) (arg4 : Memref sig .tc .vmem S2048x512 .bf16) (harg4 : arg4.IsWhole)
    (arg5 : Memref sig .tc .vmem S2048x512 .bf16) (harg5 : arg5.IsWhole) (arg6 : Memref sig .tc .vmem S512x2048 .bf16) (harg6 : arg6.IsWhole)
    (arg7 : Memref sig .tc .vmem S1x2048 .f32) (harg7 : arg7.IsWhole) (arg8 : Memref sig .tc .vmem S1024x2048 .f32) (harg8 : arg8.IsWhole)
    (arg9 : Memref sig .tc .vmem S1024x2048 .bf16) (harg9 : arg9.IsWhole) (hc0 : starts i) (hc1 : ¬adds i) (hc2 : ¬ends i)
    (x0 : Vec F S1024x2048 .f32) (x1 : Vec F S1x2048 .f32) (x2 x3 : Vec F S2048x512 .bf16) (x4 : Vec F S512x2048 .bf16) (x5 : Vec F S1x2048 .f32) :
      ∀ (E : Set ℕ) (K : PUnit → sProp 𝕄),
        iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4 ∗ owns (c : Thread nD τ) arg7 fullShare x5
            ∗ (∃ d, owns (c : Thread nD τ) arg8 fullShare d) ∗ (∃ d, owns (c : Thread nD τ) arg9 fullShare d)
            ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4 ∗ owns (c : Thread nD τ) arg7 fullShare x5
            ∗ owns (c : Thread nD τ) arg8 fullShare (started x0 x1 x2 x3 x4) ∗ owns (c : Thread nD τ) arg9 fullShare (normed x0 x1)) -∗ K ⟨⟩))
          ⊢ wp frame (wpE (defs₀ (F := F)) Variants.none c none) E (cc0_ffn i arg2 harg2 arg3 harg3 arg4 harg4 arg5 harg5 arg6 harg6 arg7 harg7 arg8 harg8 arg9 harg9) K := by
  intro E K
  simp only [cc0_ffn_eq_skeleton]; unfold cc0_ffn_skel
  simp only [k0_part1_eq_skeleton, k0_part2_eq_skeleton, k0_part3_eq_skeleton, k0_part4_eq_skeleton, k0_part5_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%ds0, %fs0, -, HS0⟩, Hk⟩
  obtain rfl := harg2.eq_unread hf0; obtain rfl := harg3.eq_unread hf1; obtain rfl := harg4.eq_unread hf2
  obtain rfl := harg5.eq_unread hf3; obtain rfl := harg6.eq_unread hf4; obtain rfl := harg7.eq_unread hf5
  sl_exec (disch := first | sl_exact hc0 | sl_exact hc1 | sl_exact hc2)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; swap; · iexact H6
    ipureintro
    sl_unfold_words
    simp only [View.readCov_cons_toLoadRect, View.readAt_eq_ld, harg2.read_unread, harg3.read_unread, harg4.read_unread, harg5.read_unread, harg6.read_unread]
    exact read_four arg8.view f6 _ _ _ _
  iexists _; isplitr; swap; · iexact HS0
  ipureintro
  simp only [View.readAt_eq_ld, harg2.read_unread, harg3.read_unread]
  exact read_two arg9.view fs0 _ _

set_option maxHeartbeats 4000000 in
/-- A column block in between's run. -/
theorem run_adds (c : Dev nD) (i : grid0.Coords) (arg2 : Memref sig .tc .vmem S1024x2048 .f32) (harg2 : arg2.IsWhole)
    (arg3 : Memref sig .tc .vmem S1x2048 .f32) (harg3 : arg3.IsWhole) (arg4 : Memref sig .tc .vmem S2048x512 .bf16) (harg4 : arg4.IsWhole)
    (arg5 : Memref sig .tc .vmem S2048x512 .bf16) (harg5 : arg5.IsWhole) (arg6 : Memref sig .tc .vmem S512x2048 .bf16) (harg6 : arg6.IsWhole)
    (arg7 : Memref sig .tc .vmem S1x2048 .f32) (harg7 : arg7.IsWhole) (arg8 : Memref sig .tc .vmem S1024x2048 .f32) (harg8 : arg8.IsWhole)
    (arg9 : Memref sig .tc .vmem S1024x2048 .bf16) (harg9 : arg9.IsWhole) (hc0 : ¬starts i) (hc1 : adds i) (hc2 : ¬ends i)
    (x0 : Vec F S1024x2048 .f32) (x1 : Vec F S1x2048 .f32) (x2 x3 : Vec F S2048x512 .bf16) (x4 : Vec F S512x2048 .bf16) (x5 : Vec F S1x2048 .f32)
    (o : Vec F S1024x2048 .f32) (h : Vec F S1024x2048 .bf16) :
      ∀ (E : Set ℕ) (K : PUnit → sProp 𝕄),
        iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4 ∗ owns (c : Thread nD τ) arg7 fullShare x5
            ∗ owns (c : Thread nD τ) arg8 fullShare o ∗ owns (c : Thread nD τ) arg9 fullShare h
            ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4 ∗ owns (c : Thread nD τ) arg7 fullShare x5
            ∗ owns (c : Thread nD τ) arg8 fullShare (added h x2 x3 x4 o) ∗ owns (c : Thread nD τ) arg9 fullShare h) -∗ K ⟨⟩))
          ⊢ wp frame (wpE (defs₀ (F := F)) Variants.none c none) E (cc0_ffn i arg2 harg2 arg3 harg3 arg4 harg4 arg5 harg5 arg6 harg6 arg7 harg7 arg8 harg8 arg9 harg9) K := by
  intro E K
  simp only [cc0_ffn_eq_skeleton]; unfold cc0_ffn_skel
  simp only [k0_part1_eq_skeleton, k0_part2_eq_skeleton, k0_part3_eq_skeleton, k0_part4_eq_skeleton, k0_part5_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs0, %hfs0, HS0⟩, Hk⟩
  obtain rfl := harg2.eq_unread hf0; obtain rfl := harg3.eq_unread hf1; obtain rfl := harg4.eq_unread hf2
  obtain rfl := harg5.eq_unread hf3; obtain rfl := harg6.eq_unread hf4; obtain rfl := harg7.eq_unread hf5
  obtain rfl := harg8.eq_unread hf6; obtain rfl := harg9.eq_unread hfs0
  sl_exec (disch := first | sl_exact hc0 | sl_exact hc1 | sl_exact hc2)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; swap; · iexact H6
    ipureintro
    sl_unfold_words
    simp only [View.readCov_cons_toLoadRect, View.readAt_eq_ld, harg2.read_unread, harg3.read_unread, harg4.read_unread, harg5.read_unread,
      harg6.read_unread, harg8.read_unread, harg9.read_unread]
    exact read_four arg8.view _ _ _ _ _
  iexists _; isplitr; · ipureintro; exact harg9.read_unread _
  iexact HS0

set_option maxHeartbeats 4000000 in
/-- The last column block's run. -/
theorem run_ends (c : Dev nD) (i : grid0.Coords) (arg2 : Memref sig .tc .vmem S1024x2048 .f32) (harg2 : arg2.IsWhole)
    (arg3 : Memref sig .tc .vmem S1x2048 .f32) (harg3 : arg3.IsWhole) (arg4 : Memref sig .tc .vmem S2048x512 .bf16) (harg4 : arg4.IsWhole)
    (arg5 : Memref sig .tc .vmem S2048x512 .bf16) (harg5 : arg5.IsWhole) (arg6 : Memref sig .tc .vmem S512x2048 .bf16) (harg6 : arg6.IsWhole)
    (arg7 : Memref sig .tc .vmem S1x2048 .f32) (harg7 : arg7.IsWhole) (arg8 : Memref sig .tc .vmem S1024x2048 .f32) (harg8 : arg8.IsWhole)
    (arg9 : Memref sig .tc .vmem S1024x2048 .bf16) (harg9 : arg9.IsWhole) (hc0 : ¬starts i) (hc1 : ¬adds i) (hc2 : ends i)
    (x0 : Vec F S1024x2048 .f32) (x1 : Vec F S1x2048 .f32) (x2 x3 : Vec F S2048x512 .bf16) (x4 : Vec F S512x2048 .bf16) (x5 : Vec F S1x2048 .f32)
    (o : Vec F S1024x2048 .f32) (h : Vec F S1024x2048 .bf16) :
      ∀ (E : Set ℕ) (K : PUnit → sProp 𝕄),
        iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4 ∗ owns (c : Thread nD τ) arg7 fullShare x5
            ∗ owns (c : Thread nD τ) arg8 fullShare o ∗ owns (c : Thread nD τ) arg9 fullShare h
            ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4 ∗ owns (c : Thread nD τ) arg7 fullShare x5
            ∗ owns (c : Thread nD τ) arg8 fullShare (ended x0 h x2 x3 x4 o) ∗ owns (c : Thread nD τ) arg9 fullShare h) -∗ K ⟨⟩))
          ⊢ wp frame (wpE (defs₀ (F := F)) Variants.none c none) E (cc0_ffn i arg2 harg2 arg3 harg3 arg4 harg4 arg5 harg5 arg6 harg6 arg7 harg7 arg8 harg8 arg9 harg9) K := by
  intro E K
  simp only [cc0_ffn_eq_skeleton]; unfold cc0_ffn_skel
  simp only [k0_part1_eq_skeleton, k0_part2_eq_skeleton, k0_part3_eq_skeleton, k0_part4_eq_skeleton, k0_part5_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs0, %hfs0, HS0⟩, Hk⟩
  obtain rfl := harg2.eq_unread hf0; obtain rfl := harg3.eq_unread hf1; obtain rfl := harg4.eq_unread hf2
  obtain rfl := harg5.eq_unread hf3; obtain rfl := harg6.eq_unread hf4; obtain rfl := harg7.eq_unread hf5
  obtain rfl := harg8.eq_unread hf6; obtain rfl := harg9.eq_unread hfs0
  sl_exec (disch := first | sl_exact hc0 | sl_exact hc1 | sl_exact hc2)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; swap; · iexact H6
    ipureintro
    sl_unfold_words
    simp only [View.readCov_cons_toLoadRect, View.readAt_eq_ld, harg2.read_unread, harg3.read_unread, harg4.read_unread, harg5.read_unread,
      harg6.read_unread, harg8.read_unread, harg9.read_unread]
    exact read_two arg8.view _ _ _
  iexists _; isplitr; · ipureintro; exact harg9.read_unread _
  iexact HS0

end Cert.FfnIdeal.Body

end
-- ==== Proof.FfnValue.Spec.lean ====
/-
  The half-step feed-forward over the extended reals, element by element: RMS norm, a gated unit for each of the 5504
  hidden columns, the sum of the units weighed, half of it added to the input.
-/
module

public import Idealize.ShloMosaic.PureOps.Ideal.Laws
public import Idealize.ShloMosaic.Lib.ValueIdx

@[expose] public section

noncomputable section

namespace Cert.FfnSpec

open Idealize.ShloMosaic ValueIdx

/-- One over the root of a row's mean square, as both programs round the constants. -/
def rowScale (u : Fin 2048 → EReal) : EReal :=
  Ideal.rsqrt (Ideal.div (∑ c, u c * u c) (Ideal.ofBits .f32 0x45000000#32) + Ideal.ofBits .f32 0x358637BD#32)

/-- A normed row. -/
def normRow (u g : Fin 2048 → EReal) (l : Fin 2048) : EReal := u l * rowScale u * g l

/-- A gated unit: the row against a column of each of the two weights. -/
def gated (h a b : Fin 2048 → EReal) : EReal :=
  (∑ l, h l * a l) * Ideal.logistic (∑ l, h l * a l) * ∑ l, h l * b l

variable (x : (⟨2, ![32768, 2048]⟩ : Shape).Idx → EReal) (g : (⟨2, ![1, 2048]⟩ : Shape).Idx → EReal)
  (wg wu : (⟨2, ![2048, 5504]⟩ : Shape).Idx → EReal) (wd : (⟨2, ![5504, 2048]⟩ : Shape).Idx → EReal)

/-- What hidden column `n` adds at row `R` and column `k`; nothing past the last column. -/
def term (R : Fin 32768) (k : Fin 2048) (n : ℕ) : EReal :=
  if hn : n < 5504 then
    gated (normRow (fun c => x (ix2 R c)) (fun c => g (ix2 0 c))) (fun l => wg (ix2 l ⟨n, hn⟩)) (fun l => wu (ix2 l ⟨n, hn⟩))
      * wd (ix2 ⟨n, hn⟩ k)
  else 0

/-- The first `n` columns' sum. -/
def upTo (R : Fin 32768) (k : Fin 2048) (n : ℕ) : EReal := ∑ i ∈ Finset.range n, term x g wg wu wd R k i

/-- The result. -/
def value (R : Fin 32768) (k : Fin 2048) : EReal :=
  x (ix2 R k) + Ideal.ofBits .f32 0x3F000000#32 * upTo x g wg wu wd R k 5632

/-- The result normed: a row of it by its own mean square, times the gains `fg`. -/
def finalValue (fg : (⟨2, ![1, 2048]⟩ : Shape).Idx → EReal) (R : Fin 32768) (k : Fin 2048) : EReal :=
  normRow (fun c => value x g wg wu wd R c) (fun c => fg (ix2 0 c)) k

theorem upTo_add (R : Fin 32768) (k : Fin 2048) (n l : ℕ) :
    upTo x g wg wu wd R k (n + l) = upTo x g wg wu wd R k n + ∑ i ∈ Finset.range l, term x g wg wu wd R k (n + i) :=
  Finset.sum_range_add _ n l

/-- All the columns there are: the sum the reference takes. -/
theorem upTo_all (R : Fin 32768) (k : Fin 2048) :
    upTo x g wg wu wd R k 5632
      = ∑ n : Fin 5504, gated (normRow (fun c => x (ix2 R c)) (fun c => g (ix2 0 c))) (fun l => wg (ix2 l n)) (fun l => wu (ix2 l n))
          * wd (ix2 n k) := by
  rw [show (5632 : ℕ) = 5504 + 128 from rfl, upTo_add,
    Finset.sum_eq_zero (s := Finset.range 128) (fun i _ => by unfold term; rw [dif_neg (by omega)]), add_zero]
  unfold upTo
  rw [← Fin.sum_univ_eq_sum_range]
  refine Finset.sum_congr rfl fun n _ => ?_
  unfold term
  rw [dif_pos n.isLt]

end Cert.FfnSpec

end
-- ==== Proof.FfnValue.Element.lean ====
/-
  The body's three branches, one element at a time over the extended reals.
-/
module

public import proofs.«01_k».proof.Proof.FfnValue.Runs
public import proofs.«01_k».proof.Proof.FfnValue.Spec
public import Idealize.ShloMosaic.Lib.MatmulPlain
public import Idealize.ShloMosaic.PureOps.Ideal.Laws
public import Idealize.ShloMosaic.Lib.Pipeline.Value

@[expose] public section

set_option maxRecDepth 16384

noncomputable section

namespace Cert.FfnIdeal.Body

open Cert.FfnIdeal Cert.FfnIdeal.Gen Idealize.ShloMosaic Idealize.ShloMosaic.TcCoe Idealize.SL.Sem ValueIdx Cert.FfnSpec

/-! ## The operations of one half -/

/-- Rows against columns of weights. -/
def gate (h : FVec Ideal S512x2048 .bf16) (w : FVec Ideal S2048x256 .bf16) : FVec Ideal S512x256 .f32 :=
  matmul dot_S512x2048_S2048x256_S512x256_1_0_0_1_n_n none h w (constant S512x256 .f32 0x00000000#32)

/-- The gated units before the narrowing. -/
def wide (h : FVec Ideal S512x2048 .bf16) (a b : FVec Ideal S2048x256 .bf16) : FVec Ideal S512x256 .f32 :=
  mulf (mulf (gate h a) (logistic (gate h a))) (gate h b)

/-- The gated units. -/
def hid (h : FVec Ideal S512x2048 .bf16) (a b : FVec Ideal S2048x256 .bf16) : FVec Ideal S512x256 .bf16 :=
  truncf .bf16 (wide h a b) bitsLt_bf16_f32

/-- The gated units, zero from column `n` on. -/
def hidTo (n : BitVec 32) (h : FVec Ideal S512x2048 .bf16) (a b : FVec Ideal S2048x256 .bf16) : FVec Ideal S512x256 .bf16 :=
  truncf .bf16 (select (broadcastTo S512x256 (cmpi .slt colNo (broadcast S1x256 n)) broadcasts_S1x256_S512x256) (wide h a b)
    (broadcast S512x256 (Scalar.ofBits (F := Ideal) .f32 0x00000000#32))) bitsLt_bf16_f32

/-- The last weights, zero from row `n` on. -/
def rowsTo (n : BitVec 32) (d : FVec Ideal S256x2048 .bf16) : FVec Ideal S256x2048 .bf16 :=
  select (broadcastTo S256x2048 (cmpi .slt (iota .tc S256x1 32 [0] iota_S256x1_d0_w32) (broadcast S256x1 n)) broadcasts_S256x1_S256x2048) d
    (broadcast S256x2048 (Scalar.ofBits (F := Ideal) .bf16 0x0000#16))

/-- The units weighed. -/
def down (u : FVec Ideal S512x256 .bf16) (d : FVec Ideal S256x2048 .bf16) : FVec Ideal S512x2048 .f32 :=
  matmul dot_S512x256_S256x2048_S512x2048_1_0_0_1_n_n none u d (constant S512x2048 .f32 0x00000000#32)

theorem gate_apply (h : FVec Ideal S512x2048 .bf16) (w : FVec Ideal S2048x256 .bf16) (r : Fin 512) (f : Fin 256) :
    gate h w (ix2 r f) = ∑ l : Fin 2048, h (ix2 r l) * w (ix2 l f) := by
  unfold gate
  show FloatOps.matmul (F := Ideal) (DotDims.plain 512 2048 256) none _ _ _ (ix2 r f) = _
  rw [Ideal.matmul_plain_apply, constant_apply, Ideal.ofBits_zero_f32, zero_add]

theorem down_apply (u : FVec Ideal S512x256 .bf16) (d : FVec Ideal S256x2048 .bf16) (r : Fin 512) (k : Fin 2048) :
    down u d (ix2 r k) = ∑ f : Fin 256, u (ix2 r f) * d (ix2 f k) := by
  unfold down
  show FloatOps.matmul (F := Ideal) (DotDims.plain 512 256 2048) none _ _ _ (ix2 r k) = _
  rw [Ideal.matmul_plain_apply, constant_apply, Ideal.ofBits_zero_f32, zero_add]

theorem wide_apply (h : FVec Ideal S512x2048 .bf16) (a b : FVec Ideal S2048x256 .bf16) (r : Fin 512) (f : Fin 256) :
    wide h a b (ix2 r f) = gated (fun l => h (ix2 r l)) (fun l => a (ix2 l f)) (fun l => b (ix2 l f)) := by
  unfold wide gated
  rw [mulf_apply, mulf_apply, gate_apply, gate_apply]
  show _ * Ideal.logistic (gate h a (ix2 r f)) * _ = _
  rw [gate_apply]

theorem hid_apply (h : FVec Ideal S512x2048 .bf16) (a b : FVec Ideal S2048x256 .bf16) (r : Fin 512) (f : Fin 256) :
    hid h a b (ix2 r f) = gated (fun l => h (ix2 r l)) (fun l => a (ix2 l f)) (fun l => b (ix2 l f)) :=
  (truncf_apply (ψ := .bf16) _ bitsLt_bf16_f32 _).trans (wide_apply h a b r f)

/-- The word comparison of the masks. -/
theorem slt_words : ∀ f : Fin 256, Scalar.cmpi .slt (BitVec.ofNat 32 f.val) 384#32 = 1#1
    ∧ Scalar.cmpi .slt (BitVec.ofNat 32 f.val) 128#32 = if f.val < 128 then 1#1 else 0#1 := by decide +kernel

theorem hidTo_apply (n : BitVec 32) (h : FVec Ideal S512x2048 .bf16) (a b : FVec Ideal S2048x256 .bf16) (r : Fin 512) (f : Fin 256) :
    hidTo n h a b (ix2 r f) = Scalar.select (Scalar.cmpi .slt (BitVec.ofNat 32 f.val) n)
      (gated (fun l => h (ix2 r l)) (fun l => a (ix2 l f)) (fun l => b (ix2 l f))) 0 := by
  unfold hidTo
  rw [truncf_apply, select_apply, wide_apply]
  have hb : broadcastTo S512x256 (cmpi .slt colNo (broadcast S1x256 n)) broadcasts_S1x256_S512x256 (ix2 r f)
      = Scalar.cmpi .slt (BitVec.ofNat 32 f.val) n := by
    refine (broadcastTo_apply _ _ _ (ix2 (n0 := 1) (n1 := 256) 0 f) fun a => ?_).trans ?_
    · match a with | ⟨0, _⟩ => rfl | ⟨1, _⟩ => rfl
    · show Scalar.cmpi .slt (colNo (ix2 0 f)) n = _
      unfold colNo
      rw [iota_single_apply]
  have hz : (broadcast S512x256 (Scalar.ofBits (F := Ideal) .f32 0x00000000#32)) (ix2 r f) = (0 : EReal) := Ideal.ofBits_zero_f32
  rw [hb, hz]

theorem rowsTo_apply (n : BitVec 32) (d : FVec Ideal S256x2048 .bf16) (f : Fin 256) (k : Fin 2048) :
    rowsTo n d (ix2 f k) = Scalar.select (Scalar.cmpi .slt (BitVec.ofNat 32 f.val) n) (d (ix2 f k)) (0 : EReal) := by
  unfold rowsTo
  rw [select_apply]
  have hb : broadcastTo S256x2048 (cmpi .slt (iota .tc S256x1 32 [0] iota_S256x1_d0_w32) (broadcast S256x1 n)) broadcasts_S256x1_S256x2048 (ix2 f k)
      = Scalar.cmpi .slt (BitVec.ofNat 32 f.val) n := by
    refine (broadcastTo_apply _ _ _ (ix2 (n0 := 256) (n1 := 1) f 0) fun a => ?_).trans ?_
    · match a with | ⟨0, _⟩ => rfl | ⟨1, _⟩ => rfl
    · show Scalar.cmpi .slt (iota .tc S256x1 32 [0] iota_S256x1_d0_w32 (ix2 f 0)) n = _
      rw [iota_single_apply]
  have hz : (broadcast S256x2048 (Scalar.ofBits (F := Ideal) .bf16 0x0000#16)) (ix2 f k) = (0 : EReal) := by
    show Ideal.ofBits .bf16 0x0000#16 = 0
    simp [Ideal.ofBits, Ideal.ieee]
  rw [hb, hz]

theorem lift_row (r : Fin 512) (c : Fin 2048) : reduces_S512x2048_S512.lift (ix1 r) c = ix2 r c := by
  funext a
  match a with | ⟨0, _⟩ => rfl | ⟨1, _⟩ => rfl

/-- A half's normed rows. -/
theorem norm_apply (x : FVec Ideal S512x2048 .f32) (g : FVec Ideal S1x2048 .f32) (r : Fin 512) (l : Fin 2048) :
    k0_pay6 (F := Ideal) x g (ix2 r l) = normRow (fun c => x (ix2 r c)) (fun c => g (ix2 0 c)) l := by
  unfold k0_pay6 normRow
  rw [truncf_apply, mulf_apply, mulf_apply]
  refine congrArg₂ (· * ·) (congrArg (x (ix2 r l) * ·) ?_) ?_
  · refine (broadcastTo_apply _ _ _ (ix2 (n0 := 512) (n1 := 1) r 0) fun a => ?_).trans ?_
    · match a with | ⟨0, _⟩ => rfl | ⟨1, _⟩ => rfl
    · unfold rowScale
      show Ideal.rsqrt (Ideal.div (shapeCast S512x1 _ shapeCasts_S512_S512x1 (ix2 r 0)) (Ideal.ofBits .f32 0x45000000#32)
        + Ideal.ofBits .f32 0x358637BD#32) = _
      refine congrArg (fun s => Ideal.rsqrt (Ideal.div s (Ideal.ofBits .f32 0x45000000#32) + Ideal.ofBits .f32 0x358637BD#32)) ?_
      refine (shapeCast_apply (s := S512) (t := S512x1) _ _ (ix2 r 0) (ix1 r) ?_).trans ?_
      · rw [Shape.rowMajor_val_two]
        exact (Shape.rowMajor_val_one _).trans (by show r.val = r.val * 1 + 0; omega)
      · refine (Ideal.multiReduction_add_single _ _ _ _ _ _).trans ?_
        exact Finset.sum_congr rfl fun c _ => congrArg (mulf x x) (lift_row r c)
  · refine broadcastTo_apply _ _ _ _ fun a => ?_
    match a with | ⟨0, _⟩ => rfl | ⟨1, _⟩ => rfl

/-! ## The payloads are these operations -/

theorem pay_norm (x : FVec Ideal S512x2048 .f32) (g : FVec Ideal S1x2048 .f32) : k0_pay7 (F := Ideal) x g = k0_pay6 (F := Ideal) x g ∧ k0_pay14 (F := Ideal) x g = k0_pay6 (F := Ideal) x g := by
  simp only [k0_pay7, k0_pay14, shapeCast_self]
  exact ⟨by first | rfl | trivial, by first | rfl | trivial⟩

theorem pay_start_top (x : FVec Ideal S512x2048 .f32) (g : FVec Ideal S1x2048 .f32) (a b a' b' : FVec Ideal S2048x256 .bf16) (u d : FVec Ideal S256x2048 .bf16) :
    k0_pay12 (F := Ideal) d (k0_pay9 (F := Ideal) x g a') (k0_pay10 (F := Ideal) x g b') (k0_pay11 (F := Ideal) u (k0_pay8 (F := Ideal) x g a b))
      = addf (down (hid (k0_pay6 (F := Ideal) x g) a b) u) (down (hid (k0_pay6 (F := Ideal) x g) a' b') d) := by
  simp only [k0_pay12, shapeCast_self]
  rfl

theorem pay_start_bot (x : FVec Ideal S512x2048 .f32) (g : FVec Ideal S1x2048 .f32) (a b a' b' : FVec Ideal S2048x256 .bf16) (u d : FVec Ideal S256x2048 .bf16) :
    k0_pay2 (F := Ideal) d (k0_pay13 (F := Ideal) x g) a' b' (k0_pay1 (F := Ideal) u (k0_pay15 (F := Ideal) x g a b))
      = addf (down (hid (k0_pay6 (F := Ideal) x g) a b) u) (down (hid (k0_pay6 (F := Ideal) x g) a' b') d) := by
  simp only [k0_pay2, shapeCast_self]
  rfl

theorem pay_add_top (h : FVec Ideal S512x2048 .bf16) (a b a' b' : FVec Ideal S2048x256 .bf16) (u d : FVec Ideal S256x2048 .bf16) (o : FVec Ideal S512x2048 .f32) :
    k0_pay17 (F := Ideal) d h a' b' (k0_pay16 (F := Ideal) u h a b o) = addf (addf o (down (hid h a b) u)) (down (hid h a' b') d) := by
  simp only [k0_pay17, k0_pay16, shapeCast_self]
  rfl

theorem pay_add_bot (h : FVec Ideal S512x2048 .bf16) (a b a' b' : FVec Ideal S2048x256 .bf16) (u d : FVec Ideal S256x2048 .bf16) (o : FVec Ideal S512x2048 .f32) :
    k0_pay4 (F := Ideal) d h a' b' (k0_pay3 (F := Ideal) u h a b o) = addf (addf o (down (hid h a b) u)) (down (hid h a' b') d) := by
  simp only [k0_pay4, k0_pay3, shapeCast_self]
  rfl

/-- What the last column block leaves of a half. -/
def last (h : FVec Ideal S512x2048 .bf16) (a b a' b' : FVec Ideal S2048x256 .bf16) (u d : FVec Ideal S256x2048 .bf16) (x o : FVec Ideal S512x2048 .f32) :
    FVec Ideal S512x2048 .f32 :=
  addf x (mulf (broadcast S512x2048 (Scalar.ofBits .f32 0x3F000000#32))
    (addf (addf o (down (hidTo 384#32 h a b) (rowsTo 384#32 u))) (down (hidTo 128#32 h a' b') (rowsTo 128#32 d))))

theorem pay_rows (u : FVec Ideal S256x2048 .bf16) : k0_pay18 (F := Ideal) u = rowsTo 384#32 u ∧ k0_pay19 (F := Ideal) u = rowsTo 128#32 u := by
  simp only [k0_pay18, k0_pay19, rowsTo, shapeCast_self]
  exact ⟨by first | rfl | trivial, by first | rfl | trivial⟩

theorem pay_hid (h : FVec Ideal S512x2048 .bf16) (a b : FVec Ideal S2048x256 .bf16) :
    k0_pay20 (F := Ideal) h a b = hidTo 384#32 h a b ∧ k0_pay23 (F := Ideal) colNo h a b = hidTo 384#32 h a b := by
  simp only [k0_pay20, k0_pay23, hidTo, wide, gate, shapeCast_self]
  exact ⟨by first | rfl | trivial, by first | rfl | trivial⟩

theorem pay_tail_top (h : FVec Ideal S512x2048 .bf16) (a' b' : FVec Ideal S2048x256 .bf16) (H : FVec Ideal S512x256 .bf16) (u d : FVec Ideal S256x2048 .bf16)
    (x o : FVec Ideal S512x2048 .f32) :
    k0_pay22 (F := Ideal) colNo u d h H (k0_pay21 (F := Ideal) h a') b' (constant S512x256 .f32 0x00000000#32) x o
      = addf x (mulf (broadcast S512x2048 (Scalar.ofBits .f32 0x3F000000#32)) (addf (addf o (down H u)) (down (hidTo 128#32 h a' b') d))) := by
  simp only [k0_pay22, k0_pay21, hidTo, down, wide, gate, shapeCast_self]

theorem pay_tail_bot (h : FVec Ideal S512x2048 .bf16) (a' b' : FVec Ideal S2048x256 .bf16) (H : FVec Ideal S512x256 .bf16) (u d : FVec Ideal S256x2048 .bf16)
    (x o : FVec Ideal S512x2048 .f32) :
    k0_pay5 (F := Ideal) colNo u d h H a' b' x o
      = addf x (mulf (broadcast S512x2048 (Scalar.ofBits .f32 0x3F000000#32)) (addf (addf o (down H u)) (down (hidTo 128#32 h a' b') d))) := by
  simp only [k0_pay5, hidTo, down, wide, gate, shapeCast_self]

theorem pay_end_top (h : FVec Ideal S512x2048 .bf16) (a b a' b' : FVec Ideal S2048x256 .bf16) (u d : FVec Ideal S256x2048 .bf16) (x o : FVec Ideal S512x2048 .f32) :
    k0_pay22 (F := Ideal) colNo (k0_pay18 (F := Ideal) u) (k0_pay19 (F := Ideal) d) h (k0_pay20 (F := Ideal) h a b) (k0_pay21 (F := Ideal) h a') b' (constant S512x256 .f32 0x00000000#32) x o
      = last h a b a' b' u d x o := by
  rw [(pay_rows u).1, (pay_rows d).2, (pay_hid h a b).1, pay_tail_top]
  rfl

theorem pay_end_bot (h : FVec Ideal S512x2048 .bf16) (a b a' b' : FVec Ideal S2048x256 .bf16) (u d : FVec Ideal S256x2048 .bf16) (x o : FVec Ideal S512x2048 .f32) :
    k0_pay5 (F := Ideal) colNo (k0_pay18 (F := Ideal) u) (k0_pay19 (F := Ideal) d) h (k0_pay23 (F := Ideal) colNo h a b) a' b' x o = last h a b a' b' u d x o := by
  rw [(pay_rows u).1, (pay_rows d).2, (pay_hid h a b).2, pay_tail_bot]
  rfl

end Cert.FfnIdeal.Body

end
-- ==== Proof.FfnValue.Block.lean ====
/-
  The three branches over a whole block: what each leaves at a row and column, in terms of the sum over the block's 512
  hidden columns.
-/
module

public import proofs.«01_k».proof.Proof.FfnValue.Element

@[expose] public section

set_option maxRecDepth 16384

noncomputable section

namespace Cert.FfnIdeal.Body

open Cert.FfnIdeal Cert.FfnIdeal.Gen Idealize.ShloMosaic Idealize.ShloMosaic.TcCoe Idealize.SL.Sem ValueIdx Cert.FfnSpec

/-! ## The loads -/

section Loads
variable {e : EltTy}

theorem emb_top (r : Fin 512) (k : Fin 2048) : rTop.emb (ix2 (n0 := 512) (n1 := 2048) r k) = ix2 (n0 := 1024) (n1 := 2048) ⟨r.val, by omega⟩ k :=
  funext fun a => Fin.ext (by
    match a with
    | ⟨0, _⟩ => show 0 + 1 * r.val = r.val; omega
    | ⟨1, _⟩ => show 0 + 1 * k.val = k.val; omega)

theorem emb_bot (r : Fin 512) (k : Fin 2048) :
    rBot.emb (ix2 (n0 := 512) (n1 := 2048) r k) = ix2 (n0 := 1024) (n1 := 2048) ⟨512 + r.val, by omega⟩ k :=
  funext fun a => Fin.ext (by
    match a with
    | ⟨0, _⟩ => show 512 + 1 * r.val = 512 + r.val; omega
    | ⟨1, _⟩ => show 0 + 1 * k.val = k.val; omega)

theorem ld_top (X : Vec Ideal S1024x2048 e) (r : Fin 512) (k : Fin 2048) :
    View.ld X rTop (ix2 (n0 := 512) (n1 := 2048) r k) = X (ix2 (n0 := 1024) (n1 := 2048) ⟨r.val, by omega⟩ k) :=
  congrArg X (emb_top r k)

theorem ld_bot (X : Vec Ideal S1024x2048 e) (r : Fin 512) (k : Fin 2048) :
    View.ld X rBot (ix2 (n0 := 512) (n1 := 2048) r k) = X (ix2 (n0 := 1024) (n1 := 2048) ⟨512 + r.val, by omega⟩ k) :=
  congrArg X (emb_bot r k)

theorem ld_row (X : Vec Ideal S1x2048 e) (k : Fin 2048) :
    View.ld X rRow (ix2 (n0 := 1) (n1 := 2048) 0 k) = X (ix2 0 k) :=
  congrArg X (funext fun a => Fin.ext (by
    match a with
    | ⟨0, _⟩ => show 0 + 1 * 0 = 0; omega
    | ⟨1, _⟩ => show 0 + 1 * k.val = k.val; omega))

theorem ld_left (X : Vec Ideal S2048x512 e) (l : Fin 2048) (f : Fin 256) :
    View.ld X rLeft (ix2 (n0 := 2048) (n1 := 256) l f) = X (ix2 (n0 := 2048) (n1 := 512) l ⟨f.val, by omega⟩) :=
  congrArg X (funext fun a => Fin.ext (by
    match a with
    | ⟨0, _⟩ => show 0 + 1 * l.val = l.val; omega
    | ⟨1, _⟩ => show 0 + 1 * f.val = f.val; omega))

theorem ld_right (X : Vec Ideal S2048x512 e) (l : Fin 2048) (f : Fin 256) :
    View.ld X rRight (ix2 (n0 := 2048) (n1 := 256) l f) = X (ix2 (n0 := 2048) (n1 := 512) l ⟨256 + f.val, by omega⟩) :=
  congrArg X (funext fun a => Fin.ext (by
    match a with
    | ⟨0, _⟩ => show 0 + 1 * l.val = l.val; omega
    | ⟨1, _⟩ => show 256 + 1 * f.val = 256 + f.val; omega))

theorem ld_up (X : Vec Ideal S512x2048 e) (f : Fin 256) (k : Fin 2048) :
    View.ld X rUp (ix2 (n0 := 256) (n1 := 2048) f k) = X (ix2 (n0 := 512) (n1 := 2048) ⟨f.val, by omega⟩ k) :=
  congrArg X (funext fun a => Fin.ext (by
    match a with
    | ⟨0, _⟩ => show 0 + 1 * f.val = f.val; omega
    | ⟨1, _⟩ => show 0 + 1 * k.val = k.val; omega))

theorem ld_down (X : Vec Ideal S512x2048 e) (f : Fin 256) (k : Fin 2048) :
    View.ld X rDown (ix2 (n0 := 256) (n1 := 2048) f k) = X (ix2 (n0 := 512) (n1 := 2048) ⟨256 + f.val, by omega⟩ k) :=
  congrArg X (funext fun a => Fin.ext (by
    match a with
    | ⟨0, _⟩ => show 256 + 1 * f.val = 256 + f.val; omega
    | ⟨1, _⟩ => show 0 + 1 * k.val = k.val; omega))

end Loads

/-- A row and column lie in one of the halves. -/
theorem halves {P : Fin 1024 → Prop} (top : ∀ r : Fin 512, P ⟨r.val, by omega⟩) (bot : ∀ r : Fin 512, P ⟨512 + r.val, by omega⟩)
    (r : Fin 1024) : P r := by
  by_cases h : r.val < 512
  · exact top ⟨r.val, h⟩
  · have := bot ⟨r.val - 512, by omega⟩
    have he : (⟨512 + (r.val - 512), by omega⟩ : Fin 1024) = r := Fin.ext (by show 512 + (r.val - 512) = r.val; omega)
    exact he ▸ this

theorem stack_at_top {e : EltTy} (a b : Vec Ideal S512x2048 e) (r : Fin 512) (k : Fin 2048) :
    stack a b (ix2 (n0 := 1024) (n1 := 2048) ⟨r.val, by omega⟩ k) = a (ix2 r k) :=
  (congrArg (stack a b) (emb_top r k)).symm.trans (stack_top a b _)

theorem stack_at_bot {e : EltTy} (a b : Vec Ideal S512x2048 e) (r : Fin 512) (k : Fin 2048) :
    stack a b (ix2 (n0 := 1024) (n1 := 2048) ⟨512 + r.val, by omega⟩ k) = b (ix2 r k) :=
  (congrArg (stack a b) (emb_bot r k)).symm.trans (stack_bot a b _)

/-! ## The normed rows -/

theorem normed_apply (x : Vec Ideal S1024x2048 .f32) (g : Vec Ideal S1x2048 .f32) (r : Fin 1024) (l : Fin 2048) :
    normed x g (ix2 r l) = normRow (fun c => x (ix2 r c)) (fun c => g (ix2 0 c)) l := by
  unfold normed
  revert r
  refine halves (fun r => ?_) fun r => ?_
  · rw [stack_at_top, (pay_norm _ _).1]
    refine (norm_apply _ _ r l).trans ?_
    exact congrArg₂ (fun u v => normRow u v l) (funext fun c => ld_top x r c) (funext fun c => ld_row g c)
  · rw [stack_at_bot, (pay_norm _ _).2]
    refine (norm_apply _ _ r l).trans ?_
    exact congrArg₂ (fun u v => normRow u v l) (funext fun c => ld_bot x r c) (funext fun c => ld_row g c)

/-! ## The sums -/

/-- A half's share of a block's sum. -/
theorem half_sum (T : ℕ → EReal) (n : ℕ) (u : Fin 256 → EReal) (hu : ∀ f : Fin 256, u f = T (n + f.val)) :
    ∑ f, u f = ∑ i ∈ Finset.range 256, T (n + i) := by
  rw [← Fin.sum_univ_eq_sum_range (fun i => T (n + i)) 256]
  exact Finset.sum_congr rfl fun f _ => hu f

theorem two_halves (T : ℕ → EReal) (n : ℕ) :
    ∑ i ∈ Finset.range 256, T (n + i) + ∑ i ∈ Finset.range 256, T (n + 256 + i) = ∑ i ∈ Finset.range 512, T (n + i) := by
  rw [show (512 : ℕ) = 256 + 256 from rfl, Finset.sum_range_add]
  simp only [Nat.add_assoc]

/-- The weighed units of a half of the columns, where each is a term. -/
theorem down_sum (h : FVec Ideal S512x2048 .bf16) (a b : FVec Ideal S2048x256 .bf16) (d : FVec Ideal S256x2048 .bf16) (T : ℕ → EReal) (n : ℕ)
    (r : Fin 512) (k : Fin 2048)
    (ht : ∀ f : Fin 256, gated (fun l => h (ix2 r l)) (fun l => a (ix2 l f)) (fun l => b (ix2 l f)) * d (ix2 f k) = T (n + f.val)) :
    down (hid h a b) d (ix2 r k) = ∑ i ∈ Finset.range 256, T (n + i) := by
  rw [down_apply]
  exact half_sum T n _ fun f => by rw [hid_apply]; exact ht f

/-- The same where the columns are cut off at 384, past every one of the half's. -/
theorem down_sum_all (h : FVec Ideal S512x2048 .bf16) (a b : FVec Ideal S2048x256 .bf16) (d : FVec Ideal S256x2048 .bf16) (T : ℕ → EReal) (n : ℕ)
    (r : Fin 512) (k : Fin 2048)
    (ht : ∀ f : Fin 256, gated (fun l => h (ix2 r l)) (fun l => a (ix2 l f)) (fun l => b (ix2 l f)) * d (ix2 f k) = T (n + f.val)) :
    down (hidTo 384#32 h a b) (rowsTo 384#32 d) (ix2 r k) = ∑ i ∈ Finset.range 256, T (n + i) := by
  rw [down_apply]
  exact half_sum T n _ fun f => by
    rw [hidTo_apply, rowsTo_apply, (slt_words f).1, select_one, select_one]
    exact ht f

/-- And where they are cut off at 128, past which the terms are nothing. -/
theorem down_sum_part (h : FVec Ideal S512x2048 .bf16) (a b : FVec Ideal S2048x256 .bf16) (d : FVec Ideal S256x2048 .bf16) (T : ℕ → EReal) (n : ℕ)
    (r : Fin 512) (k : Fin 2048)
    (ht : ∀ f : Fin 256, f.val < 128 →
      gated (fun l => h (ix2 r l)) (fun l => a (ix2 l f)) (fun l => b (ix2 l f)) * d (ix2 f k) = T (n + f.val))
    (hz : ∀ f : Fin 256, ¬f.val < 128 → T (n + f.val) = 0) :
    down (hidTo 128#32 h a b) (rowsTo 128#32 d) (ix2 r k) = ∑ i ∈ Finset.range 256, T (n + i) := by
  rw [down_apply]
  exact half_sum T n _ fun f => by
    rw [hidTo_apply, rowsTo_apply, (slt_words f).2]
    by_cases hf : f.val < 128
    · rw [if_pos hf, select_one, select_one]
      exact ht f hf
    · rw [if_neg hf, select_zero, select_zero, hz f hf, zero_mul]

/-! ## The branches -/

section Branches

variable (x : Vec Ideal S1024x2048 .f32) (g : Vec Ideal S1x2048 .f32) (h : Vec Ideal S1024x2048 .bf16) (wg wu : Vec Ideal S2048x512 .bf16)
  (wd : Vec Ideal S512x2048 .bf16) (o : Vec Ideal S1024x2048 .f32) (T : Fin 1024 → Fin 2048 → ℕ → EReal) (n : ℕ)

/-- The block's first `m` columns of weights give the terms from `n` on. -/
def Gives (m : ℕ) : Prop :=
  ∀ (r : Fin 1024) (k : Fin 2048) (f : Fin 512), f.val < m →
    gated (fun l => h (ix2 r l)) (fun l => wg (ix2 l f)) (fun l => wu (ix2 l f)) * wd (ix2 f k) = T r k (n + f.val)

variable {h wg wu wd T n}

theorem weighed_congr {a a' b b' c c' : Fin 2048 → EReal} {d d' : EReal} (ha : a = a') (hb : b = b') (hc : c = c') (hd : d = d') :
    gated a b c * d = gated a' b' c' * d' := by
  rw [ha, hb, hc, hd]

theorem Gives.topLeft {m : ℕ} (H : Gives h wg wu wd T n m) (r : Fin 512) (k : Fin 2048) (f : Fin 256) (hf : f.val < m) :
    gated (fun l => View.ld h rTop (ix2 (n0 := 512) (n1 := 2048) r l)) (fun l => View.ld wg rLeft (ix2 (n0 := 2048) (n1 := 256) l f))
      (fun l => View.ld wu rLeft (ix2 (n0 := 2048) (n1 := 256) l f)) * View.ld wd rUp (ix2 (n0 := 256) (n1 := 2048) f k)
      = T ⟨r.val, by omega⟩ k (n + f.val) := by
  refine (weighed_congr (funext fun l => ld_top h r l) (funext fun l => ld_left wg l f) (funext fun l => ld_left wu l f) (ld_up wd f k)).trans ?_
  exact H _ k ⟨f.val, by omega⟩ hf

theorem Gives.topRight {m : ℕ} (H : Gives h wg wu wd T n m) (r : Fin 512) (k : Fin 2048) (f : Fin 256) (hf : 256 + f.val < m) :
    gated (fun l => View.ld h rTop (ix2 (n0 := 512) (n1 := 2048) r l)) (fun l => View.ld wg rRight (ix2 (n0 := 2048) (n1 := 256) l f))
      (fun l => View.ld wu rRight (ix2 (n0 := 2048) (n1 := 256) l f)) * View.ld wd rDown (ix2 (n0 := 256) (n1 := 2048) f k)
      = T ⟨r.val, by omega⟩ k (n + 256 + f.val) := by
  refine (weighed_congr (funext fun l => ld_top h r l) (funext fun l => ld_right wg l f) (funext fun l => ld_right wu l f) (ld_down wd f k)).trans ?_
  rw [Nat.add_assoc]
  exact H _ k ⟨256 + f.val, by omega⟩ hf

theorem Gives.botLeft {m : ℕ} (H : Gives h wg wu wd T n m) (r : Fin 512) (k : Fin 2048) (f : Fin 256) (hf : f.val < m) :
    gated (fun l => View.ld h rBot (ix2 (n0 := 512) (n1 := 2048) r l)) (fun l => View.ld wg rLeft (ix2 (n0 := 2048) (n1 := 256) l f))
      (fun l => View.ld wu rLeft (ix2 (n0 := 2048) (n1 := 256) l f)) * View.ld wd rUp (ix2 (n0 := 256) (n1 := 2048) f k)
      = T ⟨512 + r.val, by omega⟩ k (n + f.val) := by
  refine (weighed_congr (funext fun l => ld_bot h r l) (funext fun l => ld_left wg l f) (funext fun l => ld_left wu l f) (ld_up wd f k)).trans ?_
  exact H _ k ⟨f.val, by omega⟩ hf

theorem Gives.botRight {m : ℕ} (H : Gives h wg wu wd T n m) (r : Fin 512) (k : Fin 2048) (f : Fin 256) (hf : 256 + f.val < m) :
    gated (fun l => View.ld h rBot (ix2 (n0 := 512) (n1 := 2048) r l)) (fun l => View.ld wg rRight (ix2 (n0 := 2048) (n1 := 256) l f))
      (fun l => View.ld wu rRight (ix2 (n0 := 2048) (n1 := 256) l f)) * View.ld wd rDown (ix2 (n0 := 256) (n1 := 2048) f k)
      = T ⟨512 + r.val, by omega⟩ k (n + 256 + f.val) := by
  refine (weighed_congr (funext fun l => ld_bot h r l) (funext fun l => ld_right wg l f) (funext fun l => ld_right wu l f) (ld_down wd f k)).trans ?_
  rw [Nat.add_assoc]
  exact H _ k ⟨256 + f.val, by omega⟩ hf

/-- The half's normed rows are the block's. -/
theorem normed_top (r : Fin 512) (l : Fin 2048) :
    k0_pay6 (F := Ideal) (View.ld x rTop) (View.ld g rRow) (ix2 r l) = View.ld (normed x g) rTop (ix2 (n0 := 512) (n1 := 2048) r l) := by
  rw [ld_top]
  unfold normed
  rw [stack_at_top, (pay_norm _ _).1]

theorem normed_bot (r : Fin 512) (l : Fin 2048) :
    k0_pay6 (F := Ideal) (View.ld x rBot) (View.ld g rRow) (ix2 r l) = View.ld (normed x g) rBot (ix2 (n0 := 512) (n1 := 2048) r l) := by
  rw [ld_bot]
  unfold normed
  rw [stack_at_bot, (pay_norm _ _).2]

theorem started_apply (H : Gives (normed x g) wg wu wd T 0 512) (r : Fin 1024) (k : Fin 2048) :
    started x g wg wu wd (ix2 r k) = ∑ i ∈ Finset.range 512, T r k (0 + i) := by
  unfold started
  revert r
  refine halves (fun r => ?_) fun r => ?_
  · rw [stack_at_top, pay_start_top, addf_apply, ← two_halves]
    refine congrArg₂ (· + ·) (down_sum _ _ _ _ _ 0 r k fun f => ?_) (down_sum _ _ _ _ _ (0 + 256) r k fun f => ?_)
    · simp only [normed_top]; exact H.topLeft r k f (by omega)
    · simp only [normed_top]; exact H.topRight r k f (by omega)
  · rw [stack_at_bot, pay_start_bot, addf_apply, ← two_halves]
    refine congrArg₂ (· + ·) (down_sum _ _ _ _ _ 0 r k fun f => ?_) (down_sum _ _ _ _ _ (0 + 256) r k fun f => ?_)
    · simp only [normed_bot]; exact H.botLeft r k f (by omega)
    · simp only [normed_bot]; exact H.botRight r k f (by omega)

theorem added_apply (H : Gives h wg wu wd T n 512) (r : Fin 1024) (k : Fin 2048) :
    added h wg wu wd o (ix2 r k) = (o (ix2 r k) : EReal) + ∑ i ∈ Finset.range 512, T r k (n + i) := by
  unfold added
  revert r
  refine halves (fun r => ?_) fun r => ?_
  · rw [stack_at_top, pay_add_top, addf_apply, addf_apply, ← two_halves, ← add_assoc, ld_top]
    exact congrArg₂ (· + ·) (congrArg (_ + ·) (down_sum _ _ _ _ _ n r k fun f => H.topLeft r k f (by omega)))
      (down_sum _ _ _ _ _ (n + 256) r k fun f => H.topRight r k f (by omega))
  · rw [stack_at_bot, pay_add_bot, addf_apply, addf_apply, ← two_halves, ← add_assoc, ld_bot]
    exact congrArg₂ (· + ·) (congrArg (_ + ·) (down_sum _ _ _ _ _ n r k fun f => H.botLeft r k f (by omega)))
      (down_sum _ _ _ _ _ (n + 256) r k fun f => H.botRight r k f (by omega))

theorem ended_apply (H : Gives h wg wu wd T n 384) (hz : ∀ r k i, 384 ≤ i → T r k (n + i) = 0) (r : Fin 1024) (k : Fin 2048) :
    ended x h wg wu wd o (ix2 r k)
      = (x (ix2 r k) : EReal) + Ideal.ofBits .f32 0x3F000000#32 * ((o (ix2 r k) : EReal) + ∑ i ∈ Finset.range 512, T r k (n + i)) := by
  unfold ended
  revert r
  refine halves (fun r => ?_) fun r => ?_
  · rw [stack_at_top, pay_end_top]
    unfold last
    rw [addf_apply, mulf_apply, addf_apply, addf_apply, ← two_halves, ← add_assoc, ld_top, ld_top]
    refine congrArg (_ + ·) (congrArg (_ * ·) ?_)
    exact congrArg₂ (· + ·) (congrArg (_ + ·) (down_sum_all _ _ _ _ _ n r k fun f => H.topLeft r k f (by omega)))
      (down_sum_part _ _ _ _ _ (n + 256) r k (fun f hf => H.topRight r k f (by omega))
        fun f hf => by rw [Nat.add_assoc]; exact hz _ _ _ (by omega))
  · rw [stack_at_bot, pay_end_bot]
    unfold last
    rw [addf_apply, mulf_apply, addf_apply, addf_apply, ← two_halves, ← add_assoc, ld_bot, ld_bot]
    refine congrArg (_ + ·) (congrArg (_ * ·) ?_)
    exact congrArg₂ (· + ·) (congrArg (_ + ·) (down_sum_all _ _ _ _ _ n r k fun f => H.botLeft r k f (by omega)))
      (down_sum_part _ _ _ _ _ (n + 256) r k (fun f hf => H.botRight r k f (by omega))
        fun f hf => by rw [Nat.add_assoc]; exact hz _ _ _ (by omega))

end Branches

end Cert.FfnIdeal.Body

end
-- ==== Proof.FfnValue.Input.lean ====
/-
  What the call's windows hold at a grid point, and what each branch then makes of them: point `t` is column block
  `t % 11` of the block of rows `t / 11`; the last column block has 384 columns of the weights, and past them the
  buffers hold anything.
-/
module

public import proofs.«01_k».proof.Proof.FfnValue.Block
public import proofs.«01_k».proof.Proof.Gen.FfnIdeal.Frame

@[expose] public section

set_option maxRecDepth 16384

noncomputable section

namespace Cert.FfnIdeal.Point

open Cert.FfnIdeal Cert.FfnIdeal.Gen Cert.FfnIdeal.Body Idealize.ShloMosaic Idealize.ShloMosaic.TcCoe Idealize.SL.Sem ValueIdx Cert.FfnSpec

variable (m : (ℓ : Loc nD τ sig) → Buf (Elt Ideal) ℓ)

/-! ## Where a point's blocks lie -/

theorem index0 : ∀ t : Fin cfg0.N, win0_0.index t = ![t.val / 11, 0] := by
  show ∀ t : Fin grid0.N, _
  decide +kernel
theorem index2 : ∀ t : Fin cfg0.N, win0_2.index t = ![0, t.val % 11] := by
  show ∀ t : Fin grid0.N, _
  decide +kernel
theorem index3 : ∀ t : Fin cfg0.N, win0_3.index t = ![0, t.val % 11] := by
  show ∀ t : Fin grid0.N, _
  decide +kernel
theorem index4 : ∀ t : Fin cfg0.N, win0_4.index t = ![t.val % 11, 0] := by
  show ∀ t : Fin grid0.N, _
  decide +kernel
theorem index6 : ∀ t : Fin cfg0.N, win0_6.index t = ![t.val / 11, 0] := by
  show ∀ t : Fin grid0.N, _
  decide +kernel

theorem extent2 : ∀ t : Fin cfg0.N, win0_2.xsize (grid0.coords t) 0 = 2048 ∧ win0_2.xsize (grid0.coords t) 1 = min 512 (5504 - 512 * (t.val % 11)) := by
  show ∀ t : Fin grid0.N, _
  decide +kernel
theorem extent3 : ∀ t : Fin cfg0.N, win0_3.xsize (grid0.coords t) 0 = 2048 ∧ win0_3.xsize (grid0.coords t) 1 = min 512 (5504 - 512 * (t.val % 11)) := by
  show ∀ t : Fin grid0.N, _
  decide +kernel
theorem extent4 : ∀ t : Fin cfg0.N, win0_4.xsize (grid0.coords t) 0 = min 512 (5504 - 512 * (t.val % 11)) ∧ win0_4.xsize (grid0.coords t) 1 = 2048 := by
  show ∀ t : Fin grid0.N, _
  decide +kernel

/-! ## The arrays, and the blocks read off them -/

abbrev inp (c : Dev nD) : (⟨2, ![32768, 2048]⟩ : Shape).Idx → EReal := V m c main_arg0
abbrev nrm (c : Dev nD) : (⟨2, ![1, 2048]⟩ : Shape).Idx → EReal := V m c main_arg1
abbrev wgt (c : Dev nD) : (⟨2, ![2048, 5504]⟩ : Shape).Idx → EReal := V m c main_arg2
abbrev wup (c : Dev nD) : (⟨2, ![2048, 5504]⟩ : Shape).Idx → EReal := V m c main_arg3
abbrev wdn (c : Dev nD) : (⟨2, ![5504, 2048]⟩ : Shape).Idx → EReal := V m c main_arg4

/-- Row `r` of block of rows `b`. -/
def row (b : ℕ) (r : Fin 1024) : Fin 32768 := ⟨(1024 * b + r.val) % 32768, Nat.mod_lt _ (by decide)⟩

theorem row_val (t : Fin cfg0.N) (r : Fin 1024) : (row (t.val / 11) r).val = 1024 * (t.val / 11) + r.val := by
  have hN : t.val < 352 := lt_of_lt_of_eq t.isLt (show cfg0.N = 352 from N_0)
  show (1024 * (t.val / 11) + r.val) % 32768 = _
  omega

theorem block0 (c : Dev nD) (t : Fin cfg0.N) (r : Fin 1024) (k : Fin 2048) :
    (iblk m c 0 t : Vec Ideal S1024x2048 .f32) (ix2 r k) = inp m c (ix2 (row (t.val / 11) r) k) := by
  unfold iblk
  rw [View.read_apply]
  have e := index0 t
  refine congrArg (V m c main_arg0) (funext fun a => ?_)
  match a with
  | ⟨0, _⟩ => exact Fin.ext (by
      show win0_0.index t 0 * 1024 + 1 * r.val = (row (t.val / 11) r).val
      rw [e, row_val]; show t.val / 11 * 1024 + 1 * r.val = _; omega)
  | ⟨1, _⟩ => exact Fin.ext (by
      show win0_0.index t 1 * 2048 + 1 * k.val = k.val
      rw [e]; show 0 * 2048 + 1 * k.val = _; omega)

theorem block1 (c : Dev nD) (t : Fin cfg0.N) (k : Fin 2048) :
    (iblk m c 1 t : Vec Ideal S1x2048 .f32) (ix2 0 k) = nrm m c (ix2 0 k) := by
  unfold iblk
  rw [View.read_apply]
  refine congrArg (V m c main_arg1) (funext fun a => ?_)
  match a with
  | ⟨0, _⟩ => exact Fin.ext (by show 0 * 1 + 1 * 0 = 0; omega)
  | ⟨1, _⟩ => exact Fin.ext (by show 0 * 2048 + 1 * k.val = k.val; omega)

/-- The gate weights' buffer at a column inside the array. -/
theorem block2 (c : Dev nD) (t : Fin cfg0.N) (d : Vec Ideal S2048x512 .bf16) (l : Fin 2048) (f : Fin 512) (n : Fin 5504)
    (hn : n.val = 512 * (t.val % 11) + f.val) :
    (win0_2.fill (grid0.coords t) d (iblk m c 2 t) : Vec Ideal S2048x512 .bf16) (ix2 l f) = wgt m c (ix2 l n) := by
  have e := index2 t
  have x := extent2 t
  have hm : win0_2.moved (grid0.coords t) (ix2 l f) = true := (win0_2.moved_iff _ _).mpr fun a => by
    match a with
    | ⟨0, _⟩ => exact lt_of_lt_of_eq l.isLt x.1.symm
    | ⟨1, _⟩ => refine lt_of_lt_of_eq (b := min 512 (5504 - 512 * (t.val % 11))) ?_ x.2.symm; show f.val < _; omega
  unfold Pipeline.Window.fill
  rw [dif_pos hm]
  unfold iblk
  rw [View.read_apply]
  refine congrArg (V m c main_arg2) (funext fun a => ?_)
  match a with
  | ⟨0, _⟩ => exact Fin.ext (by
      show win0_2.index t 0 * 2048 + 1 * l.val = l.val
      rw [e]; show 0 * 2048 + 1 * l.val = _; omega)
  | ⟨1, _⟩ => exact Fin.ext (by
      show win0_2.index t 1 * 512 + 1 * f.val = n.val
      rw [e]; show t.val % 11 * 512 + 1 * f.val = _; omega)

/-- The up weights' likewise. -/
theorem block3 (c : Dev nD) (t : Fin cfg0.N) (d : Vec Ideal S2048x512 .bf16) (l : Fin 2048) (f : Fin 512) (n : Fin 5504)
    (hn : n.val = 512 * (t.val % 11) + f.val) :
    (win0_3.fill (grid0.coords t) d (iblk m c 3 t) : Vec Ideal S2048x512 .bf16) (ix2 l f) = wup m c (ix2 l n) := by
  have e := index3 t
  have x := extent3 t
  have hm : win0_3.moved (grid0.coords t) (ix2 l f) = true := (win0_3.moved_iff _ _).mpr fun a => by
    match a with
    | ⟨0, _⟩ => exact lt_of_lt_of_eq l.isLt x.1.symm
    | ⟨1, _⟩ => refine lt_of_lt_of_eq (b := min 512 (5504 - 512 * (t.val % 11))) ?_ x.2.symm; show f.val < _; omega
  unfold Pipeline.Window.fill
  rw [dif_pos hm]
  unfold iblk
  rw [View.read_apply]
  refine congrArg (V m c main_arg3) (funext fun a => ?_)
  match a with
  | ⟨0, _⟩ => exact Fin.ext (by
      show win0_3.index t 0 * 2048 + 1 * l.val = l.val
      rw [e]; show 0 * 2048 + 1 * l.val = _; omega)
  | ⟨1, _⟩ => exact Fin.ext (by
      show win0_3.index t 1 * 512 + 1 * f.val = n.val
      rw [e]; show t.val % 11 * 512 + 1 * f.val = _; omega)

/-- The down weights' at a row inside the array. -/
theorem block4 (c : Dev nD) (t : Fin cfg0.N) (d : Vec Ideal S512x2048 .bf16) (f : Fin 512) (k : Fin 2048) (n : Fin 5504)
    (hn : n.val = 512 * (t.val % 11) + f.val) :
    (win0_4.fill (grid0.coords t) d (iblk m c 4 t) : Vec Ideal S512x2048 .bf16) (ix2 f k) = wdn m c (ix2 n k) := by
  have e := index4 t
  have x := extent4 t
  have hm : win0_4.moved (grid0.coords t) (ix2 f k) = true := (win0_4.moved_iff _ _).mpr fun a => by
    match a with
    | ⟨0, _⟩ => refine lt_of_lt_of_eq (b := min 512 (5504 - 512 * (t.val % 11))) ?_ x.1.symm; show f.val < _; omega
    | ⟨1, _⟩ => exact lt_of_lt_of_eq k.isLt x.2.symm
  unfold Pipeline.Window.fill
  rw [dif_pos hm]
  unfold iblk
  rw [View.read_apply]
  refine congrArg (V m c main_arg4) (funext fun a => ?_)
  match a with
  | ⟨0, _⟩ => exact Fin.ext (by
      show win0_4.index t 0 * 512 + 1 * f.val = n.val
      rw [e]; show t.val % 11 * 512 + 1 * f.val = _; omega)
  | ⟨1, _⟩ => exact Fin.ext (by
      show win0_4.index t 1 * 2048 + 1 * k.val = k.val
      rw [e]; show 0 * 2048 + 1 * k.val = _; omega)

/-! ## What a point leaves -/

/-- The normed rows of block of rows `b`. -/
def rowsAt (c : Dev nD) (b : ℕ) : Vec Ideal S1024x2048 .bf16 := fun j =>
  normRow (fun l => inp m c (ix2 (row b (j 0)) l)) (fun l => nrm m c (ix2 0 l)) (j 1)

/-- The hidden columns' sum so far; after the last block of them the result. -/
def outAt (c : Dev nD) (n : ℕ) : Vec Ideal S1024x2048 .f32 := fun j =>
  if n % 11 = 10 then value (inp m c) (nrm m c) (wgt m c) (wup m c) (wdn m c) (row (n / 11) (j 0)) (j 1)
  else upTo (inp m c) (nrm m c) (wgt m c) (wup m c) (wdn m c) (row (n / 11) (j 0)) (j 1) (512 * (n % 11 + 1))

/-- The terms of a block of rows. -/
abbrev terms (c : Dev nD) (b : ℕ) : Fin 1024 → Fin 2048 → ℕ → EReal := fun r k n =>
  term (inp m c) (nrm m c) (wgt m c) (wup m c) (wdn m c) (row b r) k n

theorem eq_ix2 (j : S1024x2048.Idx) : j = ix2 (n0 := 1024) (n1 := 2048) (j 0) (j 1) :=
  funext fun a => by
    match a with
    | ⟨0, _⟩ => rfl
    | ⟨1, _⟩ => rfl

theorem ext2 {e : EltTy} {u v : Vec Ideal S1024x2048 e} (h : ∀ (r : Fin 1024) (k : Fin 2048), u (ix2 r k) = v (ix2 r k)) : u = v :=
  funext fun j => by rw [eq_ix2 j]; exact h _ _

/-- The weights' buffers give the point's terms, as far as its columns are inside the arrays. -/
theorem pointGives (c : Dev nD) (t : Fin cfg0.N) (d2 d3 : Vec Ideal S2048x512 .bf16) (d4 : Vec Ideal S512x2048 .bf16) (l : ℕ)
    (hl : 512 * (t.val % 11) + l ≤ 5504) :
    Gives (rowsAt m c (t.val / 11)) (win0_2.fill (grid0.coords t) d2 (iblk m c 2 t)) (win0_3.fill (grid0.coords t) d3 (iblk m c 3 t))
      (win0_4.fill (grid0.coords t) d4 (iblk m c 4 t)) (terms m c (t.val / 11)) (512 * (t.val % 11)) l := by
  intro r k f hf
  have hn : 512 * (t.val % 11) + f.val < 5504 := by omega
  show _ = term _ _ _ _ _ _ _ _
  unfold term
  rw [dif_pos hn]
  exact weighed_congr rfl (funext fun i => block2 m c t d2 i f ⟨_, hn⟩ rfl) (funext fun i => block3 m c t d3 i f ⟨_, hn⟩ rfl)
    (block4 m c t d4 f k ⟨_, hn⟩ rfl)

theorem rows_eq (c : Dev nD) (t : Fin cfg0.N) : normed (iblk m c 0 t) (iblk m c 1 t) = rowsAt m c (t.val / 11) :=
  ext2 fun r k => (normed_apply _ _ r k).trans
    (congrArg₂ (fun u v => normRow u v k) (funext fun l => block0 m c t r l) (funext fun l => block1 m c t l))

theorem start_eq (c : Dev nD) (t : Fin cfg0.N) (ht : t.val % 11 = 0) (d2 d3 : Vec Ideal S2048x512 .bf16) (d4 : Vec Ideal S512x2048 .bf16) :
    started (iblk m c 0 t) (iblk m c 1 t) (win0_2.fill (grid0.coords t) d2 (iblk m c 2 t)) (win0_3.fill (grid0.coords t) d3 (iblk m c 3 t))
      (win0_4.fill (grid0.coords t) d4 (iblk m c 4 t)) = outAt m c t.val := by
  refine ext2 fun r k => ?_
  have G := pointGives m c t d2 d3 d4 512 (by omega)
  rw [ht] at G
  rw [started_apply (x := iblk m c 0 t) (g := iblk m c 1 t) (T := terms m c (t.val / 11)) (by rw [rows_eq]; exact G)]
  unfold outAt
  rw [if_neg (by omega), ht]
  unfold upTo
  simp only [Nat.zero_add, Nat.mul_one]

theorem add_eq (c : Dev nD) (t : Fin cfg0.N) (h0 : t.val % 11 ≠ 0) (h1 : t.val % 11 ≠ 10) (d2 d3 : Vec Ideal S2048x512 .bf16)
    (d4 : Vec Ideal S512x2048 .bf16) :
    added (rowsAt m c (t.val / 11)) (win0_2.fill (grid0.coords t) d2 (iblk m c 2 t)) (win0_3.fill (grid0.coords t) d3 (iblk m c 3 t))
      (win0_4.fill (grid0.coords t) d4 (iblk m c 4 t)) (outAt m c (t.val - 1)) = outAt m c t.val := by
  refine ext2 fun r k => ?_
  rw [added_apply (o := outAt m c (t.val - 1)) (pointGives m c t d2 d3 d4 512 (by omega))]
  unfold outAt
  rw [if_neg (by omega), if_neg (by omega), show (t.val - 1) / 11 = t.val / 11 by omega, show (t.val - 1) % 11 + 1 = t.val % 11 by omega,
    Nat.mul_add, Nat.mul_one, upTo_add]

theorem end_eq (c : Dev nD) (t : Fin cfg0.N) (h1 : t.val % 11 = 10) (d2 d3 : Vec Ideal S2048x512 .bf16) (d4 : Vec Ideal S512x2048 .bf16) :
    ended (iblk m c 0 t) (rowsAt m c (t.val / 11)) (win0_2.fill (grid0.coords t) d2 (iblk m c 2 t))
      (win0_3.fill (grid0.coords t) d3 (iblk m c 3 t)) (win0_4.fill (grid0.coords t) d4 (iblk m c 4 t)) (outAt m c (t.val - 1)) = outAt m c t.val := by
  refine ext2 fun r k => ?_
  rw [ended_apply (x := iblk m c 0 t) (o := outAt m c (t.val - 1)) (pointGives m c t d2 d3 d4 384 (by omega)) (fun r k i hi => by
    show term _ _ _ _ _ _ _ _ = 0
    unfold term
    exact dif_neg (by omega)), block0]
  unfold outAt
  rw [if_neg (by omega), if_pos h1, show (t.val - 1) / 11 = t.val / 11 by omega, show (t.val - 1) % 11 + 1 = 10 by omega, h1]
  unfold value
  rw [show (5632 : ℕ) = 512 * 10 + 512 from rfl, upTo_add]

end Cert.FfnIdeal.Point

end
-- ==== Proof.FfnValue.Run.lean ====
/-
  The call's run: between points the scratch holds the normed rows of the current block of rows and the output buffer
  the sum so far; the weights' buffers are described only where their blocks lie inside the arrays.
-/
module

public import proofs.«01_k».proof.Proof.FfnValue.Input
public import proofs.«01_k».proof.Proof.FfnValue.Runs

@[expose] public section

set_option maxRecDepth 16384

noncomputable section

namespace Cert.FfnIdeal.Run

open Cert.FfnIdeal Cert.FfnIdeal.Gen Cert.FfnIdeal.Body Cert.FfnIdeal.Point
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

variable (m : (ℓ : Loc nD τ sig) → Buf (Elt Ideal) ℓ) (ρ : Dev nD → PrngReg)

/-! ## Which branch a point takes -/

theorem branch : ∀ t : Fin cfg0.N,
    (starts (grid0.coords t) ↔ t.val % 11 = 0) ∧ (adds (grid0.coords t) ↔ t.val % 11 ≠ 0 ∧ t.val % 11 ≠ 10)
      ∧ (ends (grid0.coords t) ↔ t.val % 11 = 10) :=
  (by decide +kernel : ∀ t : Fin grid0.N,
    (starts (grid0.coords t) ↔ t.val % 11 = 0) ∧ (adds (grid0.coords t) ↔ t.val % 11 ≠ 0 ∧ t.val % 11 ≠ 10)
      ∧ (ends (grid0.coords t) ↔ t.val % 11 = 10))

/-- So every point stores to the output. -/
theorem live : ∀ t : Fin cfg0.N, cfg0.idle 6 (grid0.coords t) = false :=
  (by decide +kernel : ∀ t : Fin grid0.N, idle0 6 (grid0.coords t) = false)

abbrev st0 (t : Fin cfg0.N) : Memref sig .tc .vmem S1024x2048 .f32 := win0_0.stage (cfg0.slots t 0)
abbrev st1 (t : Fin cfg0.N) : Memref sig .tc .vmem S1x2048 .f32 := win0_1.stage (cfg0.slots t 1)
abbrev st2 (t : Fin cfg0.N) : Memref sig .tc .vmem S2048x512 .bf16 := win0_2.stage (cfg0.slots t 2)
abbrev st3 (t : Fin cfg0.N) : Memref sig .tc .vmem S2048x512 .bf16 := win0_3.stage (cfg0.slots t 3)
abbrev st4 (t : Fin cfg0.N) : Memref sig .tc .vmem S512x2048 .bf16 := win0_4.stage (cfg0.slots t 4)
abbrev st5 (t : Fin cfg0.N) : Memref sig .tc .vmem S1x2048 .f32 := win0_5.stage (cfg0.slots t 5)
abbrev st6 (t : Fin cfg0.N) : Memref sig .tc .vmem S1024x2048 .f32 := win0_6.stage (cfg0.slots t 6)
/-- The scratch of normed rows. -/
abbrev rows : Memref sig .tc .vmem S1024x2048 .bf16 := Memref.whole cc0_scratch0

theorem between_eq (c : Dev nD) :
    (Pipeline.ΦA spec0 c : sProp 𝕄)
      = iprop(iprop((∃ d, owns (c : Thread nD τ) rows fullShare d)) ∗ (∃ r, prngReg c r)) := by
  unfold Pipeline.ΦA; rw [scopedRest0_eq]; simp only [rows, owns_whole]; try rfl

/-! ## The run's data -/

/-- What is held between points: at first anything in the scratch, then the last point's normed rows. -/
def held (c : Dev nD) : (n : ℕ) → n ≤ cfg0.N → sProp 𝕄
  | 0, _ => Pipeline.ΦA spec0 c
  | n + 1, _ => iprop(owns (c : Thread nD τ) rows fullShare (rowsAt m c (n / 11)) ∗ (∃ r, prngReg c r))

theorem held_zero (c : Dev nD) (n : ℕ) (h : n ≤ cfg0.N) (hz : n = 0) : held m c n h = Pipeline.ΦA spec0 c := by
  subst hz; rfl

theorem held_pos (c : Dev nD) (n : ℕ) (h : n ≤ cfg0.N) (hz : n ≠ 0) :
    held m c n h = iprop(owns (c : Thread nD τ) rows fullShare (rowsAt m c ((n - 1) / 11)) ∗ (∃ r, prngReg c r)) := by
  cases n with
  | zero => exact absurd rfl hz
  | succ n => rfl

/-- A word to fill the weights' buffers with past the arrays' ends, where nothing is said of them. -/
def fillerW : Vec Ideal S2048x512 .bf16 := fun _ => Scalar.ofBits (F := Ideal) .bf16 0#16
def fillerD : Vec Ideal S512x2048 .bf16 := fun _ => Scalar.ofBits (F := Ideal) .bf16 0#16

def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => win0_2.fill (grid0.coords t) fillerW (iblk m c 2 t)
    | ⟨3, _⟩ => win0_3.fill (grid0.coords t) fillerW (iblk m c 3 t)
    | ⟨4, _⟩ => win0_4.fill (grid0.coords t) fillerD (iblk m c 4 t)
    | ⟨5, _⟩ => iblk m c 5 t
    | ⟨6, _⟩ => outAt m c t.val
  Φ t := held m c t.val (Nat.le_of_lt_succ t.isLt)
  q _ := fullShare
  owed _ := 0

theorem A_eq (c : Dev nD) (w : Fin cfg0.W) : (dats m 0 c).A w = V m c (Pipeline.arrRef spec0 w) := by
  dsimp only [dats]

theorem held_castSucc (c : Dev nD) (t : Fin cfg0.N) :
    (dats m 0 c).Φ t.castSucc = held m c t.val (Nat.le_of_lt t.isLt) := by
  dsimp only [dats]; exact Pipeline.Dat.Φ_castSucc (held m c) t

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = win0_2.fill (grid0.coords t) fillerW (iblk m c 2 t) := by dsimp only [dats]
theorem after_3 (c : Dev nD) (t : Fin cfg0.N) : (dats m 0 c).after 3 t = win0_3.fill (grid0.coords t) fillerW (iblk m c 3 t) := by dsimp only [dats]
theorem after_4 (c : Dev nD) (t : Fin cfg0.N) : (dats m 0 c).after 4 t = win0_4.fill (grid0.coords t) fillerD (iblk m c 4 t) := by dsimp only [dats]
theorem after_5 (c : Dev nD) (t : Fin cfg0.N) : (dats m 0 c).after 5 t = iblk m c 5 t := by dsimp only [dats]
theorem after_6 (c : Dev nD) (t : Fin cfg0.N) : (dats m 0 c).after 6 t = outAt m c t.val := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = win0_2.fill (grid0.coords t) d (iblk m c 2 t) := by
  unfold Dat.before; rw [if_pos (fetch0_2 t)]; rfl
theorem before_3 (c : Dev nD) (t : Fin cfg0.N) (d) : (dats m 0 c).before 3 t d = win0_3.fill (grid0.coords t) d (iblk m c 3 t) := by
  unfold Dat.before; rw [if_pos (fetch0_3 t)]; rfl
theorem before_4 (c : Dev nD) (t : Fin cfg0.N) (d) : (dats m 0 c).before 4 t d = win0_4.fill (grid0.coords t) d (iblk m c 4 t) := by
  unfold Dat.before; rw [if_pos (fetch0_4 t)]; rfl
theorem before_5 (c : Dev nD) (t : Fin cfg0.N) (d) : (dats m 0 c).before 5 t d = iblk m c 5 t :=
  before0_5_of m (dats m 0 c) (A_eq m c 5) (after_5 m c) t d

/-- The output's buffer at a point that does not start a block of rows: what the point before left. -/
theorem before_6 (c : Dev nD) (t : Fin cfg0.N) (ht : t.val % 11 ≠ 0) (d) : (dats m 0 c).before 6 t d = outAt m c (t.val - 1) := by
  have hf : (cfg0.win 6).flush ⟨t.val - 1, Nat.lt_of_le_of_lt (Nat.sub_le _ _) t.isLt⟩ = false :=
    Bool.eq_false_iff.mpr fun h => by
      have h' := (flush0_6 _).mp h
      have : (t.val - 1) % 11 = 10 := h'
      omega
  rw [(dats m 0 c).before_of_pos 6 t (by omega) ((cfg0.win 6).fetch_out rfl t), hf, if_neg Bool.false_ne_true]
  unfold Dat.left
  rw [live]
  show (dats m 0 c).kept 6 _ d = _
  unfold Dat.kept
  rw [after_6]
  exact (cfg0.win 6).fill_cut _ _

/-! ## The body at a point -/

def bodyPre (c : Dev nD) (t : Fin cfg0.N) : sProp 𝕄 :=
  iprop((dats m 0 c).Φ t.castSucc ∗ (dats m 0 c).owesAt () t.castSucc
    ∗ (∃ d, owns (c : Thread nD τ) (st0 t) fullShare ((dats m 0 c).before 0 t d))
    ∗ (∃ d, owns (c : Thread nD τ) (st1 t) fullShare ((dats m 0 c).before 1 t d))
    ∗ (∃ d, owns (c : Thread nD τ) (st2 t) fullShare ((dats m 0 c).before 2 t d))
    ∗ (∃ d, owns (c : Thread nD τ) (st3 t) fullShare ((dats m 0 c).before 3 t d))
    ∗ (∃ d, owns (c : Thread nD τ) (st4 t) fullShare ((dats m 0 c).before 4 t d))
    ∗ (∃ d, owns (c : Thread nD τ) (st5 t) fullShare ((dats m 0 c).before 5 t d))
    ∗ (∃ d, owns (c : Thread nD τ) (st6 t) fullShare ((dats m 0 c).before 6 t d)))

def bodyPost (c : Dev nD) (t : Fin cfg0.N) : sProp 𝕄 :=
  iprop((dats m 0 c).Φ t.succ ∗ (dats m 0 c).owesAt () t.succ
    ∗ owns (c : Thread nD τ) (st0 t) fullShare ((dats m 0 c).after 0 t)
    ∗ owns (c : Thread nD τ) (st1 t) fullShare ((dats m 0 c).after 1 t)
    ∗ (∃ d, owns (c : Thread nD τ) (st2 t) fullShare (win0_2.fill (grid0.coords t) d (win0_2.cut (grid0.coords t) ((dats m 0 c).after 2 t))))
    ∗ (∃ d, owns (c : Thread nD τ) (st3 t) fullShare (win0_3.fill (grid0.coords t) d (win0_3.cut (grid0.coords t) ((dats m 0 c).after 3 t))))
    ∗ (∃ d, owns (c : Thread nD τ) (st4 t) fullShare (win0_4.fill (grid0.coords t) d (win0_4.cut (grid0.coords t) ((dats m 0 c).after 4 t))))
    ∗ owns (c : Thread nD τ) (st5 t) fullShare ((dats m 0 c).after 5 t)
    ∗ owns (c : Thread nD τ) (st6 t) fullShare ((dats m 0 c).after 6 t))

/-- What the body must do at a point, with the buffers' contents named. -/
theorem sound_of (c : Dev nD) (t : Fin cfg0.N)
    (h : ∀ (d2 d3 : Vec Ideal S2048x512 .bf16) (d4 : Vec Ideal S512x2048 .bf16) (d6 : Vec Ideal S1024x2048 .f32) (K : PUnit → sProp 𝕄),
      iprop(held m c t.val (Nat.le_of_lt t.isLt)
        ∗ owns (c : Thread nD τ) (st0 t) fullShare (iblk m c 0 t) ∗ owns (c : Thread nD τ) (st1 t) fullShare (iblk m c 1 t)
        ∗ owns (c : Thread nD τ) (st2 t) fullShare (win0_2.fill (grid0.coords t) d2 (iblk m c 2 t))
        ∗ owns (c : Thread nD τ) (st3 t) fullShare (win0_3.fill (grid0.coords t) d3 (iblk m c 3 t))
        ∗ owns (c : Thread nD τ) (st4 t) fullShare (win0_4.fill (grid0.coords t) d4 (iblk m c 4 t))
        ∗ owns (c : Thread nD τ) (st5 t) fullShare (iblk m c 5 t)
        ∗ owns (c : Thread nD τ) (st6 t) fullShare ((dats m 0 c).before 6 t d6)
        ∗ (iprop(iprop(owns (c : Thread nD τ) rows fullShare (rowsAt m c (t.val / 11)) ∗ (∃ r, prngReg c r))
          ∗ owns (c : Thread nD τ) (st0 t) fullShare (iblk m c 0 t) ∗ owns (c : Thread nD τ) (st1 t) fullShare (iblk m c 1 t)
          ∗ owns (c : Thread nD τ) (st2 t) fullShare (win0_2.fill (grid0.coords t) d2 (iblk m c 2 t))
          ∗ owns (c : Thread nD τ) (st3 t) fullShare (win0_3.fill (grid0.coords t) d3 (iblk m c 3 t))
          ∗ owns (c : Thread nD τ) (st4 t) fullShare (win0_4.fill (grid0.coords t) d4 (iblk m c 4 t))
          ∗ owns (c : Thread nD τ) (st5 t) fullShare (iblk m c 5 t)
          ∗ owns (c : Thread nD τ) (st6 t) fullShare (outAt m c t.val)) -∗ K ⟨⟩))
        ⊢ wp frame (wpE (defs₀ (F := Ideal)) Variants.none c none) Set.univ (bodyAt0 t) K) :
    bodyPre m c t ⊢ wp frame (wpE (defs₀ (F := Ideal)) Variants.none c none) Set.univ (bodyAt0 t) (fun _ => bodyPost m c t) := by
  unfold bodyPre bodyPost
  simp only [before_0, before_1, before_2, before_3, before_4, before_5]
  rw [show (dats m 0 c).owesAt () t.succ = (dats m 0 c).owesAt () t.castSucc from rfl,
    show (dats m 0 c).Φ t.succ = iprop(owns (c : Thread nD τ) rows fullShare (rowsAt m c (t.val / 11)) ∗ (∃ r, prngReg c r)) from rfl,
    held_castSucc, after_0, after_1, after_2, after_3, after_4, after_5, after_6]
  have h2 : win0_2.cut (grid0.coords t) (win0_2.fill (grid0.coords t) fillerW (iblk m c 2 t)) = iblk m c 2 t := win0_2.cut_fill _ _ _
  have h3 : win0_3.cut (grid0.coords t) (win0_3.fill (grid0.coords t) fillerW (iblk m c 3 t)) = iblk m c 3 t := win0_3.cut_fill _ _ _
  have h4 : win0_4.cut (grid0.coords t) (win0_4.fill (grid0.coords t) fillerD (iblk m c 4 t)) = iblk m c 4 t := win0_4.cut_fill _ _ _
  rw [h2, h3, h4]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (h d2 d3 d4 d6 _)
  isplitl [HΦ]; · iexact HΦ
  isplitl [H0]; · iexact H0
  isplitl [H1]; · iexact H1
  isplitl [H2]; · iexact H2
  isplitl [H3]; · iexact H3
  isplitl [H4]; · iexact H4
  isplitl [H5]; · iexact H5
  isplitl [H6]; · iexact H6
  iintro ⟨HΦ, H0, H1, H2, H3, H4, H5, H6⟩
  isplitl [HΦ]; · iexact HΦ
  isplitl [Ho]; · iexact Ho
  isplitl [H0]; · iexact H0
  isplitl [H1]; · iexact H1
  isplitl [H2]; · iexists d2; iexact H2
  isplitl [H3]; · iexists d3; iexact H3
  isplitl [H4]; · iexists d4; iexact H4
  isplitl [H5]; · iexact H5
  iexact H6

/-- What is held lets the scratch be started over. -/
theorem held_any (c : Dev nD) (n : ℕ) (h : n ≤ cfg0.N) :
    held m c n h ⊢ iprop((∃ d, owns (c : Thread nD τ) rows fullShare d) ∗ (∃ r, prngReg c r)) := by
  by_cases hz : n = 0
  · rw [held_zero m c n h hz, between_eq]
  · rw [held_pos m c n h hz]
    iintro ⟨HS, Hg⟩
    isplitl [HS]
    · iexists _; iexact HS
    iexact Hg

set_option maxHeartbeats 1600000 in
theorem sound_start (c : Dev nD) (t : Fin cfg0.N) (ht : t.val % 11 = 0) :
    bodyPre m c t ⊢ wp frame (wpE (defs₀ (F := Ideal)) Variants.none c none) Set.univ (bodyAt0 t) (fun _ => bodyPost m c t) := by
  refine sound_of m c t fun d2 d3 d4 d6 K => ?_
  have hb := branch t
  have hr := run_starts c (grid0.coords t) (st0 t) (hstage0_0 _) (st1 t) (hstage0_1 _) (st2 t) (hstage0_2 _) (st3 t) (hstage0_3 _) (st4 t) (hstage0_4 _)
    (st5 t) (hstage0_5 _) (st6 t) (hstage0_6 _) rows (Memref.isWhole_whole _) (hb.1.mpr ht) (fun h => (hb.2.1.mp h).1 ht)
    (fun h => by have := hb.2.2.mp h; omega) (iblk m c 0 t) (iblk m c 1 t) (win0_2.fill (grid0.coords t) d2 (iblk m c 2 t))
    (win0_3.fill (grid0.coords t) d3 (iblk m c 3 t)) (win0_4.fill (grid0.coords t) d4 (iblk m c 4 t)) (iblk m c 5 t) Set.univ K
  rw [start_eq m c t ht, rows_eq] at hr
  refine (sep_mono (held_any m c _ _) .rfl).trans ?_
  unfold bodyAt0
  iintro ⟨⟨HS, Hg⟩, H0, H1, H2, H3, H4, H5, H6, Hk⟩
  iapply hr
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [HS]; · iexact HS
  iintro ⟨H0, H1, H2, H3, H4, H5, H6, HS⟩
  iapply Hk
  isplitl [HS Hg]
  · isplitl [HS]; · iexact HS
    iexact Hg
  isplitl [H0]; · iexact H0
  isplitl [H1]; · iexact H1
  isplitl [H2]; · iexact H2
  isplitl [H3]; · iexact H3
  isplitl [H4]; · iexact H4
  isplitl [H5]; · iexact H5
  iexact H6

/-- A point that does not start a block of rows finds its normed rows in the scratch. -/
theorem held_rows (c : Dev nD) (t : Fin cfg0.N) (ht : t.val % 11 ≠ 0) :
    held m c t.val (Nat.le_of_lt t.isLt) = iprop(owns (c : Thread nD τ) rows fullShare (rowsAt m c (t.val / 11)) ∗ (∃ r, prngReg c r)) := by
  rw [held_pos m c t.val _ (by omega), show (t.val - 1) / 11 = t.val / 11 by omega]

set_option maxHeartbeats 1600000 in
theorem sound_add (c : Dev nD) (t : Fin cfg0.N) (ht : t.val % 11 ≠ 0) (ht' : t.val % 11 ≠ 10) :
    bodyPre m c t ⊢ wp frame (wpE (defs₀ (F := Ideal)) Variants.none c none) Set.univ (bodyAt0 t) (fun _ => bodyPost m c t) := by
  refine sound_of m c t fun d2 d3 d4 d6 K => ?_
  have hb := branch t
  have hr := run_adds c (grid0.coords t) (st0 t) (hstage0_0 _) (st1 t) (hstage0_1 _) (st2 t) (hstage0_2 _) (st3 t) (hstage0_3 _) (st4 t) (hstage0_4 _)
    (st5 t) (hstage0_5 _) (st6 t) (hstage0_6 _) rows (Memref.isWhole_whole _) (fun h => ht (hb.1.mp h)) (hb.2.1.mpr ⟨ht, ht'⟩)
    (fun h => ht' (hb.2.2.mp h)) (iblk m c 0 t) (iblk m c 1 t) (win0_2.fill (grid0.coords t) d2 (iblk m c 2 t))
    (win0_3.fill (grid0.coords t) d3 (iblk m c 3 t)) (win0_4.fill (grid0.coords t) d4 (iblk m c 4 t)) (iblk m c 5 t)
    (outAt m c (t.val - 1)) (rowsAt m c (t.val / 11)) Set.univ K
  rw [add_eq m c t ht ht'] at hr
  rw [before_6 m c t ht, held_rows m c t ht]
  unfold bodyAt0
  iintro ⟨⟨HS, Hg⟩, H0, H1, H2, H3, H4, H5, H6, Hk⟩
  iapply hr
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [HS]; · iexact HS
  iintro ⟨H0, H1, H2, H3, H4, H5, H6, HS⟩
  iapply Hk
  isplitl [HS Hg]
  · isplitl [HS]; · iexact HS
    iexact Hg
  isplitl [H0]; · iexact H0
  isplitl [H1]; · iexact H1
  isplitl [H2]; · iexact H2
  isplitl [H3]; · iexact H3
  isplitl [H4]; · iexact H4
  isplitl [H5]; · iexact H5
  iexact H6

set_option maxHeartbeats 1600000 in
theorem sound_end (c : Dev nD) (t : Fin cfg0.N) (ht' : t.val % 11 = 10) :
    bodyPre m c t ⊢ wp frame (wpE (defs₀ (F := Ideal)) Variants.none c none) Set.univ (bodyAt0 t) (fun _ => bodyPost m c t) := by
  have ht : t.val % 11 ≠ 0 := by omega
  refine sound_of m c t fun d2 d3 d4 d6 K => ?_
  have hb := branch t
  have hr := run_ends c (grid0.coords t) (st0 t) (hstage0_0 _) (st1 t) (hstage0_1 _) (st2 t) (hstage0_2 _) (st3 t) (hstage0_3 _) (st4 t) (hstage0_4 _)
    (st5 t) (hstage0_5 _) (st6 t) (hstage0_6 _) rows (Memref.isWhole_whole _) (fun h => ht (hb.1.mp h)) (fun h => (hb.2.1.mp h).2 ht')
    (hb.2.2.mpr ht') (iblk m c 0 t) (iblk m c 1 t) (win0_2.fill (grid0.coords t) d2 (iblk m c 2 t))
    (win0_3.fill (grid0.coords t) d3 (iblk m c 3 t)) (win0_4.fill (grid0.coords t) d4 (iblk m c 4 t)) (iblk m c 5 t)
    (outAt m c (t.val - 1)) (rowsAt m c (t.val / 11)) Set.univ K
  rw [end_eq m c t ht'] at hr
  rw [before_6 m c t ht, held_rows m c t ht]
  unfold bodyAt0
  iintro ⟨⟨HS, Hg⟩, H0, H1, H2, H3, H4, H5, H6, Hk⟩
  iapply hr
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [HS]; · iexact HS
  iintro ⟨H0, H1, H2, H3, H4, H5, H6, HS⟩
  iapply Hk
  isplitl [HS Hg]
  · isplitl [HS]; · iexact HS
    iexact Hg
  isplitl [H0]; · iexact H0
  isplitl [H1]; · iexact H1
  isplitl [H2]; · iexact H2
  isplitl [H3]; · iexact H3
  isplitl [H4]; · iexact H4
  isplitl [H5]; · iexact H5
  iexact H6

theorem sound_body (c : Dev nD) (t : Fin cfg0.N) :
    bodyPre m c t ⊢ wp frame (wpE (defs₀ (F := Ideal)) Variants.none c none) Set.univ (bodyAt0 t) (fun _ => bodyPost m c t) := by
  by_cases h0 : t.val % 11 = 0
  · exact sound_start m c t h0
  by_cases h1 : t.val % 11 = 10
  · exact sound_end m c t h1
  · exact sound_add m c t h0 h1

theorem defs₀_row (t : Fin cfg0.N) :
    defs₀ (F := Ideal) .tc cfg0.body (cfg0.bodyArgs t (cfg0.slots t)) = bodyAt0 t := by
  unfold defs₀; rw [Defs.onTc_tc]

theorem body_obligation (c : Dev nD) : BodyObligationLoose (dats m 0 c) (defs₀ (F := Ideal)) Variants.none () Set.univ := fun t => by
  have hl : idle0 6 (grid0.coords t) = false := live t
  rw [bigSep_W0, bigSep_W0, defs₀_row]
  simp only
  rw [hl]
  exact triple_restated (sound_body m c t) rfl .rfl fun _ => .rfl

/-! ## The run -/

theorem hin (c : Dev nD) : Pipeline.ΦA spec0 c ⊢ (dats m 0 c).Φ 0 := by
  rw [show (dats m 0 c).Φ 0 = held m c 0 (Nat.zero_le _) from rfl, held_zero m c 0 _ rfl]
  try exact Idealize.SL.BI.Entails.refl _

theorem hout (c : Dev nD) : (dats m 0 c).Φ (Fin.last cfg0.N) ⊢ Pipeline.ΦA spec0 c := by
  rw [show (dats m 0 c).Φ (Fin.last cfg0.N) = held m c cfg0.N (Nat.le_refl _) from rfl, between_eq]
  exact held_any m c _ _

set_option backward.isDefEq.respectTransparency.types false in
theorem run_main_quiescent : θ_run defs (onTc (τ := τ) (main (F := Ideal))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := body_obligation m) (hshare := fun c => (dats m 0 c).share_full fun _ => rfl)
    (howed := fun _ _ => rfl) (V := V m) (hmain := hmain m Variants.none) (hA := A_eq m) (hin := hin m) (hout := hout m)

end Cert.FfnIdeal.Run

end
-- ==== Proof.FfnValue.Array.lean ====
/-
  The call's result array, and its frame.
-/
module

public import proofs.«01_k».proof.Proof.FfnValue.Run
public import Idealize.ShloMosaic.Lib.Claim

@[expose] public section

set_option maxRecDepth 16384

noncomputable section

namespace Cert.FfnIdeal.Run

open Cert.FfnIdeal Cert.FfnIdeal.Gen Cert.FfnIdeal.Body Cert.FfnIdeal.Point
open Idealize.ShloMosaic Idealize.ShloMosaic.TcCoe Idealize.SL.Sem ValueIdx Cert.FfnSpec

variable (m : (ℓ : Loc nD τ sig) → Buf (Elt Ideal) ℓ) (ρ : Dev nD → PrngReg)

/-- The result, row by row. -/
def result (c : Dev nD) : S32768x2048.Idx → EReal := fun i =>
  value (inp m c) (nrm m c) (wgt m c) (wup m c) (wdn m c) (i 0) (i 1)

/-- The arguments it is of. -/
theorem result_eq (c : Dev nD) : result m c = fun i : S32768x2048.Idx =>
    value (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (i 0) (i 1) := by
  have e0 : inp m c = m ((c.tc : Thread nD τ).loc main_arg0) := V_main_arg0 m c
  have e1 : nrm m c = m ((c.tc : Thread nD τ).loc main_arg1) := V_main_arg1 m c
  have e2 : wgt m c = m ((c.tc : Thread nD τ).loc main_arg2) := V_main_arg2 m c
  have e3 : wup m c = m ((c.tc : Thread nD τ).loc main_arg3) := V_main_arg3 m c
  have e4 : wdn m c = m ((c.tc : Thread nD τ).loc main_arg4) := V_main_arg4 m c
  unfold result
  rw [e0, e1, e2, e3, e4]

theorem final_eq (c : Dev nD) : (dats m 0 c).arrAt 6 cfg0.N = result m c := by
  refine (dats m 0 c).arrAt_eq_of_cover 6 (result m c) (fun t hf => ?_) (fun i => ?_)
  · have ht : t.val % 11 = 10 := (flush0_6 t).mp hf
    show (cfg0.win 6).cut (grid0.coords t) ((dats m 0 c).after 6 t) = _
    rw [after_6]
    funext y
    rw [View.read_apply]
    have hi := index6 t
    have l0 : (y 0).val < 1024 := (y 0).isLt
    have l1 : (y 1).val < 2048 := (y 1).isLt
    obtain ⟨r, hr⟩ : ∃ r : Fin 1024, r.val = (y 0).val := ⟨⟨(y 0).val, l0⟩, rfl⟩
    obtain ⟨k, hk⟩ : ∃ k : Fin 2048, k.val = (y 1).val := ⟨⟨(y 1).val, l1⟩, rfl⟩
    have hy : outAt m c t.val (ix2 r k) = result m c (ix2 (row (t.val / 11) r) k) := by
      unfold outAt
      rw [if_pos ht]
      rfl
    refine Eq.trans ?_ (hy.trans ?_)
    · show outAt m c t.val _ = outAt m c t.val _
      refine congrArg (outAt m c t.val) (funext fun a => ?_)
      match a with
      | ⟨0, _⟩ => exact Fin.ext hr.symm
      | ⟨1, _⟩ => exact Fin.ext hk.symm
    · refine congrArg (result m c) (funext fun a => ?_)
      match a with
      | ⟨0, _⟩ => exact Fin.ext (by
          show (row (t.val / 11) r).val = win0_6.index t 0 * 1024 + 1 * (y 0).val
          rw [hi, row_val]; show 1024 * (t.val / 11) + r.val = t.val / 11 * 1024 + 1 * (y 0).val; omega)
      | ⟨1, _⟩ => exact Fin.ext (by
          show k.val = win0_6.index t 1 * 2048 + 1 * (y 1).val
          rw [hi]; show k.val = 0 * 2048 + 1 * (y 1).val; omega)
  · have l0 : (i 0).val < 32768 := (i 0).isLt
    have l1 : (i 1).val < 2048 := (i 1).isLt
    obtain ⟨t, ht⟩ : ∃ t : Fin cfg0.N, t.val = 11 * ((i 0).val / 1024) + 10 :=
      ⟨⟨11 * ((i 0).val / 1024) + 10, lt_of_lt_of_eq (by omega) (show 352 = cfg0.N from N_0.symm)⟩, rfl⟩
    refine ⟨t, (flush0_6 t).mpr (by omega), ?_⟩
    have hi := index6 t
    show i ∈ ((View.whole main_v0).slice (win0_6.rect t)).set
    rw [View.set_slice_whole, Rect.mem_set_unit]
    intro a
    match a with
    | ⟨0, _⟩ =>
      show win0_6.index t 0 * 1024 ≤ (i 0).val ∧ (i 0).val < win0_6.index t 0 * 1024 + 1024
      rw [hi]; show t.val / 11 * 1024 ≤ (i 0).val ∧ (i 0).val < t.val / 11 * 1024 + 1024; omega
    | ⟨1, _⟩ =>
      show win0_6.index t 1 * 2048 ≤ (i 1).val ∧ (i 1).val < win0_6.index t 1 * 2048 + 2048
      rw [hi]; show 0 * 2048 ≤ (i 1).val ∧ (i 1).val < 0 * 2048 + 2048; omega

theorem run_main : θ_run defs (onTc (τ := τ) (main (F := Ideal))) (s₀ m ρ) (Pipeline.FramePost cfgs (dats m) 0 (V m)) :=
  (θ_run defs _ _).mono (fun _ h => h.1) (run_main_quiescent m ρ)

theorem unchanged : θ_run defs (onTc (τ := τ) (main (F := Ideal))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (A_eq m) (run_main m ρ)

/-- The frame: the call ends, its arguments as they were and every semaphore at zero. -/
theorem frame : θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (unchanged m ρ) ((θ_run defs _ _).mono (fun _ h => h.2) (run_main_quiescent m ρ))

/-- The result array, and the arguments as they were. -/
theorem run_value : θ_run defs (onTc (τ := τ) (main (F := Ideal))) ⟨m, fun _ => 0, ρ⟩ (fun r => ∀ c : Dev nD,
      r.2.mem ((c.tc : Thread nD τ).loc main_v0) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨((h.2 c).1 6).trans (final_eq m c), h.1 c⟩) (θ_run_and (unchanged m ρ) (run_main m ρ))

end Cert.FfnIdeal.Run

end
-- ==== Proof.FfnValue.Ref.lean ====
/-
  The reference's result, element by element: the feed-forward of `Spec.lean`.
-/
module

public import proofs.«01_k».proof.Proof.Gen.FfnRefIdeal.Read
public import proofs.«01_k».proof.Proof.FfnValue.Spec
public import Idealize.ShloMosaic.Lib.KernelVsHost

@[expose] public section

noncomputable section

namespace Cert.FfnRefIdeal.Rows

open Cert.FfnRefIdeal Cert.FfnRefIdeal.Gen Cert.FfnRefIdeal.Read Idealize.ShloMosaic Idealize.ShloMosaic.TcCoe ValueIdx Cert.FfnSpec

variable (x : (⟨S32768x2048, .f32⟩ : BufTy).Contents (Elt Ideal)) (g : (⟨S1x2048, .f32⟩ : BufTy).Contents (Elt Ideal))
  (wg wu : (⟨S2048x5504, .bf16⟩ : BufTy).Contents (Elt Ideal)) (wd : (⟨S5504x2048, .bf16⟩ : BufTy).Contents (Elt Ideal))

theorem ext2 {n0 n1 : Nat} {i j : (⟨2, ![n0, n1]⟩ : Shape).Idx} (h0 : (i 0).val = (j 0).val) (h1 : (i 1).val = (j 1).val) : i = j :=
  funext fun a => match a with
    | ⟨0, _⟩ => Fin.ext h0
    | ⟨1, _⟩ => Fin.ext h1

theorem one_word : Ideal.ofBits .f32 0x3F800000#32 = (1 : EReal) := by
  simp [Ideal.ofBits, Ideal.ieee]
  rw [← EReal.coe_mul]
  norm_num

theorem squares_apply (i : S32768.Idx) :
    val_main_v5 (F := Ideal) x i = ∑ c : Fin 2048, x (ix2 (i 0) c) * x (ix2 (i 0) c) := by
  rw [val_main_v5_apply, val_main_cst_apply]
  refine (congrArg (· + _) (show (FloatOps.ofBits (F := Ideal) .f32 0x00000000#32 : EReal) = 0 from Ideal.ofBits_zero_f32)).trans ((zero_add _).trans ?_)
  refine Finset.sum_congr rfl fun c _ => ?_
  have e : idx_main_v5 i c = ix2 (i 0) c := ext2 rfl rfl
  rw [val_main_v4_apply, e]
  rfl

theorem scale_apply (i : S32768x1.Idx) :
    val_main_v11 (F := Ideal) x i = rowScale (fun c => x (ix2 (i 0) c)) := by
  rw [val_main_v11_apply, val_main_v10_apply, val_main_v8_apply, val_main_v6_apply, squares_apply, val_main_v7_apply,
    val_main_cst_0_apply, val_main_v9_apply, val_main_cst_1_apply]
  rfl

theorem norm_apply (i : S32768x2048.Idx) :
    val_main_v16 (F := Ideal) x g i = normRow (fun c => x (ix2 (i 0) c)) (fun c => g (ix2 0 c)) (i 1) := by
  have l1 : (i 1).val < 2048 := (i 1).isLt
  have eg : idx_main_v3 (idx_main_v14 (idx_main_v15 i)) = ix2 (n0 := 1) (n1 := 2048) 0 (i 1) :=
    ext2 rfl (Nat.mod_eq_of_lt l1)
  have ex : i = ix2 (n0 := 32768) (n1 := 2048) (i 0) (i 1) := ext2 rfl rfl
  rw [val_main_v16_apply, val_main_v13_apply, val_main_v12_apply, scale_apply, val_main_v15_apply, val_main_v14_apply,
    val_main_v3_apply, eg]
  show x i * rowScale (fun c => x (ix2 (i 0) c)) * g (ix2 (n0 := 1) (n1 := 2048) 0 (i 1)) = _
  unfold normRow
  exact congrArg (fun j => x j * rowScale (fun c => x (ix2 (i 0) c)) * g (ix2 (n0 := 1) (n1 := 2048) 0 (i 1))) ex

/-- The normed row against a column of the first weight. -/
theorem gate_apply (i : S32768x5504.Idx) :
    val_main_v17 (F := Ideal) x g wg i
      = ∑ l : Fin 2048, normRow (fun c => x (ix2 (i 0) c)) (fun c => g (ix2 0 c)) l * wg (ix2 l (i 1)) := by
  rw [val_main_v17_apply]
  refine Finset.sum_congr rfl fun l _ => ?_
  have e : ridx_main_v17 i l = ix2 (n0 := 2048) (n1 := 5504) l (i 1) := ext2 rfl rfl
  rw [norm_apply, val_main_v0_apply, e]
  rfl

/-- The normed row against a column of the second. -/
theorem up_apply (i : S32768x5504.Idx) :
    val_main_v19 (F := Ideal) x g wu i
      = ∑ l : Fin 2048, normRow (fun c => x (ix2 (i 0) c)) (fun c => g (ix2 0 c)) l * wu (ix2 l (i 1)) := by
  rw [val_main_v19_apply]
  refine Finset.sum_congr rfl fun l _ => ?_
  have e : ridx_main_v19 i l = ix2 (n0 := 2048) (n1 := 5504) l (i 1) := ext2 rfl rfl
  rw [norm_apply, val_main_v1_apply, e]
  rfl

theorem sigmoid_apply (i : S32768x5504.Idx) :
    val_main_call0_v5 (F := Ideal) x g wg i = Ideal.logistic (val_main_v17 (F := Ideal) x g wg i) := by
  rw [val_main_call0_v5_apply, val_main_call0_v3_apply, val_main_call0_v1_apply, val_main_call0_v0_apply, val_main_call0_v4_apply,
    val_main_call0_v2_apply, val_main_call0_cst_apply, val_main_call0_cst_0_apply]
  generalize val_main_v17 (F := Ideal) x g wg i = u
  show Ideal.div (Ideal.ofBits .f32 0x3F800000#32) (Ideal.ofBits .f32 0x3F800000#32 + Ideal.exp (-u)) = _
  rw [one_word]
  rfl

theorem gated_apply (i : S32768x5504.Idx) :
    val_main_v20 (F := Ideal) x g wg wu i
      = gated (normRow (fun c => x (ix2 (i 0) c)) (fun c => g (ix2 0 c))) (fun l => wg (ix2 l (i 1))) (fun l => wu (ix2 l (i 1))) := by
  rw [val_main_v20_apply, val_main_v18_apply, sigmoid_apply, gate_apply, up_apply]
  rfl

theorem half_apply (i : S32768x2048.Idx) : val_main_v22 (F := Ideal) i = Ideal.ofBits .f32 0x3F000000#32 := by
  rw [val_main_v22_apply, val_main_cst_2_apply]
  rfl

theorem result_eq : val_main_v24 (F := Ideal) x g wg wu wd = fun i => value x g wg wu wd (i 0) (i 1) := by
  funext i
  have ex : i = ix2 (n0 := 32768) (n1 := 2048) (i 0) (i 1) := ext2 rfl rfl
  have es : val_main_v21 (F := Ideal) x g wg wu wd i = upTo x g wg wu wd (i 0) (i 1) 5632 := by
    refine (val_main_v21_apply x g wg wu wd i).trans (Eq.trans ?_ (upTo_all x g wg wu wd (i 0) (i 1)).symm)
    refine Finset.sum_congr rfl fun n _ => ?_
    have e : ridx_main_v21 i n = ix2 (n0 := 5504) (n1 := 2048) n (i 1) := ext2 rfl rfl
    rw [gated_apply, val_main_v2_apply, e]
    rfl
  rw [val_main_v24_apply, val_main_v23_apply, half_apply, es]
  show x i + Ideal.ofBits .f32 0x3F000000#32 * upTo x g wg wu wd (i 0) (i 1) 5632 = _
  unfold value
  exact congrArg (fun j => x j + Ideal.ofBits .f32 0x3F000000#32 * upTo x g wg wu wd (i 0) (i 1) 5632) ex

end Cert.FfnRefIdeal.Rows

end
-- ==== Proof.FfnOut.Frame.lean ====
/-
  The frame of the feed-forward call that ends in the final norm, on the hardware: it ends, its arguments unchanged, every semaphore back at zero.
  The blocks of the three weights overhang their arrays at the last point of each row, so what the body finds past the
  arrays' ends is unknown: the run forgets those blocks, and the output's, and keeps only that the inputs are not written.
-/
module

public import proofs.«01_k».proof.Proof.Gen.FfnOut.Frame
public import proofs.«01_k».proof.Proof.Gen.FfnOut.Skeleton
public import proofs.«01_k».proof.Proof.Gen.FfnOut.Launch

@[expose] public section

set_option maxRecDepth 16384

noncomputable section

namespace Cert.FfnOut.Run

open Cert.FfnOut Cert.FfnOut.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Which of the body's three branches a point takes -/

/-- The first column block of a row of blocks: the norm is taken and the output started. -/
abbrev starts (i : grid0.Coords) : Prop := k0_cond1 i = 1#1
/-- A column block in between: the output is added to. -/
abbrev adds (i : grid0.Coords) : Prop := k0_cond2 i = 1#1
/-- The last column block: the rest is added and the residual taken. -/
abbrev ends (i : grid0.Coords) : Prop := k0_cond3 i = 1#1

/-- Every point takes exactly one branch. -/
theorem one_branch : ∀ t : Fin cfg0.N,
    (starts (grid0.coords t) ∧ ¬adds (grid0.coords t) ∧ ¬ends (grid0.coords t))
    ∨ (¬starts (grid0.coords t) ∧ adds (grid0.coords t) ∧ ¬ends (grid0.coords t))
    ∨ (¬starts (grid0.coords t) ∧ ¬adds (grid0.coords t) ∧ ends (grid0.coords t)) :=
  (by decide +kernel : ∀ t : Fin grid0.N,
    (starts (grid0.coords t) ∧ ¬adds (grid0.coords t) ∧ ¬ends (grid0.coords t))
    ∨ (¬starts (grid0.coords t) ∧ adds (grid0.coords t) ∧ ¬ends (grid0.coords t))
    ∨ (¬starts (grid0.coords t) ∧ ¬adds (grid0.coords t) ∧ ends (grid0.coords t)))

/-! ## The body on any staging buffers -/

abbrev st0 (t : Fin cfg0.N) : Memref sig .tc .vmem S1024x2048 .f32 := win0_0.stage (cfg0.slots t 0)
abbrev st1 (t : Fin cfg0.N) : Memref sig .tc .vmem S1x2048 .f32 := win0_1.stage (cfg0.slots t 1)
abbrev st2 (t : Fin cfg0.N) : Memref sig .tc .vmem S2048x512 .bf16 := win0_2.stage (cfg0.slots t 2)
abbrev st3 (t : Fin cfg0.N) : Memref sig .tc .vmem S2048x512 .bf16 := win0_3.stage (cfg0.slots t 3)
abbrev st4 (t : Fin cfg0.N) : Memref sig .tc .vmem S512x2048 .bf16 := win0_4.stage (cfg0.slots t 4)
abbrev st5 (t : Fin cfg0.N) : Memref sig .tc .vmem S1x2048 .f32 := win0_5.stage (cfg0.slots t 5)
abbrev st6 (t : Fin cfg0.N) : Memref sig .tc .vmem S1024x2048 .f32 := win0_6.stage (cfg0.slots t 6)
/-- The scratch of normed rows. -/
abbrev rows : Memref sig .tc .vmem S1024x2048 .bf16 := Memref.whole cc0_scratch0

/-- Between points: the scratch at something, and the generator register. -/
theorem between_eq (c : Dev nD) :
    (Pipeline.ΦA spec0 c : sProp 𝕄)
      = iprop(iprop((∃ d, owns (c : Thread nD τ) rows fullShare d)) ∗ (∃ r, prngReg c r)) := by
  unfold Pipeline.ΦA; rw [scopedRest0_eq]; simp only [rows, owns_whole]; try rfl

set_option maxHeartbeats 4000000 in
/-- Whichever branch it takes, the body ends with its inputs as they were and something in the output and the scratch. -/
theorem body_runs (c : Dev nD) (i : grid0.Coords) (arg2 : Memref sig .tc .vmem S1024x2048 .f32) (harg2 : arg2.IsWhole)
    (arg3 : Memref sig .tc .vmem S1x2048 .f32) (harg3 : arg3.IsWhole) (arg4 : Memref sig .tc .vmem S2048x512 .bf16) (harg4 : arg4.IsWhole)
    (arg5 : Memref sig .tc .vmem S2048x512 .bf16) (harg5 : arg5.IsWhole) (arg6 : Memref sig .tc .vmem S512x2048 .bf16) (harg6 : arg6.IsWhole)
    (arg7 : Memref sig .tc .vmem S1x2048 .f32) (harg7 : arg7.IsWhole) (arg8 : Memref sig .tc .vmem S1024x2048 .f32) (harg8 : arg8.IsWhole)
    (arg9 : Memref sig .tc .vmem S1024x2048 .bf16) (harg9 : arg9.IsWhole)
    (hc : (starts i ∧ ¬adds i ∧ ¬ends i) ∨ (¬starts i ∧ adds i ∧ ¬ends i) ∨ (¬starts i ∧ ¬adds i ∧ ends i))
    (x0 : Vec F S1024x2048 .f32) (x1 : Vec F S1x2048 .f32) (x2 x3 : Vec F S2048x512 .bf16) (x4 : Vec F S512x2048 .bf16) (x5 : Vec F S1x2048 .f32) :
      ∀ (E : Set ℕ) (K : PUnit → sProp 𝕄),
        iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4 ∗ owns (c : Thread nD τ) arg7 fullShare x5
            ∗ (∃ d, owns (c : Thread nD τ) arg8 fullShare d) ∗ (∃ d, owns (c : Thread nD τ) arg9 fullShare d)
            ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4 ∗ owns (c : Thread nD τ) arg7 fullShare x5
            ∗ (∃ d, owns (c : Thread nD τ) arg8 fullShare d) ∗ (∃ d, owns (c : Thread nD τ) arg9 fullShare d)) -∗ K ⟨⟩))
          ⊢ wp frame (wpE (defs₀ (F := F)) Variants.none c none) E (cc0_ffn i arg2 harg2 arg3 harg3 arg4 harg4 arg5 harg5 arg6 harg6 arg7 harg7 arg8 harg8 arg9 harg9) K := by
  intro E K
  simp only [cc0_ffn_eq_skeleton]; unfold cc0_ffn_skel
  simp only [k0_part1_eq_skeleton, k0_part2_eq_skeleton, k0_part3_eq_skeleton, k0_part4_eq_skeleton, k0_part5_eq_skeleton, k0_part6_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%ds0, %fs0, -, HS0⟩, Hk⟩
  obtain rfl := harg2.eq_unread hf0; obtain rfl := harg3.eq_unread hf1; obtain rfl := harg4.eq_unread hf2
  obtain rfl := harg5.eq_unread hf3; obtain rfl := harg6.eq_unread hf4; obtain rfl := harg7.eq_unread hf5
  rcases hc with ⟨hc0, hc1, hc2⟩ | ⟨hc0, hc1, hc2⟩ | ⟨hc0, hc1, hc2⟩
  all_goals
    sl_exec (disch := first | sl_exact hc0 | sl_exact hc1 | sl_exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _, _; isplitr; swap; · iexact H6
      ipureintro; rfl
    iexists _, _; isplitr; swap; · iexact HS0
    ipureintro; rfl

/-! ## The run's data -/

/-- The windows nothing is said of: the clipped weights' and the output's. -/
def forgotten : Fin 7 → Bool := fun w => w.val == 2 || w.val == 3 || w.val == 4 || w.val == 6

/-- The run's data: the arrays as launched; the unclipped inputs' buffers at their blocks. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, h⟩ => Pipeline.Dat.unnamed (cfg := cfg0) ⟨2, h⟩ t
    | ⟨3, h⟩ => Pipeline.Dat.unnamed (cfg := cfg0) ⟨3, h⟩ t
    | ⟨4, h⟩ => Pipeline.Dat.unnamed (cfg := cfg0) ⟨4, h⟩ t
    | ⟨5, _⟩ => iblk m c 5 t
    | ⟨6, h⟩ => Pipeline.Dat.unnamed (cfg := cfg0) ⟨6, h⟩ t
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_5 (c : Dev nD) (t : Fin cfg0.N) : (dats m 0 c).after 5 t = iblk m c 5 t := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_5 (c : Dev nD) (t : Fin cfg0.N) (d) : (dats m 0 c).before 5 t d = iblk m c 5 t :=
  before0_5_of m (dats m 0 c) (A_eq m c 5) (after_5 m c) t d

/-- What the body is called with at a point, -/
def bodyPre (c : Dev nD) (t : Fin cfg0.N) : sProp 𝕄 :=
  iprop((dats m 0 c).Φ t.castSucc ∗ (dats m 0 c).owesAt () t.castSucc
    ∗ (∃ d, owns (c : Thread nD τ) (st0 t) fullShare ((dats m 0 c).before 0 t d))
    ∗ (∃ d, owns (c : Thread nD τ) (st1 t) fullShare ((dats m 0 c).before 1 t d))
    ∗ (∃ d, owns (c : Thread nD τ) (st2 t) fullShare d)
    ∗ (∃ d, owns (c : Thread nD τ) (st3 t) fullShare d)
    ∗ (∃ d, owns (c : Thread nD τ) (st4 t) fullShare d)
    ∗ (∃ d, owns (c : Thread nD τ) (st5 t) fullShare ((dats m 0 c).before 5 t d))
    ∗ (∃ d, owns (c : Thread nD τ) (st6 t) fullShare d))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (∃ d, owns (c : Thread nD τ) (st2 t) fullShare d)
    ∗ (∃ d, owns (c : Thread nD τ) (st3 t) fullShare d)
    ∗ (∃ d, owns (c : Thread nD τ) (st4 t) fullShare d)
    ∗ (dats m 0 c).leavesExact 5 t
    ∗ (∃ d, owns (c : Thread nD τ) (st6 t) fullShare d))

set_option maxHeartbeats 1600000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_5]
  rw [show (dats m 0 c).Φ t.succ = (dats m 0 c).Φ t.castSucc from rfl,
    show (dats m 0 c).owesAt () t.succ = (dats m 0 c).owesAt () t.castSucc from rfl]
  rw [show (dats m 0 c).Φ t.castSucc = Pipeline.ΦA spec0 c from rfl, between_eq]
  rw [show (dats m 0 c).leavesExact 0 t = owns (c : Thread nD τ) (st0 t) fullShare ((dats m 0 c).after 0 t) from rfl, after_0]
  rw [show (dats m 0 c).leavesExact 1 t = owns (c : Thread nD τ) (st1 t) fullShare ((dats m 0 c).after 1 t) from rfl, after_1]
  rw [show (dats m 0 c).leavesExact 5 t = owns (c : Thread nD τ) (st5 t) fullShare ((dats m 0 c).after 5 t) from rfl, after_5]
  iintro ⟨⟨HS0, Hg⟩, Ho, ⟨%d0, H0⟩, ⟨%d1, H1⟩, ⟨%d2, H2⟩, ⟨%d3, H3⟩, ⟨%d4, H4⟩, ⟨%d5, H5⟩, ⟨%d6, H6⟩⟩
  iapply ((body_runs c (grid0.coords t) _ _ _ _ _ _ _ _ _ _ _ _ _ _ _ _ (one_branch t) (iblk m c 0 t) (iblk m c 1 t) d2 d3 d4 (iblk m c 5 t)) Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [HS0]; · iexact HS0
  iintro ⟨H0, H1, H2, H3, H4, H5, H6, HS0⟩
  isplitl [HS0 Hg]
  · isplitl [HS0]
    · iexact HS0
    iexact Hg
  isplitl [Ho]; · iexact Ho
  isplitl [H0]; · iexact H0
  isplitl [H1]; · iexact H1
  isplitl [H2]; · iexists _; iexact H2
  isplitl [H3]; · iexists _; iexact H3
  isplitl [H4]; · iexists _; iexact H4
  isplitl [H5]; · iexact H5
  iexact H6

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ forgotten := fun t => by
  rw [bigSep_W0, bigSep_W0, defs₀_row]
  exact triple_restated (sound_body m c t) rfl .rfl fun _ => .rfl

/-! ## The run and the frame -/

set_option backward.isDefEq.respectTransparency.types false in
theorem run_main_quiescent : θ_run defs (onTc (τ := τ) (main (F := F))) (s₀ m ρ) (fun r => (Pipeline.RDat.FramePost (cfgs 0) (fun c => (dats m 0 c).toRForget forgotten) (V m)) r ∧ r.2.sem = fun _ => 0) :=
  Pipeline.θ_run_frame_forget (Q' := _) cfgs (dats m) (0 : Fin 1) launch0 defs₀ Variants.none forgotten m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: the call ends, its arguments as they were and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun _ h => ⟨fun c =>
      ⟨(Pipeline.RDat.FramePost.arr_in h.1 c 0 rfl).trans ((A_eq m c 0).trans (V_main_arg0 m c)),
      (Pipeline.RDat.FramePost.arr_in h.1 c 1 rfl).trans ((A_eq m c 1).trans (V_main_arg1 m c)),
      (Pipeline.RDat.FramePost.arr_in h.1 c 2 rfl).trans ((A_eq m c 2).trans (V_main_arg2 m c)),
      (Pipeline.RDat.FramePost.arr_in h.1 c 3 rfl).trans ((A_eq m c 3).trans (V_main_arg3 m c)),
      (Pipeline.RDat.FramePost.arr_in h.1 c 4 rfl).trans ((A_eq m c 4).trans (V_main_arg4 m c)),
      (Pipeline.RDat.FramePost.arr_in h.1 c 5 rfl).trans ((A_eq m c 5).trans (V_main_arg5 m c))⟩, h.2⟩)
    (run_main_quiescent m ρ)

end Cert.FfnOut.Run

end
-- ==== Proof.FfnOutValue.Runs.lean ====
/-
  What the body of the feed-forward that ends in the final norm leaves in its output block and its scratch of normed
  rows, branch by branch. The halves it works in are those of `FfnValue`.
-/
module

public import proofs.«01_k».proof.Proof.Gen.FfnOutIdeal.Frame
public import proofs.«01_k».proof.Proof.Gen.FfnOutIdeal.Skeleton
public import proofs.«01_k».proof.Proof.Gen.FfnOutIdeal.Launch
public import proofs.«01_k».proof.Proof.FfnValue.Block
public import Idealize.ShloMosaic.Lib.Tactic
public import Idealize.ShloMosaic.Lib.ValueIdx

@[expose] public section

set_option maxRecDepth 16384

noncomputable section

namespace Cert.FfnOutIdeal.Body

open Cert.FfnOutIdeal Cert.FfnOutIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.FfnIdeal.Body (rTop rBot rLeft rRight rUp rDown rRow stack read_two read_four colNo)
open ValueIdx

variable {F : FTy → Type} [FloatOps F]

local notation "𝕄" => MT nD τ sig Unit (Elt F) ℕ (UR sig nD τ) ℕ

/-- The first column block of a row of blocks: the norm is taken and the output started. -/
abbrev starts (i : grid0.Coords) : Prop := k0_cond1 i = 1#1
/-- A column block in between: the output is added to. -/
abbrev adds (i : grid0.Coords) : Prop := k0_cond2 i = 1#1
/-- The last column block: the rest is added and the residual taken. -/
abbrev ends (i : grid0.Coords) : Prop := k0_cond3 i = 1#1

/-! ## The three branches -/

/-- The normed rows the first column block leaves in the scratch. -/
def normed (x : Vec F S1024x2048 .f32) (g : Vec F S1x2048 .f32) : Vec F S1024x2048 .bf16 :=
  stack (k0_pay7 (View.ld x rTop) (View.ld g rRow)) (k0_pay14 (View.ld x rBot) (View.ld g rRow))

/-- The output the first column block leaves. -/
def started (x : Vec F S1024x2048 .f32) (g : Vec F S1x2048 .f32) (wg wu : Vec F S2048x512 .bf16) (wd : Vec F S512x2048 .bf16) :
    Vec F S1024x2048 .f32 :=
  stack
    (k0_pay12 (View.ld wd rDown) (k0_pay9 (View.ld x rTop) (View.ld g rRow) (View.ld wg rRight)) (k0_pay10 (View.ld x rTop) (View.ld g rRow) (View.ld wu rRight))
      (k0_pay11 (View.ld wd rUp) (k0_pay8 (View.ld x rTop) (View.ld g rRow) (View.ld wg rLeft) (View.ld wu rLeft))))
    (k0_pay2 (View.ld wd rDown) (k0_pay13 (View.ld x rBot) (View.ld g rRow)) (View.ld wg rRight) (View.ld wu rRight)
      (k0_pay1 (View.ld wd rUp) (k0_pay15 (View.ld x rBot) (View.ld g rRow) (View.ld wg rLeft) (View.ld wu rLeft))))

/-- The output a column block in between leaves, of the one it finds. -/
def added (h : Vec F S1024x2048 .bf16) (wg wu : Vec F S2048x512 .bf16) (wd : Vec F S512x2048 .bf16) (o : Vec F S1024x2048 .f32) :
    Vec F S1024x2048 .f32 :=
  stack
    (k0_pay17 (View.ld wd rDown) (View.ld h rTop) (View.ld wg rRight) (View.ld wu rRight)
      (k0_pay16 (View.ld wd rUp) (View.ld h rTop) (View.ld wg rLeft) (View.ld wu rLeft) (View.ld o rTop)))
    (k0_pay4 (View.ld wd rDown) (View.ld h rBot) (View.ld wg rRight) (View.ld wu rRight)
      (k0_pay3 (View.ld wd rUp) (View.ld h rBot) (View.ld wg rLeft) (View.ld wu rLeft) (View.ld o rBot)))

/-- The output the last column block leaves: the halves of the feed-forward's result, each normed by the last argument. -/
def ended (x : Vec F S1024x2048 .f32) (h : Vec F S1024x2048 .bf16) (wg wu : Vec F S2048x512 .bf16) (wd : Vec F S512x2048 .bf16)
    (o : Vec F S1024x2048 .f32) (fg : Vec F S1x2048 .f32) : Vec F S1024x2048 .f32 :=
  stack
    (k0_pay22 colNo (k0_pay18 (View.ld wd rUp)) (k0_pay19 (View.ld wd rDown)) (View.ld h rTop)
      (k0_pay20 (View.ld h rTop) (View.ld wg rLeft) (View.ld wu rLeft)) (k0_pay21 (View.ld h rTop) (View.ld wg rRight))
      (View.ld wu rRight) (constant S512x256 .f32 0x00000000#32) (View.ld x rTop) (View.ld o rTop) (View.ld fg rRow))
    (k0_pay5
      (k0_pay24 colNo (k0_pay18 (View.ld wd rUp)) (k0_pay19 (View.ld wd rDown)) (View.ld h rBot)
        (k0_pay23 (View.ld h rBot) (View.ld wg rLeft)) (View.ld wu rLeft) (View.ld wg rRight) (View.ld wu rRight)
        (View.ld x rBot) (View.ld o rBot))
      (View.ld fg rRow)
      (k0_pay25 colNo (k0_pay18 (View.ld wd rUp)) (k0_pay19 (View.ld wd rDown)) (View.ld h rBot)
        (k0_pay23 (View.ld h rBot) (View.ld wg rLeft)) (View.ld wu rLeft) (View.ld wg rRight) (View.ld wu rRight)
        (View.ld x rBot) (View.ld o rBot)))

set_option maxHeartbeats 4000000 in
/-- The first column block's run. -/
theorem run_starts (c : Dev nD) (i : grid0.Coords) (arg2 : Memref sig .tc .vmem S1024x2048 .f32) (harg2 : arg2.IsWhole)
    (arg3 : Memref sig .tc .vmem S1x2048 .f32) (harg3 : arg3.IsWhole) (arg4 : Memref sig .tc .vmem S2048x512 .bf16) (harg4 : arg4.IsWhole)
    (arg5 : Memref sig .tc .vmem S2048x512 .bf16) (harg5 : arg5.IsWhole) (arg6 : Memref sig .tc .vmem S512x2048 .bf16) (harg6 : arg6.IsWhole)
    (arg7 : Memref sig .tc .vmem S1x2048 .f32) (harg7 : arg7.IsWhole) (arg8 : Memref sig .tc .vmem S1024x2048 .f32) (harg8 : arg8.IsWhole)
    (arg9 : Memref sig .tc .vmem S1024x2048 .bf16) (harg9 : arg9.IsWhole) (hc0 : starts i) (hc1 : ¬adds i) (hc2 : ¬ends i)
    (x0 : Vec F S1024x2048 .f32) (x1 : Vec F S1x2048 .f32) (x2 x3 : Vec F S2048x512 .bf16) (x4 : Vec F S512x2048 .bf16) (x5 : Vec F S1x2048 .f32) :
      ∀ (E : Set ℕ) (K : PUnit → sProp 𝕄),
        iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4 ∗ owns (c : Thread nD τ) arg7 fullShare x5
            ∗ (∃ d, owns (c : Thread nD τ) arg8 fullShare d) ∗ (∃ d, owns (c : Thread nD τ) arg9 fullShare d)
            ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4 ∗ owns (c : Thread nD τ) arg7 fullShare x5
            ∗ owns (c : Thread nD τ) arg8 fullShare (started x0 x1 x2 x3 x4) ∗ owns (c : Thread nD τ) arg9 fullShare (normed x0 x1)) -∗ K ⟨⟩))
          ⊢ wp frame (wpE (defs₀ (F := F)) Variants.none c none) E (cc0_ffn i arg2 harg2 arg3 harg3 arg4 harg4 arg5 harg5 arg6 harg6 arg7 harg7 arg8 harg8 arg9 harg9) K := by
  intro E K
  simp only [cc0_ffn_eq_skeleton]; unfold cc0_ffn_skel
  simp only [k0_part1_eq_skeleton, k0_part2_eq_skeleton, k0_part3_eq_skeleton, k0_part4_eq_skeleton, k0_part5_eq_skeleton, k0_part6_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%ds0, %fs0, -, HS0⟩, Hk⟩
  obtain rfl := harg2.eq_unread hf0; obtain rfl := harg3.eq_unread hf1; obtain rfl := harg4.eq_unread hf2
  obtain rfl := harg5.eq_unread hf3; obtain rfl := harg6.eq_unread hf4; obtain rfl := harg7.eq_unread hf5
  sl_exec (disch := first | sl_exact hc0 | sl_exact hc1 | sl_exact hc2)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; swap; · iexact H6
    ipureintro
    sl_unfold_words
    simp only [View.readCov_cons_toLoadRect, View.readAt_eq_ld, harg2.read_unread, harg3.read_unread, harg4.read_unread, harg5.read_unread, harg6.read_unread]
    exact read_four arg8.view f6 _ _ _ _
  iexists _; isplitr; swap; · iexact HS0
  ipureintro
  simp only [View.readAt_eq_ld, harg2.read_unread, harg3.read_unread]
  exact read_two arg9.view fs0 _ _

set_option maxHeartbeats 4000000 in
/-- A column block in between's run. -/
theorem run_adds (c : Dev nD) (i : grid0.Coords) (arg2 : Memref sig .tc .vmem S1024x2048 .f32) (harg2 : arg2.IsWhole)
    (arg3 : Memref sig .tc .vmem S1x2048 .f32) (harg3 : arg3.IsWhole) (arg4 : Memref sig .tc .vmem S2048x512 .bf16) (harg4 : arg4.IsWhole)
    (arg5 : Memref sig .tc .vmem S2048x512 .bf16) (harg5 : arg5.IsWhole) (arg6 : Memref sig .tc .vmem S512x2048 .bf16) (harg6 : arg6.IsWhole)
    (arg7 : Memref sig .tc .vmem S1x2048 .f32) (harg7 : arg7.IsWhole) (arg8 : Memref sig .tc .vmem S1024x2048 .f32) (harg8 : arg8.IsWhole)
    (arg9 : Memref sig .tc .vmem S1024x2048 .bf16) (harg9 : arg9.IsWhole) (hc0 : ¬starts i) (hc1 : adds i) (hc2 : ¬ends i)
    (x0 : Vec F S1024x2048 .f32) (x1 : Vec F S1x2048 .f32) (x2 x3 : Vec F S2048x512 .bf16) (x4 : Vec F S512x2048 .bf16) (x5 : Vec F S1x2048 .f32)
    (o : Vec F S1024x2048 .f32) (h : Vec F S1024x2048 .bf16) :
      ∀ (E : Set ℕ) (K : PUnit → sProp 𝕄),
        iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4 ∗ owns (c : Thread nD τ) arg7 fullShare x5
            ∗ owns (c : Thread nD τ) arg8 fullShare o ∗ owns (c : Thread nD τ) arg9 fullShare h
            ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4 ∗ owns (c : Thread nD τ) arg7 fullShare x5
            ∗ owns (c : Thread nD τ) arg8 fullShare (added h x2 x3 x4 o) ∗ owns (c : Thread nD τ) arg9 fullShare h) -∗ K ⟨⟩))
          ⊢ wp frame (wpE (defs₀ (F := F)) Variants.none c none) E (cc0_ffn i arg2 harg2 arg3 harg3 arg4 harg4 arg5 harg5 arg6 harg6 arg7 harg7 arg8 harg8 arg9 harg9) K := by
  intro E K
  simp only [cc0_ffn_eq_skeleton]; unfold cc0_ffn_skel
  simp only [k0_part1_eq_skeleton, k0_part2_eq_skeleton, k0_part3_eq_skeleton, k0_part4_eq_skeleton, k0_part5_eq_skeleton, k0_part6_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs0, %hfs0, HS0⟩, Hk⟩
  obtain rfl := harg2.eq_unread hf0; obtain rfl := harg3.eq_unread hf1; obtain rfl := harg4.eq_unread hf2
  obtain rfl := harg5.eq_unread hf3; obtain rfl := harg6.eq_unread hf4; obtain rfl := harg7.eq_unread hf5
  obtain rfl := harg8.eq_unread hf6; obtain rfl := harg9.eq_unread hfs0
  sl_exec (disch := first | sl_exact hc0 | sl_exact hc1 | sl_exact hc2)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; swap; · iexact H6
    ipureintro
    sl_unfold_words
    simp only [View.readCov_cons_toLoadRect, View.readAt_eq_ld, harg2.read_unread, harg3.read_unread, harg4.read_unread, harg5.read_unread,
      harg6.read_unread, harg8.read_unread, harg9.read_unread]
    exact read_four arg8.view _ _ _ _ _
  iexists _; isplitr; · ipureintro; exact harg9.read_unread _
  iexact HS0

set_option maxHeartbeats 4000000 in
/-- The last column block's run. -/
theorem run_ends (c : Dev nD) (i : grid0.Coords) (arg2 : Memref sig .tc .vmem S1024x2048 .f32) (harg2 : arg2.IsWhole)
    (arg3 : Memref sig .tc .vmem S1x2048 .f32) (harg3 : arg3.IsWhole) (arg4 : Memref sig .tc .vmem S2048x512 .bf16) (harg4 : arg4.IsWhole)
    (arg5 : Memref sig .tc .vmem S2048x512 .bf16) (harg5 : arg5.IsWhole) (arg6 : Memref sig .tc .vmem S512x2048 .bf16) (harg6 : arg6.IsWhole)
    (arg7 : Memref sig .tc .vmem S1x2048 .f32) (harg7 : arg7.IsWhole) (arg8 : Memref sig .tc .vmem S1024x2048 .f32) (harg8 : arg8.IsWhole)
    (arg9 : Memref sig .tc .vmem S1024x2048 .bf16) (harg9 : arg9.IsWhole) (hc0 : ¬starts i) (hc1 : ¬adds i) (hc2 : ends i)
    (x0 : Vec F S1024x2048 .f32) (x1 : Vec F S1x2048 .f32) (x2 x3 : Vec F S2048x512 .bf16) (x4 : Vec F S512x2048 .bf16) (x5 : Vec F S1x2048 .f32)
    (o : Vec F S1024x2048 .f32) (h : Vec F S1024x2048 .bf16) :
      ∀ (E : Set ℕ) (K : PUnit → sProp 𝕄),
        iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4 ∗ owns (c : Thread nD τ) arg7 fullShare x5
            ∗ owns (c : Thread nD τ) arg8 fullShare o ∗ owns (c : Thread nD τ) arg9 fullShare h
            ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4 ∗ owns (c : Thread nD τ) arg7 fullShare x5
            ∗ owns (c : Thread nD τ) arg8 fullShare (ended x0 h x2 x3 x4 o x5) ∗ owns (c : Thread nD τ) arg9 fullShare h) -∗ K ⟨⟩))
          ⊢ wp frame (wpE (defs₀ (F := F)) Variants.none c none) E (cc0_ffn i arg2 harg2 arg3 harg3 arg4 harg4 arg5 harg5 arg6 harg6 arg7 harg7 arg8 harg8 arg9 harg9) K := by
  intro E K
  simp only [cc0_ffn_eq_skeleton]; unfold cc0_ffn_skel
  simp only [k0_part1_eq_skeleton, k0_part2_eq_skeleton, k0_part3_eq_skeleton, k0_part4_eq_skeleton, k0_part5_eq_skeleton, k0_part6_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs0, %hfs0, HS0⟩, Hk⟩
  obtain rfl := harg2.eq_unread hf0; obtain rfl := harg3.eq_unread hf1; obtain rfl := harg4.eq_unread hf2
  obtain rfl := harg5.eq_unread hf3; obtain rfl := harg6.eq_unread hf4; obtain rfl := harg7.eq_unread hf5
  obtain rfl := harg8.eq_unread hf6; obtain rfl := harg9.eq_unread hfs0
  sl_exec (disch := first | sl_exact hc0 | sl_exact hc1 | sl_exact hc2)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; swap; · iexact H6
    ipureintro
    sl_unfold_words
    simp only [View.readCov_cons_toLoadRect, View.readAt_eq_ld, harg2.read_unread, harg3.read_unread, harg4.read_unread, harg5.read_unread,
      harg6.read_unread, harg7.read_unread, harg8.read_unread, harg9.read_unread]
    exact read_two arg8.view _ _ _
  iexists _; isplitr; · ipureintro; exact harg9.read_unread _
  iexact HS0

end Cert.FfnOutIdeal.Body

end
-- ==== Proof.FfnOutValue.Block.lean ====
/-
  The branches of the feed-forward that ends in the final norm: the first two leave what those of `FfnValue` do, the last
  leaves the norm of what the last of `FfnValue` does.
-/
module

public import proofs.«01_k».proof.Proof.FfnOutValue.Runs

@[expose] public section

set_option maxRecDepth 16384

noncomputable section

namespace Cert.FfnOutIdeal.Body

open Cert.FfnOutIdeal Cert.FfnOutIdeal.Gen Idealize.ShloMosaic Idealize.ShloMosaic.TcCoe Idealize.SL.Sem ValueIdx Cert.FfnSpec
open Cert.FfnIdeal.Body (rTop rBot rLeft rRight rUp rDown rRow stack colNo halves stack_at_top stack_at_bot ld_row)

variable (x : Vec Ideal S1024x2048 .f32) (g : Vec Ideal S1x2048 .f32) (h : Vec Ideal S1024x2048 .bf16) (wg wu : Vec Ideal S2048x512 .bf16)
  (wd : Vec Ideal S512x2048 .bf16) (o : Vec Ideal S1024x2048 .f32) (fg : Vec Ideal S1x2048 .f32)

theorem normed_eq : normed x g = FfnIdeal.Body.normed x g := rfl

theorem started_eq : started x g wg wu wd = FfnIdeal.Body.started x g wg wu wd := rfl

theorem added_eq : added h wg wu wd o = FfnIdeal.Body.added h wg wu wd o := rfl

/-! ## The final norm of a half -/

/-- The norm the body takes of a half's result. -/
def out (y : FVec Ideal S512x2048 .f32) (g : FVec Ideal S1x2048 .f32) : FVec Ideal S512x2048 .f32 :=
  k0_pay5 (F := Ideal) y g (multiReduction .add [1] S512 (mulf y y) 0x00000000#32 reduces_S512x2048_S512 (.inl rfl) rfl)

theorem out_eq (y : FVec Ideal S512x2048 .f32) (g : FVec Ideal S1x2048 .f32) : out y g = FfnIdeal.Gen.k0_pay6 (F := Ideal) y g := rfl

theorem out_apply (y : FVec Ideal S512x2048 .f32) (g : FVec Ideal S1x2048 .f32) (r : Fin 512) (k : Fin 2048) :
    out y g (ix2 r k) = normRow (fun c => y (ix2 r c)) (fun c => g (ix2 0 c)) k :=
  (congrFun (out_eq y g) (ix2 r k)).trans (FfnIdeal.Body.norm_apply y g r k)

section Payloads
variable (n : IVec S1x256 32) (u d : FVec Ideal S256x2048 .bf16) (H : FVec Ideal S512x2048 .bf16) (a b a' b' : FVec Ideal S2048x256 .bf16)
  (U : FVec Ideal S512x256 .bf16) (G z : FVec Ideal S512x256 .f32) (X O : FVec Ideal S512x2048 .f32)

theorem pay_out_top : k0_pay22 (F := Ideal) n u d H U G b' z X O fg = out (FfnIdeal.Gen.k0_pay22 (F := Ideal) n u d H U G b' z X O) fg := rfl

theorem pay_bot : k0_pay24 (F := Ideal) n u d H (k0_pay23 (F := Ideal) H a) b a' b' X O
    = FfnIdeal.Gen.k0_pay5 (F := Ideal) n u d H (FfnIdeal.Gen.k0_pay23 (F := Ideal) n H a b) a' b' X O := rfl

theorem pay_out_bot : k0_pay5 (F := Ideal) (k0_pay24 (F := Ideal) n u d H G b a' b' X O) fg (k0_pay25 (F := Ideal) n u d H G b a' b' X O)
    = out (k0_pay24 (F := Ideal) n u d H G b a' b' X O) fg := rfl

end Payloads

/-- The last branch: the norm, row by row, of the feed-forward's result. -/
theorem ended_norm (r : Fin 1024) (k : Fin 2048) :
    ended x h wg wu wd o fg (ix2 r k)
      = normRow (fun c => FfnIdeal.Body.ended x h wg wu wd o (ix2 r c)) (fun c => fg (ix2 0 c)) k := by
  unfold ended FfnIdeal.Body.ended
  revert r
  refine halves (fun r => ?_) fun r => ?_
  · simp only [stack_at_top]
    rw [pay_out_top]
    refine (out_apply _ _ r k).trans ?_
    exact congrArg (fun v => normRow _ v k) (funext fun c => ld_row fg c)
  · simp only [stack_at_bot]
    rw [pay_out_bot, pay_bot]
    refine (out_apply _ _ r k).trans ?_
    exact congrArg (fun v => normRow _ v k) (funext fun c => ld_row fg c)

end Cert.FfnOutIdeal.Body

end
-- ==== Proof.FfnOutValue.Input.lean ====
/-
  What the windows of the call that ends in the final norm hold at a grid point, and what each branch then makes of them: point `t` is column block
  `t % 11` of the block of rows `t / 11`; the last column block has 384 columns of the weights, and past them the
  buffers hold anything.
-/
module

public import proofs.«01_k».proof.Proof.FfnOutValue.Block
public import proofs.«01_k».proof.Proof.FfnValue.Input
public import proofs.«01_k».proof.Proof.Gen.FfnOutIdeal.Frame

@[expose] public section

set_option maxRecDepth 16384

noncomputable section

namespace Cert.FfnOutIdeal.Point

open Cert.FfnOutIdeal Cert.FfnOutIdeal.Gen Cert.FfnOutIdeal.Body Idealize.ShloMosaic Idealize.ShloMosaic.TcCoe Idealize.SL.Sem ValueIdx Cert.FfnSpec
open Cert.FfnIdeal.Body (Gives weighed_congr normed_apply started_apply added_apply ended_apply)
open Cert.FfnIdeal.Point (row eq_ix2 ext2)

variable (m : (ℓ : Loc nD τ sig) → Buf (Elt Ideal) ℓ)

/-! ## Where a point's blocks lie -/

theorem index0 : ∀ t : Fin cfg0.N, win0_0.index t = ![t.val / 11, 0] := by
  show ∀ t : Fin grid0.N, _
  decide +kernel
theorem index2 : ∀ t : Fin cfg0.N, win0_2.index t = ![0, t.val % 11] := by
  show ∀ t : Fin grid0.N, _
  decide +kernel
theorem index3 : ∀ t : Fin cfg0.N, win0_3.index t = ![0, t.val % 11] := by
  show ∀ t : Fin grid0.N, _
  decide +kernel
theorem index4 : ∀ t : Fin cfg0.N, win0_4.index t = ![t.val % 11, 0] := by
  show ∀ t : Fin grid0.N, _
  decide +kernel
theorem index6 : ∀ t : Fin cfg0.N, win0_6.index t = ![t.val / 11, 0] := by
  show ∀ t : Fin grid0.N, _
  decide +kernel

theorem extent2 : ∀ t : Fin cfg0.N, win0_2.xsize (grid0.coords t) 0 = 2048 ∧ win0_2.xsize (grid0.coords t) 1 = min 512 (5504 - 512 * (t.val % 11)) := by
  show ∀ t : Fin grid0.N, _
  decide +kernel
theorem extent3 : ∀ t : Fin cfg0.N, win0_3.xsize (grid0.coords t) 0 = 2048 ∧ win0_3.xsize (grid0.coords t) 1 = min 512 (5504 - 512 * (t.val % 11)) := by
  show ∀ t : Fin grid0.N, _
  decide +kernel
theorem extent4 : ∀ t : Fin cfg0.N, win0_4.xsize (grid0.coords t) 0 = min 512 (5504 - 512 * (t.val % 11)) ∧ win0_4.xsize (grid0.coords t) 1 = 2048 := by
  show ∀ t : Fin grid0.N, _
  decide +kernel

/-! ## The arrays, and the blocks read off them -/

abbrev inp (c : Dev nD) : (⟨2, ![32768, 2048]⟩ : Shape).Idx → EReal := V m c main_arg0
abbrev nrm (c : Dev nD) : (⟨2, ![1, 2048]⟩ : Shape).Idx → EReal := V m c main_arg1
abbrev wgt (c : Dev nD) : (⟨2, ![2048, 5504]⟩ : Shape).Idx → EReal := V m c main_arg2
abbrev wup (c : Dev nD) : (⟨2, ![2048, 5504]⟩ : Shape).Idx → EReal := V m c main_arg3
abbrev wdn (c : Dev nD) : (⟨2, ![5504, 2048]⟩ : Shape).Idx → EReal := V m c main_arg4
abbrev fin (c : Dev nD) : (⟨2, ![1, 2048]⟩ : Shape).Idx → EReal := V m c main_arg5

theorem row_val (t : Fin cfg0.N) (r : Fin 1024) : (row (t.val / 11) r).val = 1024 * (t.val / 11) + r.val := by
  have hN : t.val < 352 := lt_of_lt_of_eq t.isLt (show cfg0.N = 352 from N_0)
  show (1024 * (t.val / 11) + r.val) % 32768 = _
  omega

theorem block0 (c : Dev nD) (t : Fin cfg0.N) (r : Fin 1024) (k : Fin 2048) :
    (iblk m c 0 t : Vec Ideal S1024x2048 .f32) (ix2 r k) = inp m c (ix2 (row (t.val / 11) r) k) := by
  unfold iblk
  rw [View.read_apply]
  have e := index0 t
  refine congrArg (V m c main_arg0) (funext fun a => ?_)
  match a with
  | ⟨0, _⟩ => exact Fin.ext (by
      show win0_0.index t 0 * 1024 + 1 * r.val = (row (t.val / 11) r).val
      rw [e, row_val]; show t.val / 11 * 1024 + 1 * r.val = _; omega)
  | ⟨1, _⟩ => exact Fin.ext (by
      show win0_0.index t 1 * 2048 + 1 * k.val = k.val
      rw [e]; show 0 * 2048 + 1 * k.val = _; omega)

theorem block1 (c : Dev nD) (t : Fin cfg0.N) (k : Fin 2048) :
    (iblk m c 1 t : Vec Ideal S1x2048 .f32) (ix2 0 k) = nrm m c (ix2 0 k) := by
  unfold iblk
  rw [View.read_apply]
  refine congrArg (V m c main_arg1) (funext fun a => ?_)
  match a with
  | ⟨0, _⟩ => exact Fin.ext (by show 0 * 1 + 1 * 0 = 0; omega)
  | ⟨1, _⟩ => exact Fin.ext (by show 0 * 2048 + 1 * k.val = k.val; omega)

theorem block5 (c : Dev nD) (t : Fin cfg0.N) (k : Fin 2048) :
    (iblk m c 5 t : Vec Ideal S1x2048 .f32) (ix2 0 k) = fin m c (ix2 0 k) := by
  unfold iblk
  rw [View.read_apply]
  refine congrArg (V m c main_arg5) (funext fun a => ?_)
  match a with
  | ⟨0, _⟩ => exact Fin.ext (by show 0 * 1 + 1 * 0 = 0; omega)
  | ⟨1, _⟩ => exact Fin.ext (by show 0 * 2048 + 1 * k.val = k.val; omega)

/-- The gate weights' buffer at a column inside the array. -/
theorem block2 (c : Dev nD) (t : Fin cfg0.N) (d : Vec Ideal S2048x512 .bf16) (l : Fin 2048) (f : Fin 512) (n : Fin 5504)
    (hn : n.val = 512 * (t.val % 11) + f.val) :
    (win0_2.fill (grid0.coords t) d (iblk m c 2 t) : Vec Ideal S2048x512 .bf16) (ix2 l f) = wgt m c (ix2 l n) := by
  have e := index2 t
  have x := extent2 t
  have hm : win0_2.moved (grid0.coords t) (ix2 l f) = true := (win0_2.moved_iff _ _).mpr fun a => by
    match a with
    | ⟨0, _⟩ => exact lt_of_lt_of_eq l.isLt x.1.symm
    | ⟨1, _⟩ => refine lt_of_lt_of_eq (b := min 512 (5504 - 512 * (t.val % 11))) ?_ x.2.symm; show f.val < _; omega
  unfold Pipeline.Window.fill
  rw [dif_pos hm]
  unfold iblk
  rw [View.read_apply]
  refine congrArg (V m c main_arg2) (funext fun a => ?_)
  match a with
  | ⟨0, _⟩ => exact Fin.ext (by
      show win0_2.index t 0 * 2048 + 1 * l.val = l.val
      rw [e]; show 0 * 2048 + 1 * l.val = _; omega)
  | ⟨1, _⟩ => exact Fin.ext (by
      show win0_2.index t 1 * 512 + 1 * f.val = n.val
      rw [e]; show t.val % 11 * 512 + 1 * f.val = _; omega)

/-- The up weights' likewise. -/
theorem block3 (c : Dev nD) (t : Fin cfg0.N) (d : Vec Ideal S2048x512 .bf16) (l : Fin 2048) (f : Fin 512) (n : Fin 5504)
    (hn : n.val = 512 * (t.val % 11) + f.val) :
    (win0_3.fill (grid0.coords t) d (iblk m c 3 t) : Vec Ideal S2048x512 .bf16) (ix2 l f) = wup m c (ix2 l n) := by
  have e := index3 t
  have x := extent3 t
  have hm : win0_3.moved (grid0.coords t) (ix2 l f) = true := (win0_3.moved_iff _ _).mpr fun a => by
    match a with
    | ⟨0, _⟩ => exact lt_of_lt_of_eq l.isLt x.1.symm
    | ⟨1, _⟩ => refine lt_of_lt_of_eq (b := min 512 (5504 - 512 * (t.val % 11))) ?_ x.2.symm; show f.val < _; omega
  unfold Pipeline.Window.fill
  rw [dif_pos hm]
  unfold iblk
  rw [View.read_apply]
  refine congrArg (V m c main_arg3) (funext fun a => ?_)
  match a with
  | ⟨0, _⟩ => exact Fin.ext (by
      show win0_3.index t 0 * 2048 + 1 * l.val = l.val
      rw [e]; show 0 * 2048 + 1 * l.val = _; omega)
  | ⟨1, _⟩ => exact Fin.ext (by
      show win0_3.index t 1 * 512 + 1 * f.val = n.val
      rw [e]; show t.val % 11 * 512 + 1 * f.val = _; omega)

/-- The down weights' at a row inside the array. -/
theorem block4 (c : Dev nD) (t : Fin cfg0.N) (d : Vec Ideal S512x2048 .bf16) (f : Fin 512) (k : Fin 2048) (n : Fin 5504)
    (hn : n.val = 512 * (t.val % 11) + f.val) :
    (win0_4.fill (grid0.coords t) d (iblk m c 4 t) : Vec Ideal S512x2048 .bf16) (ix2 f k) = wdn m c (ix2 n k) := by
  have e := index4 t
  have x := extent4 t
  have hm : win0_4.moved (grid0.coords t) (ix2 f k) = true := (win0_4.moved_iff _ _).mpr fun a => by
    match a with
    | ⟨0, _⟩ => refine lt_of_lt_of_eq (b := min 512 (5504 - 512 * (t.val % 11))) ?_ x.1.symm; show f.val < _; omega
    | ⟨1, _⟩ => exact lt_of_lt_of_eq k.isLt x.2.symm
  unfold Pipeline.Window.fill
  rw [dif_pos hm]
  unfold iblk
  rw [View.read_apply]
  refine congrArg (V m c main_arg4) (funext fun a => ?_)
  match a with
  | ⟨0, _⟩ => exact Fin.ext (by
      show win0_4.index t 0 * 512 + 1 * f.val = n.val
      rw [e]; show t.val % 11 * 512 + 1 * f.val = _; omega)
  | ⟨1, _⟩ => exact Fin.ext (by
      show win0_4.index t 1 * 2048 + 1 * k.val = k.val
      rw [e]; show 0 * 2048 + 1 * k.val = _; omega)

/-! ## What a point leaves -/

/-- The normed rows of block of rows `b`. -/
def rowsAt (c : Dev nD) (b : ℕ) : Vec Ideal S1024x2048 .bf16 := fun j =>
  normRow (fun l => inp m c (ix2 (row b (j 0)) l)) (fun l => nrm m c (ix2 0 l)) (j 1)

/-- The hidden columns' sum so far; after the last block of them the normed result. -/
def outAt (c : Dev nD) (n : ℕ) : Vec Ideal S1024x2048 .f32 := fun j =>
  if n % 11 = 10 then finalValue (inp m c) (nrm m c) (wgt m c) (wup m c) (wdn m c) (fin m c) (row (n / 11) (j 0)) (j 1)
  else upTo (inp m c) (nrm m c) (wgt m c) (wup m c) (wdn m c) (row (n / 11) (j 0)) (j 1) (512 * (n % 11 + 1))

/-- The terms of a block of rows. -/
abbrev terms (c : Dev nD) (b : ℕ) : Fin 1024 → Fin 2048 → ℕ → EReal := fun r k n =>
  term (inp m c) (nrm m c) (wgt m c) (wup m c) (wdn m c) (row b r) k n

/-- The weights' buffers give the point's terms, as far as its columns are inside the arrays. -/
theorem pointGives (c : Dev nD) (t : Fin cfg0.N) (d2 d3 : Vec Ideal S2048x512 .bf16) (d4 : Vec Ideal S512x2048 .bf16) (l : ℕ)
    (hl : 512 * (t.val % 11) + l ≤ 5504) :
    Gives (rowsAt m c (t.val / 11)) (win0_2.fill (grid0.coords t) d2 (iblk m c 2 t)) (win0_3.fill (grid0.coords t) d3 (iblk m c 3 t))
      (win0_4.fill (grid0.coords t) d4 (iblk m c 4 t)) (terms m c (t.val / 11)) (512 * (t.val % 11)) l := by
  intro r k f hf
  have hn : 512 * (t.val % 11) + f.val < 5504 := by omega
  show _ = term _ _ _ _ _ _ _ _
  unfold term
  rw [dif_pos hn]
  exact weighed_congr rfl (funext fun i => block2 m c t d2 i f ⟨_, hn⟩ rfl) (funext fun i => block3 m c t d3 i f ⟨_, hn⟩ rfl)
    (block4 m c t d4 f k ⟨_, hn⟩ rfl)

theorem rows_eq (c : Dev nD) (t : Fin cfg0.N) : normed (iblk m c 0 t) (iblk m c 1 t) = rowsAt m c (t.val / 11) :=
  ext2 fun r k => (congrFun (normed_eq _ _) _).trans <| (normed_apply _ _ r k).trans
    (congrArg₂ (fun u v => normRow u v k) (funext fun l => block0 m c t r l) (funext fun l => block1 m c t l))

theorem start_eq (c : Dev nD) (t : Fin cfg0.N) (ht : t.val % 11 = 0) (d2 d3 : Vec Ideal S2048x512 .bf16) (d4 : Vec Ideal S512x2048 .bf16) :
    started (iblk m c 0 t) (iblk m c 1 t) (win0_2.fill (grid0.coords t) d2 (iblk m c 2 t)) (win0_3.fill (grid0.coords t) d3 (iblk m c 3 t))
      (win0_4.fill (grid0.coords t) d4 (iblk m c 4 t)) = outAt m c t.val := by
  refine ext2 fun r k => ?_
  have G := pointGives m c t d2 d3 d4 512 (by omega)
  rw [ht] at G
  rw [started_eq, started_apply (x := iblk m c 0 t) (g := iblk m c 1 t) (T := terms m c (t.val / 11)) (by rw [← normed_eq, rows_eq]; exact G)]
  unfold outAt
  rw [if_neg (by omega), ht]
  unfold upTo
  simp only [Nat.zero_add, Nat.mul_one]

theorem add_eq (c : Dev nD) (t : Fin cfg0.N) (h0 : t.val % 11 ≠ 0) (h1 : t.val % 11 ≠ 10) (d2 d3 : Vec Ideal S2048x512 .bf16)
    (d4 : Vec Ideal S512x2048 .bf16) :
    added (rowsAt m c (t.val / 11)) (win0_2.fill (grid0.coords t) d2 (iblk m c 2 t)) (win0_3.fill (grid0.coords t) d3 (iblk m c 3 t))
      (win0_4.fill (grid0.coords t) d4 (iblk m c 4 t)) (outAt m c (t.val - 1)) = outAt m c t.val := by
  refine ext2 fun r k => ?_
  rw [added_eq, added_apply (o := outAt m c (t.val - 1)) (pointGives m c t d2 d3 d4 512 (by omega))]
  unfold outAt
  rw [if_neg (by omega), if_neg (by omega), show (t.val - 1) / 11 = t.val / 11 by omega, show (t.val - 1) % 11 + 1 = t.val % 11 by omega,
    Nat.mul_add, Nat.mul_one, upTo_add]

theorem end_eq (c : Dev nD) (t : Fin cfg0.N) (h1 : t.val % 11 = 10) (d2 d3 : Vec Ideal S2048x512 .bf16) (d4 : Vec Ideal S512x2048 .bf16) :
    ended (iblk m c 0 t) (rowsAt m c (t.val / 11)) (win0_2.fill (grid0.coords t) d2 (iblk m c 2 t))
      (win0_3.fill (grid0.coords t) d3 (iblk m c 3 t)) (win0_4.fill (grid0.coords t) d4 (iblk m c 4 t)) (outAt m c (t.val - 1)) (iblk m c 5 t)
      = outAt m c t.val := by
  refine ext2 fun r k => (ended_norm _ _ _ _ _ _ _ r k).trans ?_
  unfold outAt
  rw [if_pos h1]
  show _ = normRow (fun k => value (inp m c) (nrm m c) (wgt m c) (wup m c) (wdn m c) (row (t.val / 11) r) k) (fun k => fin m c (ix2 0 k)) k
  refine congrArg₂ (fun u v => normRow u v k) (funext fun k => ?_) (funext fun k => block5 m c t k)
  refine (ended_apply (x := iblk m c 0 t) (o := outAt m c (t.val - 1)) (pointGives m c t d2 d3 d4 384 (by omega)) (fun r k i hi => by
    show term _ _ _ _ _ _ _ _ = 0
    unfold term
    exact dif_neg (by omega)) r k).trans ?_
  rw [block0]
  unfold outAt
  rw [if_neg (by omega), show (t.val - 1) / 11 = t.val / 11 by omega, show (t.val - 1) % 11 + 1 = 10 by omega, h1]
  unfold value
  rw [show (5632 : ℕ) = 512 * 10 + 512 from rfl, upTo_add]

end Cert.FfnOutIdeal.Point

end
-- ==== Proof.FfnOutValue.Run.lean ====
/-
  The run of the call that ends in the final norm: between points the scratch holds the normed rows of the current block of rows and the output buffer
  the sum so far; the weights' buffers are described only where their blocks lie inside the arrays.
-/
module

public import proofs.«01_k».proof.Proof.FfnOutValue.Input
public import proofs.«01_k».proof.Proof.FfnOutValue.Runs

@[expose] public section

set_option maxRecDepth 16384

noncomputable section

namespace Cert.FfnOutIdeal.Run

open Cert.FfnOutIdeal Cert.FfnOutIdeal.Gen Cert.FfnOutIdeal.Body Cert.FfnOutIdeal.Point
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

variable (m : (ℓ : Loc nD τ sig) → Buf (Elt Ideal) ℓ) (ρ : Dev nD → PrngReg)

/-! ## Which branch a point takes -/

theorem branch : ∀ t : Fin cfg0.N,
    (starts (grid0.coords t) ↔ t.val % 11 = 0) ∧ (adds (grid0.coords t) ↔ t.val % 11 ≠ 0 ∧ t.val % 11 ≠ 10)
      ∧ (ends (grid0.coords t) ↔ t.val % 11 = 10) :=
  (by decide +kernel : ∀ t : Fin grid0.N,
    (starts (grid0.coords t) ↔ t.val % 11 = 0) ∧ (adds (grid0.coords t) ↔ t.val % 11 ≠ 0 ∧ t.val % 11 ≠ 10)
      ∧ (ends (grid0.coords t) ↔ t.val % 11 = 10))

/-- So every point stores to the output. -/
theorem live : ∀ t : Fin cfg0.N, cfg0.idle 6 (grid0.coords t) = false :=
  (by decide +kernel : ∀ t : Fin grid0.N, idle0 6 (grid0.coords t) = false)

abbrev st0 (t : Fin cfg0.N) : Memref sig .tc .vmem S1024x2048 .f32 := win0_0.stage (cfg0.slots t 0)
abbrev st1 (t : Fin cfg0.N) : Memref sig .tc .vmem S1x2048 .f32 := win0_1.stage (cfg0.slots t 1)
abbrev st2 (t : Fin cfg0.N) : Memref sig .tc .vmem S2048x512 .bf16 := win0_2.stage (cfg0.slots t 2)
abbrev st3 (t : Fin cfg0.N) : Memref sig .tc .vmem S2048x512 .bf16 := win0_3.stage (cfg0.slots t 3)
abbrev st4 (t : Fin cfg0.N) : Memref sig .tc .vmem S512x2048 .bf16 := win0_4.stage (cfg0.slots t 4)
abbrev st5 (t : Fin cfg0.N) : Memref sig .tc .vmem S1x2048 .f32 := win0_5.stage (cfg0.slots t 5)
abbrev st6 (t : Fin cfg0.N) : Memref sig .tc .vmem S1024x2048 .f32 := win0_6.stage (cfg0.slots t 6)
/-- The scratch of normed rows. -/
abbrev rows : Memref sig .tc .vmem S1024x2048 .bf16 := Memref.whole cc0_scratch0

theorem between_eq (c : Dev nD) :
    (Pipeline.ΦA spec0 c : sProp 𝕄)
      = iprop(iprop((∃ d, owns (c : Thread nD τ) rows fullShare d)) ∗ (∃ r, prngReg c r)) := by
  unfold Pipeline.ΦA; rw [scopedRest0_eq]; simp only [rows, owns_whole]; try rfl

/-! ## The run's data -/

/-- What is held between points: at first anything in the scratch, then the last point's normed rows. -/
def held (c : Dev nD) : (n : ℕ) → n ≤ cfg0.N → sProp 𝕄
  | 0, _ => Pipeline.ΦA spec0 c
  | n + 1, _ => iprop(owns (c : Thread nD τ) rows fullShare (rowsAt m c (n / 11)) ∗ (∃ r, prngReg c r))

theorem held_zero (c : Dev nD) (n : ℕ) (h : n ≤ cfg0.N) (hz : n = 0) : held m c n h = Pipeline.ΦA spec0 c := by
  subst hz; rfl

theorem held_pos (c : Dev nD) (n : ℕ) (h : n ≤ cfg0.N) (hz : n ≠ 0) :
    held m c n h = iprop(owns (c : Thread nD τ) rows fullShare (rowsAt m c ((n - 1) / 11)) ∗ (∃ r, prngReg c r)) := by
  cases n with
  | zero => exact absurd rfl hz
  | succ n => rfl

/-- A word to fill the weights' buffers with past the arrays' ends, where nothing is said of them. -/
def fillerW : Vec Ideal S2048x512 .bf16 := fun _ => Scalar.ofBits (F := Ideal) .bf16 0#16
def fillerD : Vec Ideal S512x2048 .bf16 := fun _ => Scalar.ofBits (F := Ideal) .bf16 0#16

def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => win0_2.fill (grid0.coords t) fillerW (iblk m c 2 t)
    | ⟨3, _⟩ => win0_3.fill (grid0.coords t) fillerW (iblk m c 3 t)
    | ⟨4, _⟩ => win0_4.fill (grid0.coords t) fillerD (iblk m c 4 t)
    | ⟨5, _⟩ => iblk m c 5 t
    | ⟨6, _⟩ => outAt m c t.val
  Φ t := held m c t.val (Nat.le_of_lt_succ t.isLt)
  q _ := fullShare
  owed _ := 0

theorem A_eq (c : Dev nD) (w : Fin cfg0.W) : (dats m 0 c).A w = V m c (Pipeline.arrRef spec0 w) := by
  dsimp only [dats]

theorem held_castSucc (c : Dev nD) (t : Fin cfg0.N) :
    (dats m 0 c).Φ t.castSucc = held m c t.val (Nat.le_of_lt t.isLt) := by
  dsimp only [dats]; exact Pipeline.Dat.Φ_castSucc (held m c) t

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = win0_2.fill (grid0.coords t) fillerW (iblk m c 2 t) := by dsimp only [dats]
theorem after_3 (c : Dev nD) (t : Fin cfg0.N) : (dats m 0 c).after 3 t = win0_3.fill (grid0.coords t) fillerW (iblk m c 3 t) := by dsimp only [dats]
theorem after_4 (c : Dev nD) (t : Fin cfg0.N) : (dats m 0 c).after 4 t = win0_4.fill (grid0.coords t) fillerD (iblk m c 4 t) := by dsimp only [dats]
theorem after_5 (c : Dev nD) (t : Fin cfg0.N) : (dats m 0 c).after 5 t = iblk m c 5 t := by dsimp only [dats]
theorem after_6 (c : Dev nD) (t : Fin cfg0.N) : (dats m 0 c).after 6 t = outAt m c t.val := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = win0_2.fill (grid0.coords t) d (iblk m c 2 t) := by
  unfold Dat.before; rw [if_pos (fetch0_2 t)]; rfl
theorem before_3 (c : Dev nD) (t : Fin cfg0.N) (d) : (dats m 0 c).before 3 t d = win0_3.fill (grid0.coords t) d (iblk m c 3 t) := by
  unfold Dat.before; rw [if_pos (fetch0_3 t)]; rfl
theorem before_4 (c : Dev nD) (t : Fin cfg0.N) (d) : (dats m 0 c).before 4 t d = win0_4.fill (grid0.coords t) d (iblk m c 4 t) := by
  unfold Dat.before; rw [if_pos (fetch0_4 t)]; rfl
theorem before_5 (c : Dev nD) (t : Fin cfg0.N) (d) : (dats m 0 c).before 5 t d = iblk m c 5 t :=
  before0_5_of m (dats m 0 c) (A_eq m c 5) (after_5 m c) t d

/-- The output's buffer at a point that does not start a block of rows: what the point before left. -/
theorem before_6 (c : Dev nD) (t : Fin cfg0.N) (ht : t.val % 11 ≠ 0) (d) : (dats m 0 c).before 6 t d = outAt m c (t.val - 1) := by
  have hf : (cfg0.win 6).flush ⟨t.val - 1, Nat.lt_of_le_of_lt (Nat.sub_le _ _) t.isLt⟩ = false :=
    Bool.eq_false_iff.mpr fun h => by
      have h' := (flush0_6 _).mp h
      have : (t.val - 1) % 11 = 10 := h'
      omega
  rw [(dats m 0 c).before_of_pos 6 t (by omega) ((cfg0.win 6).fetch_out rfl t), hf, if_neg Bool.false_ne_true]
  unfold Dat.left
  rw [live]
  show (dats m 0 c).kept 6 _ d = _
  unfold Dat.kept
  rw [after_6]
  exact (cfg0.win 6).fill_cut _ _

/-! ## The body at a point -/

def bodyPre (c : Dev nD) (t : Fin cfg0.N) : sProp 𝕄 :=
  iprop((dats m 0 c).Φ t.castSucc ∗ (dats m 0 c).owesAt () t.castSucc
    ∗ (∃ d, owns (c : Thread nD τ) (st0 t) fullShare ((dats m 0 c).before 0 t d))
    ∗ (∃ d, owns (c : Thread nD τ) (st1 t) fullShare ((dats m 0 c).before 1 t d))
    ∗ (∃ d, owns (c : Thread nD τ) (st2 t) fullShare ((dats m 0 c).before 2 t d))
    ∗ (∃ d, owns (c : Thread nD τ) (st3 t) fullShare ((dats m 0 c).before 3 t d))
    ∗ (∃ d, owns (c : Thread nD τ) (st4 t) fullShare ((dats m 0 c).before 4 t d))
    ∗ (∃ d, owns (c : Thread nD τ) (st5 t) fullShare ((dats m 0 c).before 5 t d))
    ∗ (∃ d, owns (c : Thread nD τ) (st6 t) fullShare ((dats m 0 c).before 6 t d)))

def bodyPost (c : Dev nD) (t : Fin cfg0.N) : sProp 𝕄 :=
  iprop((dats m 0 c).Φ t.succ ∗ (dats m 0 c).owesAt () t.succ
    ∗ owns (c : Thread nD τ) (st0 t) fullShare ((dats m 0 c).after 0 t)
    ∗ owns (c : Thread nD τ) (st1 t) fullShare ((dats m 0 c).after 1 t)
    ∗ (∃ d, owns (c : Thread nD τ) (st2 t) fullShare (win0_2.fill (grid0.coords t) d (win0_2.cut (grid0.coords t) ((dats m 0 c).after 2 t))))
    ∗ (∃ d, owns (c : Thread nD τ) (st3 t) fullShare (win0_3.fill (grid0.coords t) d (win0_3.cut (grid0.coords t) ((dats m 0 c).after 3 t))))
    ∗ (∃ d, owns (c : Thread nD τ) (st4 t) fullShare (win0_4.fill (grid0.coords t) d (win0_4.cut (grid0.coords t) ((dats m 0 c).after 4 t))))
    ∗ owns (c : Thread nD τ) (st5 t) fullShare ((dats m 0 c).after 5 t)
    ∗ owns (c : Thread nD τ) (st6 t) fullShare ((dats m 0 c).after 6 t))

/-- What the body must do at a point, with the buffers' contents named. -/
theorem sound_of (c : Dev nD) (t : Fin cfg0.N)
    (h : ∀ (d2 d3 : Vec Ideal S2048x512 .bf16) (d4 : Vec Ideal S512x2048 .bf16) (d6 : Vec Ideal S1024x2048 .f32) (K : PUnit → sProp 𝕄),
      iprop(held m c t.val (Nat.le_of_lt t.isLt)
        ∗ owns (c : Thread nD τ) (st0 t) fullShare (iblk m c 0 t) ∗ owns (c : Thread nD τ) (st1 t) fullShare (iblk m c 1 t)
        ∗ owns (c : Thread nD τ) (st2 t) fullShare (win0_2.fill (grid0.coords t) d2 (iblk m c 2 t))
        ∗ owns (c : Thread nD τ) (st3 t) fullShare (win0_3.fill (grid0.coords t) d3 (iblk m c 3 t))
        ∗ owns (c : Thread nD τ) (st4 t) fullShare (win0_4.fill (grid0.coords t) d4 (iblk m c 4 t))
        ∗ owns (c : Thread nD τ) (st5 t) fullShare (iblk m c 5 t)
        ∗ owns (c : Thread nD τ) (st6 t) fullShare ((dats m 0 c).before 6 t d6)
        ∗ (iprop(iprop(owns (c : Thread nD τ) rows fullShare (rowsAt m c (t.val / 11)) ∗ (∃ r, prngReg c r))
          ∗ owns (c : Thread nD τ) (st0 t) fullShare (iblk m c 0 t) ∗ owns (c : Thread nD τ) (st1 t) fullShare (iblk m c 1 t)
          ∗ owns (c : Thread nD τ) (st2 t) fullShare (win0_2.fill (grid0.coords t) d2 (iblk m c 2 t))
          ∗ owns (c : Thread nD τ) (st3 t) fullShare (win0_3.fill (grid0.coords t) d3 (iblk m c 3 t))
          ∗ owns (c : Thread nD τ) (st4 t) fullShare (win0_4.fill (grid0.coords t) d4 (iblk m c 4 t))
          ∗ owns (c : Thread nD τ) (st5 t) fullShare (iblk m c 5 t)
          ∗ owns (c : Thread nD τ) (st6 t) fullShare (outAt m c t.val)) -∗ K ⟨⟩))
        ⊢ wp frame (wpE (defs₀ (F := Ideal)) Variants.none c none) Set.univ (bodyAt0 t) K) :
    bodyPre m c t ⊢ wp frame (wpE (defs₀ (F := Ideal)) Variants.none c none) Set.univ (bodyAt0 t) (fun _ => bodyPost m c t) := by
  unfold bodyPre bodyPost
  simp only [before_0, before_1, before_2, before_3, before_4, before_5]
  rw [show (dats m 0 c).owesAt () t.succ = (dats m 0 c).owesAt () t.castSucc from rfl,
    show (dats m 0 c).Φ t.succ = iprop(owns (c : Thread nD τ) rows fullShare (rowsAt m c (t.val / 11)) ∗ (∃ r, prngReg c r)) from rfl,
    held_castSucc, after_0, after_1, after_2, after_3, after_4, after_5, after_6]
  have h2 : win0_2.cut (grid0.coords t) (win0_2.fill (grid0.coords t) fillerW (iblk m c 2 t)) = iblk m c 2 t := win0_2.cut_fill _ _ _
  have h3 : win0_3.cut (grid0.coords t) (win0_3.fill (grid0.coords t) fillerW (iblk m c 3 t)) = iblk m c 3 t := win0_3.cut_fill _ _ _
  have h4 : win0_4.cut (grid0.coords t) (win0_4.fill (grid0.coords t) fillerD (iblk m c 4 t)) = iblk m c 4 t := win0_4.cut_fill _ _ _
  rw [h2, h3, h4]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (h d2 d3 d4 d6 _)
  isplitl [HΦ]; · iexact HΦ
  isplitl [H0]; · iexact H0
  isplitl [H1]; · iexact H1
  isplitl [H2]; · iexact H2
  isplitl [H3]; · iexact H3
  isplitl [H4]; · iexact H4
  isplitl [H5]; · iexact H5
  isplitl [H6]; · iexact H6
  iintro ⟨HΦ, H0, H1, H2, H3, H4, H5, H6⟩
  isplitl [HΦ]; · iexact HΦ
  isplitl [Ho]; · iexact Ho
  isplitl [H0]; · iexact H0
  isplitl [H1]; · iexact H1
  isplitl [H2]; · iexists d2; iexact H2
  isplitl [H3]; · iexists d3; iexact H3
  isplitl [H4]; · iexists d4; iexact H4
  isplitl [H5]; · iexact H5
  iexact H6

/-- What is held lets the scratch be started over. -/
theorem held_any (c : Dev nD) (n : ℕ) (h : n ≤ cfg0.N) :
    held m c n h ⊢ iprop((∃ d, owns (c : Thread nD τ) rows fullShare d) ∗ (∃ r, prngReg c r)) := by
  by_cases hz : n = 0
  · rw [held_zero m c n h hz, between_eq]
  · rw [held_pos m c n h hz]
    iintro ⟨HS, Hg⟩
    isplitl [HS]
    · iexists _; iexact HS
    iexact Hg

set_option maxHeartbeats 1600000 in
theorem sound_start (c : Dev nD) (t : Fin cfg0.N) (ht : t.val % 11 = 0) :
    bodyPre m c t ⊢ wp frame (wpE (defs₀ (F := Ideal)) Variants.none c none) Set.univ (bodyAt0 t) (fun _ => bodyPost m c t) := by
  refine sound_of m c t fun d2 d3 d4 d6 K => ?_
  have hb := branch t
  have hr := run_starts c (grid0.coords t) (st0 t) (hstage0_0 _) (st1 t) (hstage0_1 _) (st2 t) (hstage0_2 _) (st3 t) (hstage0_3 _) (st4 t) (hstage0_4 _)
    (st5 t) (hstage0_5 _) (st6 t) (hstage0_6 _) rows (Memref.isWhole_whole _) (hb.1.mpr ht) (fun h => (hb.2.1.mp h).1 ht)
    (fun h => by have := hb.2.2.mp h; omega) (iblk m c 0 t) (iblk m c 1 t) (win0_2.fill (grid0.coords t) d2 (iblk m c 2 t))
    (win0_3.fill (grid0.coords t) d3 (iblk m c 3 t)) (win0_4.fill (grid0.coords t) d4 (iblk m c 4 t)) (iblk m c 5 t) Set.univ K
  rw [start_eq m c t ht, rows_eq] at hr
  refine (sep_mono (held_any m c _ _) .rfl).trans ?_
  unfold bodyAt0
  iintro ⟨⟨HS, Hg⟩, H0, H1, H2, H3, H4, H5, H6, Hk⟩
  iapply hr
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [HS]; · iexact HS
  iintro ⟨H0, H1, H2, H3, H4, H5, H6, HS⟩
  iapply Hk
  isplitl [HS Hg]
  · isplitl [HS]; · iexact HS
    iexact Hg
  isplitl [H0]; · iexact H0
  isplitl [H1]; · iexact H1
  isplitl [H2]; · iexact H2
  isplitl [H3]; · iexact H3
  isplitl [H4]; · iexact H4
  isplitl [H5]; · iexact H5
  iexact H6

/-- A point that does not start a block of rows finds its normed rows in the scratch. -/
theorem held_rows (c : Dev nD) (t : Fin cfg0.N) (ht : t.val % 11 ≠ 0) :
    held m c t.val (Nat.le_of_lt t.isLt) = iprop(owns (c : Thread nD τ) rows fullShare (rowsAt m c (t.val / 11)) ∗ (∃ r, prngReg c r)) := by
  rw [held_pos m c t.val _ (by omega), show (t.val - 1) / 11 = t.val / 11 by omega]

set_option maxHeartbeats 1600000 in
theorem sound_add (c : Dev nD) (t : Fin cfg0.N) (ht : t.val % 11 ≠ 0) (ht' : t.val % 11 ≠ 10) :
    bodyPre m c t ⊢ wp frame (wpE (defs₀ (F := Ideal)) Variants.none c none) Set.univ (bodyAt0 t) (fun _ => bodyPost m c t) := by
  refine sound_of m c t fun d2 d3 d4 d6 K => ?_
  have hb := branch t
  have hr := run_adds c (grid0.coords t) (st0 t) (hstage0_0 _) (st1 t) (hstage0_1 _) (st2 t) (hstage0_2 _) (st3 t) (hstage0_3 _) (st4 t) (hstage0_4 _)
    (st5 t) (hstage0_5 _) (st6 t) (hstage0_6 _) rows (Memref.isWhole_whole _) (fun h => ht (hb.1.mp h)) (hb.2.1.mpr ⟨ht, ht'⟩)
    (fun h => ht' (hb.2.2.mp h)) (iblk m c 0 t) (iblk m c 1 t) (win0_2.fill (grid0.coords t) d2 (iblk m c 2 t))
    (win0_3.fill (grid0.coords t) d3 (iblk m c 3 t)) (win0_4.fill (grid0.coords t) d4 (iblk m c 4 t)) (iblk m c 5 t)
    (outAt m c (t.val - 1)) (rowsAt m c (t.val / 11)) Set.univ K
  rw [add_eq m c t ht ht'] at hr
  rw [before_6 m c t ht, held_rows m c t ht]
  unfold bodyAt0
  iintro ⟨⟨HS, Hg⟩, H0, H1, H2, H3, H4, H5, H6, Hk⟩
  iapply hr
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [HS]; · iexact HS
  iintro ⟨H0, H1, H2, H3, H4, H5, H6, HS⟩
  iapply Hk
  isplitl [HS Hg]
  · isplitl [HS]; · iexact HS
    iexact Hg
  isplitl [H0]; · iexact H0
  isplitl [H1]; · iexact H1
  isplitl [H2]; · iexact H2
  isplitl [H3]; · iexact H3
  isplitl [H4]; · iexact H4
  isplitl [H5]; · iexact H5
  iexact H6

set_option maxHeartbeats 1600000 in
theorem sound_end (c : Dev nD) (t : Fin cfg0.N) (ht' : t.val % 11 = 10) :
    bodyPre m c t ⊢ wp frame (wpE (defs₀ (F := Ideal)) Variants.none c none) Set.univ (bodyAt0 t) (fun _ => bodyPost m c t) := by
  have ht : t.val % 11 ≠ 0 := by omega
  refine sound_of m c t fun d2 d3 d4 d6 K => ?_
  have hb := branch t
  have hr := run_ends c (grid0.coords t) (st0 t) (hstage0_0 _) (st1 t) (hstage0_1 _) (st2 t) (hstage0_2 _) (st3 t) (hstage0_3 _) (st4 t) (hstage0_4 _)
    (st5 t) (hstage0_5 _) (st6 t) (hstage0_6 _) rows (Memref.isWhole_whole _) (fun h => ht (hb.1.mp h)) (fun h => (hb.2.1.mp h).2 ht')
    (hb.2.2.mpr ht') (iblk m c 0 t) (iblk m c 1 t) (win0_2.fill (grid0.coords t) d2 (iblk m c 2 t))
    (win0_3.fill (grid0.coords t) d3 (iblk m c 3 t)) (win0_4.fill (grid0.coords t) d4 (iblk m c 4 t)) (iblk m c 5 t)
    (outAt m c (t.val - 1)) (rowsAt m c (t.val / 11)) Set.univ K
  rw [end_eq m c t ht'] at hr
  rw [before_6 m c t ht, held_rows m c t ht]
  unfold bodyAt0
  iintro ⟨⟨HS, Hg⟩, H0, H1, H2, H3, H4, H5, H6, Hk⟩
  iapply hr
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [HS]; · iexact HS
  iintro ⟨H0, H1, H2, H3, H4, H5, H6, HS⟩
  iapply Hk
  isplitl [HS Hg]
  · isplitl [HS]; · iexact HS
    iexact Hg
  isplitl [H0]; · iexact H0
  isplitl [H1]; · iexact H1
  isplitl [H2]; · iexact H2
  isplitl [H3]; · iexact H3
  isplitl [H4]; · iexact H4
  isplitl [H5]; · iexact H5
  iexact H6

theorem sound_body (c : Dev nD) (t : Fin cfg0.N) :
    bodyPre m c t ⊢ wp frame (wpE (defs₀ (F := Ideal)) Variants.none c none) Set.univ (bodyAt0 t) (fun _ => bodyPost m c t) := by
  by_cases h0 : t.val % 11 = 0
  · exact sound_start m c t h0
  by_cases h1 : t.val % 11 = 10
  · exact sound_end m c t h1
  · exact sound_add m c t h0 h1

theorem defs₀_row (t : Fin cfg0.N) :
    defs₀ (F := Ideal) .tc cfg0.body (cfg0.bodyArgs t (cfg0.slots t)) = bodyAt0 t := by
  unfold defs₀; rw [Defs.onTc_tc]

theorem body_obligation (c : Dev nD) : BodyObligationLoose (dats m 0 c) (defs₀ (F := Ideal)) Variants.none () Set.univ := fun t => by
  have hl : idle0 6 (grid0.coords t) = false := live t
  rw [bigSep_W0, bigSep_W0, defs₀_row]
  simp only
  rw [hl]
  exact triple_restated (sound_body m c t) rfl .rfl fun _ => .rfl

/-! ## The run -/

theorem hin (c : Dev nD) : Pipeline.ΦA spec0 c ⊢ (dats m 0 c).Φ 0 := by
  rw [show (dats m 0 c).Φ 0 = held m c 0 (Nat.zero_le _) from rfl, held_zero m c 0 _ rfl]
  try exact Idealize.SL.BI.Entails.refl _

theorem hout (c : Dev nD) : (dats m 0 c).Φ (Fin.last cfg0.N) ⊢ Pipeline.ΦA spec0 c := by
  rw [show (dats m 0 c).Φ (Fin.last cfg0.N) = held m c cfg0.N (Nat.le_refl _) from rfl, between_eq]
  exact held_any m c _ _

set_option backward.isDefEq.respectTransparency.types false in
theorem run_main_quiescent : θ_run defs (onTc (τ := τ) (main (F := Ideal))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := body_obligation m) (hshare := fun c => (dats m 0 c).share_full fun _ => rfl)
    (howed := fun _ _ => rfl) (V := V m) (hmain := hmain m Variants.none) (hA := A_eq m) (hin := hin m) (hout := hout m)

end Cert.FfnOutIdeal.Run

end
-- ==== Proof.FfnOutValue.Array.lean ====
/-
  The result array of the call that ends in the final norm, and its frame.
-/
module

public import proofs.«01_k».proof.Proof.FfnOutValue.Run
public import Idealize.ShloMosaic.Lib.Claim

@[expose] public section

set_option maxRecDepth 16384

noncomputable section

namespace Cert.FfnOutIdeal.Run

open Cert.FfnOutIdeal Cert.FfnOutIdeal.Gen Cert.FfnOutIdeal.Body Cert.FfnOutIdeal.Point
open Idealize.ShloMosaic Idealize.ShloMosaic.TcCoe Idealize.SL.Sem ValueIdx Cert.FfnSpec
open Cert.FfnIdeal.Point (row)

variable (m : (ℓ : Loc nD τ sig) → Buf (Elt Ideal) ℓ) (ρ : Dev nD → PrngReg)

/-- The result, row by row. -/
def result (c : Dev nD) : S32768x2048.Idx → EReal := fun i =>
  finalValue (inp m c) (nrm m c) (wgt m c) (wup m c) (wdn m c) (fin m c) (i 0) (i 1)

/-- The arguments it is of. -/
theorem result_eq (c : Dev nD) : result m c = fun i : S32768x2048.Idx =>
    finalValue (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5)) (i 0) (i 1) := by
  have e0 : inp m c = m ((c.tc : Thread nD τ).loc main_arg0) := V_main_arg0 m c
  have e1 : nrm m c = m ((c.tc : Thread nD τ).loc main_arg1) := V_main_arg1 m c
  have e2 : wgt m c = m ((c.tc : Thread nD τ).loc main_arg2) := V_main_arg2 m c
  have e3 : wup m c = m ((c.tc : Thread nD τ).loc main_arg3) := V_main_arg3 m c
  have e4 : wdn m c = m ((c.tc : Thread nD τ).loc main_arg4) := V_main_arg4 m c
  have e5 : fin m c = m ((c.tc : Thread nD τ).loc main_arg5) := V_main_arg5 m c
  unfold result
  rw [e0, e1, e2, e3, e4, e5]

theorem final_eq (c : Dev nD) : (dats m 0 c).arrAt 6 cfg0.N = result m c := by
  refine (dats m 0 c).arrAt_eq_of_cover 6 (result m c) (fun t hf => ?_) (fun i => ?_)
  · have ht : t.val % 11 = 10 := (flush0_6 t).mp hf
    show (cfg0.win 6).cut (grid0.coords t) ((dats m 0 c).after 6 t) = _
    rw [after_6]
    funext y
    rw [View.read_apply]
    have hi := index6 t
    have l0 : (y 0).val < 1024 := (y 0).isLt
    have l1 : (y 1).val < 2048 := (y 1).isLt
    obtain ⟨r, hr⟩ : ∃ r : Fin 1024, r.val = (y 0).val := ⟨⟨(y 0).val, l0⟩, rfl⟩
    obtain ⟨k, hk⟩ : ∃ k : Fin 2048, k.val = (y 1).val := ⟨⟨(y 1).val, l1⟩, rfl⟩
    have hy : outAt m c t.val (ix2 r k) = result m c (ix2 (row (t.val / 11) r) k) := by
      unfold outAt
      rw [if_pos ht]
      rfl
    refine Eq.trans ?_ (hy.trans ?_)
    · show outAt m c t.val _ = outAt m c t.val _
      refine congrArg (outAt m c t.val) (funext fun a => ?_)
      match a with
      | ⟨0, _⟩ => exact Fin.ext hr.symm
      | ⟨1, _⟩ => exact Fin.ext hk.symm
    · refine congrArg (result m c) (funext fun a => ?_)
      match a with
      | ⟨0, _⟩ => exact Fin.ext (by
          show (row (t.val / 11) r).val = win0_6.index t 0 * 1024 + 1 * (y 0).val
          rw [hi, row_val]; show 1024 * (t.val / 11) + r.val = t.val / 11 * 1024 + 1 * (y 0).val; omega)
      | ⟨1, _⟩ => exact Fin.ext (by
          show k.val = win0_6.index t 1 * 2048 + 1 * (y 1).val
          rw [hi]; show k.val = 0 * 2048 + 1 * (y 1).val; omega)
  · have l0 : (i 0).val < 32768 := (i 0).isLt
    have l1 : (i 1).val < 2048 := (i 1).isLt
    obtain ⟨t, ht⟩ : ∃ t : Fin cfg0.N, t.val = 11 * ((i 0).val / 1024) + 10 :=
      ⟨⟨11 * ((i 0).val / 1024) + 10, lt_of_lt_of_eq (by omega) (show 352 = cfg0.N from N_0.symm)⟩, rfl⟩
    refine ⟨t, (flush0_6 t).mpr (by omega), ?_⟩
    have hi := index6 t
    show i ∈ ((View.whole main_v0).slice (win0_6.rect t)).set
    rw [View.set_slice_whole, Rect.mem_set_unit]
    intro a
    match a with
    | ⟨0, _⟩ =>
      show win0_6.index t 0 * 1024 ≤ (i 0).val ∧ (i 0).val < win0_6.index t 0 * 1024 + 1024
      rw [hi]; show t.val / 11 * 1024 ≤ (i 0).val ∧ (i 0).val < t.val / 11 * 1024 + 1024; omega
    | ⟨1, _⟩ =>
      show win0_6.index t 1 * 2048 ≤ (i 1).val ∧ (i 1).val < win0_6.index t 1 * 2048 + 2048
      rw [hi]; show 0 * 2048 ≤ (i 1).val ∧ (i 1).val < 0 * 2048 + 2048; omega

theorem run_main : θ_run defs (onTc (τ := τ) (main (F := Ideal))) (s₀ m ρ) (Pipeline.FramePost cfgs (dats m) 0 (V m)) :=
  (θ_run defs _ _).mono (fun _ h => h.1) (run_main_quiescent m ρ)

theorem unchanged : θ_run defs (onTc (τ := τ) (main (F := Ideal))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (A_eq m) (run_main m ρ)

/-- The frame: the call ends, its arguments as they were and every semaphore at zero. -/
theorem frame : θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (unchanged m ρ) ((θ_run defs _ _).mono (fun _ h => h.2) (run_main_quiescent m ρ))

/-- The result array, and the arguments as they were. -/
theorem run_value : θ_run defs (onTc (τ := τ) (main (F := Ideal))) ⟨m, fun _ => 0, ρ⟩ (fun r => ∀ c : Dev nD,
      r.2.mem ((c.tc : Thread nD τ).loc main_v0) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨((h.2 c).1 6).trans (final_eq m c), h.1 c⟩) (θ_run_and (unchanged m ρ) (run_main m ρ))

end Cert.FfnOutIdeal.Run

end
-- ==== Proof.FfnOutValue.Ref.lean ====
/-
  The reference's result, element by element: the feed-forward of `Spec.lean`, normed.
-/
module

public import proofs.«01_k».proof.Proof.Gen.FfnOutRefIdeal.Read
public import proofs.«01_k».proof.Proof.FfnValue.Ref

@[expose] public section

noncomputable section

namespace Cert.FfnOutRefIdeal.Rows

open Cert.FfnOutRefIdeal Cert.FfnOutRefIdeal.Gen Cert.FfnOutRefIdeal.Read Idealize.ShloMosaic Idealize.ShloMosaic.TcCoe ValueIdx Cert.FfnSpec
open Cert.FfnRefIdeal.Rows (ext2)

variable (x : (⟨S32768x2048, .f32⟩ : BufTy).Contents (Elt Ideal)) (g : (⟨S1x2048, .f32⟩ : BufTy).Contents (Elt Ideal))
  (wg wu : (⟨S2048x5504, .bf16⟩ : BufTy).Contents (Elt Ideal)) (wd : (⟨S5504x2048, .bf16⟩ : BufTy).Contents (Elt Ideal))
  (fg : (⟨S1x2048, .f32⟩ : BufTy).Contents (Elt Ideal))

/-- Up to the final norm the reference is the other feed-forward's. -/
theorem before_apply (i : S32768x2048.Idx) :
    val_main_v24 (F := Ideal) x g wg wu wd i = value x g wg wu wd (i 0) (i 1) :=
  (show val_main_v24 (F := Ideal) x g wg wu wd i = FfnRefIdeal.Read.val_main_v24 (F := Ideal) x g wg wu wd i from rfl).trans
    (congrFun (FfnRefIdeal.Rows.result_eq x g wg wu wd) i)

theorem squares_apply (i : S32768.Idx) :
    val_main_v27 (F := Ideal) x g wg wu wd i = ∑ c : Fin 2048, value x g wg wu wd (i 0) c * value x g wg wu wd (i 0) c := by
  rw [val_main_v27_apply, val_main_cst_3_apply]
  refine (congrArg (· + _) (show (FloatOps.ofBits (F := Ideal) .f32 0x00000000#32 : EReal) = 0 from Ideal.ofBits_zero_f32)).trans ((zero_add _).trans ?_)
  refine Finset.sum_congr rfl fun c _ => ?_
  rw [val_main_v26_apply, before_apply]
  rfl

theorem scale_apply (i : S32768x1.Idx) :
    val_main_v33 (F := Ideal) x g wg wu wd i = rowScale (fun c => value x g wg wu wd (i 0) c) := by
  rw [val_main_v33_apply, val_main_v32_apply, val_main_v30_apply, val_main_v28_apply, squares_apply, val_main_v29_apply,
    val_main_cst_4_apply, val_main_v31_apply, val_main_cst_5_apply]
  rfl

theorem result_eq : val_main_v38 (F := Ideal) x g wg wu wd fg = fun i => finalValue x g wg wu wd fg (i 0) (i 1) := by
  funext i
  have l1 : (i 1).val < 2048 := (i 1).isLt
  have eg : idx_main_v25 (idx_main_v36 (idx_main_v37 i)) = ix2 (n0 := 1) (n1 := 2048) 0 (i 1) :=
    ext2 rfl (Nat.mod_eq_of_lt l1)
  rw [val_main_v38_apply, val_main_v35_apply, val_main_v34_apply, scale_apply, before_apply, val_main_v37_apply, val_main_v36_apply,
    val_main_v25_apply, eg]
  rfl

end Cert.FfnOutRefIdeal.Rows

end
-- ==== Proof.lean ====
/-
  The proof of `Cert.Claim`: the frames of the sliding-window attention and of the two feed-forwards, the named mask
  constants, and the values of the calls' arrays, the kernel's and the reference's.
-/
module

public import proofs.«01_k».proof.Defs
public import proofs.«01_k».proof.Proof.Gen.Swa
public import proofs.«01_k».proof.Proof.Gen.Swa.Skeleton
public import proofs.«01_k».proof.Proof.Gen.Swa.Launch
public import proofs.«01_k».proof.Proof.Gen.Swa.Points
public import proofs.«01_k».proof.Proof.Gen.Swa.Frame
public import proofs.«01_k».proof.Proof.Gen.SwaIdeal
public import proofs.«01_k».proof.Proof.Gen.SwaIdeal.Skeleton
public import proofs.«01_k».proof.Proof.Gen.SwaIdeal.Launch
public import proofs.«01_k».proof.Proof.Gen.SwaIdeal.Points
public import proofs.«01_k».proof.Proof.Gen.SwaIdeal.Frame
public import proofs.«01_k».proof.Proof.Gen.SwaIdeal.Value
public import proofs.«01_k».proof.Proof.Gen.SwaRefIdeal
public import proofs.«01_k».proof.Proof.Gen.SwaRefIdeal.Run
public import proofs.«01_k».proof.Proof.Gen.SwaRefIdeal.Read
public import proofs.«01_k».proof.Proof.Gen.Ffn
public import proofs.«01_k».proof.Proof.Gen.Ffn.Skeleton
public import proofs.«01_k».proof.Proof.Gen.Ffn.Launch
public import proofs.«01_k».proof.Proof.Gen.Ffn.Points
public import proofs.«01_k».proof.Proof.Gen.Ffn.Frame
public import proofs.«01_k».proof.Proof.Gen.FfnIdeal
public import proofs.«01_k».proof.Proof.Gen.FfnIdeal.Skeleton
public import proofs.«01_k».proof.Proof.Gen.FfnIdeal.Launch
public import proofs.«01_k».proof.Proof.Gen.FfnIdeal.Points
public import proofs.«01_k».proof.Proof.Gen.FfnIdeal.Frame
public import proofs.«01_k».proof.Proof.Gen.FfnRefIdeal
public import proofs.«01_k».proof.Proof.Gen.FfnRefIdeal.Run
public import proofs.«01_k».proof.Proof.Gen.FfnRefIdeal.Read
public import proofs.«01_k».proof.Proof.Gen.FfnOut
public import proofs.«01_k».proof.Proof.Gen.FfnOut.Skeleton
public import proofs.«01_k».proof.Proof.Gen.FfnOut.Launch
public import proofs.«01_k».proof.Proof.Gen.FfnOut.Points
public import proofs.«01_k».proof.Proof.Gen.FfnOut.Frame
public import proofs.«01_k».proof.Proof.Gen.FfnOutIdeal
public import proofs.«01_k».proof.Proof.Gen.FfnOutIdeal.Skeleton
public import proofs.«01_k».proof.Proof.Gen.FfnOutIdeal.Launch
public import proofs.«01_k».proof.Proof.Gen.FfnOutIdeal.Points
public import proofs.«01_k».proof.Proof.Gen.FfnOutIdeal.Frame
public import proofs.«01_k».proof.Proof.Gen.FfnOutRefIdeal
public import proofs.«01_k».proof.Proof.Gen.FfnOutRefIdeal.Run
public import proofs.«01_k».proof.Proof.Gen.FfnOutRefIdeal.Read
public import proofs.«01_k».proof.Proof.Swa.Final
public import proofs.«01_k».proof.Proof.Swa.Finite
public import proofs.«01_k».proof.Proof.Swa.Ref
public import proofs.«01_k».proof.Proof.Ffn.Frame
public import proofs.«01_k».proof.Proof.FfnValue.Array
public import proofs.«01_k».proof.Proof.FfnValue.Ref
public import proofs.«01_k».proof.Proof.FfnOut.Frame
public import proofs.«01_k».proof.Proof.FfnOutValue.Array
public import proofs.«01_k».proof.Proof.FfnOutValue.Ref
public import Idealize.ShloMosaic.Adequacy
public import Idealize.ShloMosaic.Init

@[expose] public section

noncomputable section

namespace Cert.Proof

open Idealize.ShloMosaic Idealize.SL.Sem Cert.Swa

theorem slopes_nonneg (h : Cert.SwaSpec.Heads.Idx) : (0 : EReal) ≤ Cert.SwaIdeal.Tile.slopes h := by
  unfold Cert.SwaIdeal.Tile.slopes
  exact Cert.SwaRow.exp_nonneg _

/-- The reference's frame: its run writes no argument, and it has no semaphore. -/
theorem swa_ref_frame (m : (ℓ : Loc Cert.SwaRefIdeal.nD Cert.SwaRefIdeal.τ Cert.SwaRefIdeal.sig) → Buf (Elt Ideal) ℓ)
    (ρ : Dev Cert.SwaRefIdeal.nD → PrngReg) :
    θ_run (Cert.SwaRefIdeal.defs (F := Ideal)) (onTc (τ := Cert.SwaRefIdeal.τ) (Cert.SwaRefIdeal.main (F := Ideal))) ⟨m, fun _ => 0, ρ⟩ (fun r => (∀ c : Dev Cert.SwaRefIdeal.nD,
      r.2.mem ((c.tc : Thread Cert.SwaRefIdeal.nD Cert.SwaRefIdeal.τ).loc Cert.SwaRefIdeal.main_arg0) = m ((c.tc : Thread Cert.SwaRefIdeal.nD Cert.SwaRefIdeal.τ).loc Cert.SwaRefIdeal.main_arg0)
      ∧ r.2.mem ((c.tc : Thread Cert.SwaRefIdeal.nD Cert.SwaRefIdeal.τ).loc Cert.SwaRefIdeal.main_arg1) = m ((c.tc : Thread Cert.SwaRefIdeal.nD Cert.SwaRefIdeal.τ).loc Cert.SwaRefIdeal.main_arg1))
      ∧ r.2.sem = fun _ => 0) :=
  (θ_run Cert.SwaRefIdeal.defs _ _).mono (fun r h => ⟨fun c => (h c).2, sem_eq_zero_of_no_sems (by decide) r.2⟩)
    (Cert.SwaRefIdeal.Value.run (F := Ideal) m ρ)

/-- The value of the attention: the kernel's array and the reference's are one. -/
theorem swa_value [hPre : Cert.Pre_finite_queries_keys_sinks.Facts] :
    algebraic_SwaIdeal_SwaRefIdeal_pre_finite_queries_keys_sinks (hSwaIdeal := Cert.SwaIdeal.Gen.facts)
      (hSwaRefIdeal := Cert.SwaRefIdeal.Gen.facts) := by
  intro m g m' g' hpre hargs
  refine ⟨fun c => Cert.SwaSpec.attn (m ((c.tc : Thread Cert.SwaIdeal.nD Cert.SwaIdeal.τ).loc Cert.SwaIdeal.main_arg0)) Cert.SwaIdeal.Tile.slopes
      (shapeCast Cert.SwaIdeal.S16 (m ((c.tc : Thread Cert.SwaIdeal.nD Cert.SwaIdeal.τ).loc Cert.SwaIdeal.main_arg1)) Cert.SwaIdeal.Facts₀.shapeCasts_S1x16_S16), ?_, ?_⟩
  · refine (θ_run Cert.SwaIdeal.defs _ _).mono (fun r h c => ⟨(h c).1.trans ?_, (h c).2⟩) (Cert.SwaIdeal.Value.run_blocks (F := Ideal) m g)
    rw [Cert.SwaIdeal.Tile.final_eq, Cert.SwaIdeal.Tile.V_main_v9, Cert.SwaIdeal.Tile.V_main_v10]
    unfold Cert.SwaIdeal.Tile.proj
    rw [Cert.SwaIdeal.Gen.V_main_arg0]
  · refine (θ_run Cert.SwaRefIdeal.defs _ _).mono (fun r h c => ⟨(h c).1.trans ?_, (h c).2⟩) (Cert.SwaRefIdeal.Value.run (F := Ideal) m' g')
    rw [Cert.SwaRefIdeal.Read.val_main_v83_eq, (hargs c).1, (hargs c).2, Cert.SwaRefIdeal.Rows.result_eq]
    refine Eq.symm (Cert.SwaSpec.attn_eq _ _ _ ?_ slopes_nonneg ?_)
    · exact Cert.SwaSpec.proj_real _ _ (hpre c).1
    · intro h
      exact Cert.SwaSpec.sinks_real _ _ (hpre c).2 _

/-- The feed-forward's reference leaves its arguments, and it has no semaphore. -/
theorem ffn_ref_frame (m : (ℓ : Loc Cert.FfnRefIdeal.nD Cert.FfnRefIdeal.τ Cert.FfnRefIdeal.sig) → Buf (Elt Ideal) ℓ)
    (ρ : Dev Cert.FfnRefIdeal.nD → PrngReg) :
    θ_run (Cert.FfnRefIdeal.defs (F := Ideal)) (onTc (τ := Cert.FfnRefIdeal.τ) (Cert.FfnRefIdeal.main (F := Ideal))) ⟨m, fun _ => 0, ρ⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5))
      ∧ r.2.sem = fun _ => 0) :=
  (θ_run Cert.FfnRefIdeal.defs _ _).mono (fun r h => ⟨fun c => (h c).2, sem_eq_zero_of_no_sems (by decide) r.2⟩)
    (Cert.FfnRefIdeal.Value.run (F := Ideal) m ρ)

/-- The value of the feed-forward: the kernel's array and the reference's are one. -/
theorem ffn_value : algebraic_FfnIdeal_FfnRefIdeal (hFfnIdeal := Cert.FfnIdeal.Gen.facts) (hFfnRefIdeal := Cert.FfnRefIdeal.Gen.facts) := by
  intro m g m' g' _ hargs
  refine ⟨fun c => Cert.FfnIdeal.Run.result m c, Cert.FfnIdeal.Run.run_value m g, ?_⟩
  refine (θ_run Cert.FfnRefIdeal.defs _ _).mono (fun r h c => ⟨(h c).1.trans ?_, (h c).2⟩) (Cert.FfnRefIdeal.Value.run (F := Ideal) m' g')
  obtain ⟨h0, h1, h2, h3, h4, -⟩ := hargs c
  rw [Cert.FfnRefIdeal.Read.val_main_v24_eq, h0, h1, h2, h3, h4, Cert.FfnRefIdeal.Rows.result_eq]
  exact (Cert.FfnIdeal.Run.result_eq m c).symm

/-- The reference of the feed-forward that ends in the final norm leaves its arguments, and it has no semaphore. -/
theorem ffn_out_ref_frame (m : (ℓ : Loc Cert.FfnOutRefIdeal.nD Cert.FfnOutRefIdeal.τ Cert.FfnOutRefIdeal.sig) → Buf (Elt Ideal) ℓ)
    (ρ : Dev Cert.FfnOutRefIdeal.nD → PrngReg) :
    θ_run (Cert.FfnOutRefIdeal.defs (F := Ideal)) (onTc (τ := Cert.FfnOutRefIdeal.τ) (Cert.FfnOutRefIdeal.main (F := Ideal))) ⟨m, fun _ => 0, ρ⟩ (fun r => (∀ c : Dev Cert.FfnOutRefIdeal.nD,
      r.2.mem ((c.tc : Thread Cert.FfnOutRefIdeal.nD Cert.FfnOutRefIdeal.τ).loc Cert.FfnOutRefIdeal.main_arg0) = m ((c.tc : Thread Cert.FfnOutRefIdeal.nD Cert.FfnOutRefIdeal.τ).loc Cert.FfnOutRefIdeal.main_arg0)
      ∧ r.2.mem ((c.tc : Thread Cert.FfnOutRefIdeal.nD Cert.FfnOutRefIdeal.τ).loc Cert.FfnOutRefIdeal.main_arg1) = m ((c.tc : Thread Cert.FfnOutRefIdeal.nD Cert.FfnOutRefIdeal.τ).loc Cert.FfnOutRefIdeal.main_arg1)
      ∧ r.2.mem ((c.tc : Thread Cert.FfnOutRefIdeal.nD Cert.FfnOutRefIdeal.τ).loc Cert.FfnOutRefIdeal.main_arg2) = m ((c.tc : Thread Cert.FfnOutRefIdeal.nD Cert.FfnOutRefIdeal.τ).loc Cert.FfnOutRefIdeal.main_arg2)
      ∧ r.2.mem ((c.tc : Thread Cert.FfnOutRefIdeal.nD Cert.FfnOutRefIdeal.τ).loc Cert.FfnOutRefIdeal.main_arg3) = m ((c.tc : Thread Cert.FfnOutRefIdeal.nD Cert.FfnOutRefIdeal.τ).loc Cert.FfnOutRefIdeal.main_arg3)
      ∧ r.2.mem ((c.tc : Thread Cert.FfnOutRefIdeal.nD Cert.FfnOutRefIdeal.τ).loc Cert.FfnOutRefIdeal.main_arg4) = m ((c.tc : Thread Cert.FfnOutRefIdeal.nD Cert.FfnOutRefIdeal.τ).loc Cert.FfnOutRefIdeal.main_arg4)
      ∧ r.2.mem ((c.tc : Thread Cert.FfnOutRefIdeal.nD Cert.FfnOutRefIdeal.τ).loc Cert.FfnOutRefIdeal.main_arg5) = m ((c.tc : Thread Cert.FfnOutRefIdeal.nD Cert.FfnOutRefIdeal.τ).loc Cert.FfnOutRefIdeal.main_arg5))
      ∧ r.2.sem = fun _ => 0) :=
  (θ_run Cert.FfnOutRefIdeal.defs _ _).mono (fun r h => ⟨fun c => (h c).2, sem_eq_zero_of_no_sems (by decide) r.2⟩)
    (Cert.FfnOutRefIdeal.Value.run (F := Ideal) m ρ)

/-- The value of the feed-forward that ends in the final norm: the kernel's array and the reference's are one. -/
theorem ffn_out_value : algebraic_FfnOutIdeal_FfnOutRefIdeal (hFfnOutIdeal := Cert.FfnOutIdeal.Gen.facts) (hFfnOutRefIdeal := Cert.FfnOutRefIdeal.Gen.facts) := by
  intro m g m' g' _ hargs
  refine ⟨fun c => Cert.FfnOutIdeal.Run.result m c, Cert.FfnOutIdeal.Run.run_value m g, ?_⟩
  refine (θ_run Cert.FfnOutRefIdeal.defs _ _).mono (fun r h c => ⟨(h c).1.trans ?_, (h c).2⟩) (Cert.FfnOutRefIdeal.Value.run (F := Ideal) m' g')
  obtain ⟨h0, h1, h2, h3, h4, h5⟩ := hargs c
  rw [Cert.FfnOutRefIdeal.Read.val_main_v38_eq, h0, h1, h2, h3, h4, h5, Cert.FfnOutRefIdeal.Rows.result_eq]
  exact (Cert.FfnOutIdeal.Run.result_eq m c).symm

theorem claim : Cert.Claim := by
  letI : Cert.Pre_finite_queries_keys_sinks.Facts := Cert.SwaSpec.preFacts
  exact ⟨Cert.Swa.Gen.facts, Cert.SwaIdeal.Gen.facts, Cert.SwaRefIdeal.Gen.facts,
    Cert.Ffn.Gen.facts, Cert.FfnIdeal.Gen.facts, Cert.FfnRefIdeal.Gen.facts,
    Cert.FfnOut.Gen.facts, Cert.FfnOutIdeal.Gen.facts, Cert.FfnOutRefIdeal.Gen.facts, Cert.SwaSpec.preFacts,
    fun m ρ _ => Cert.Swa.Gen.frame m ρ,
    fun m ρ _ => Cert.SwaIdeal.Gen.frame m ρ,
    fun m ρ _ => Cert.SwaIdeal.Gen.frame m ρ,
    fun m ρ _ => swa_ref_frame m ρ,
    fun m ρ _ => swa_ref_frame m ρ,
    fun m ρ _ => Cert.Ffn.Run.frame m ρ,
    fun m ρ _ => Cert.FfnIdeal.Run.frame m ρ,
    fun m ρ _ => ffn_ref_frame m ρ,
    fun m ρ _ => Cert.FfnOut.Run.frame m ρ,
    fun m ρ _ => Cert.FfnOutIdeal.Run.frame m ρ,
    fun m ρ _ => ffn_out_ref_frame m ρ,
    ⟨IdealRules.named_const.statement Cert.SwaIdeal.κ "masked" .f32 0x7149F2CA#32 ⊤ rfl,
      IdealRules.named_const.statement Cert.SwaIdeal.κ "mask" .f32 0xF149F2CA#32 ⊥ rfl⟩,
    swa_value,
    trivial,
    ffn_value,
    trivial,
    ffn_out_value⟩

end Cert.Proof

end
